-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19)
      ∧ r.2.mem ((c.tc : Thread Cert.Merge.nD Cert.Merge.τ).loc Cert.Merge.main_arg20) = m ((c.tc : Thread Cert.Merge.nD Cert.Merge.τ).loc Cert.Merge.main_arg20)
      ∧ r.2.mem ((c.tc : Thread Cert.Merge.nD Cert.Merge.τ).loc Cert.Merge.main_arg21) = m ((c.tc : Thread Cert.Merge.nD Cert.Merge.τ).loc Cert.Merge.main_arg21))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20)
      ∧ r.2.mem ((c.tc : Thread Cert.MergeIdeal.nD Cert.MergeIdeal.τ).loc Cert.MergeIdeal.main_arg21) = m ((c.tc : Thread Cert.MergeIdeal.nD Cert.MergeIdeal.τ).loc Cert.MergeIdeal.main_arg21))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19)
      ∧ r.2.mem ((c.tc : Thread Cert.MergeReferenceIdeal.nD Cert.MergeReferenceIdeal.τ).loc Cert.MergeReferenceIdeal.main_arg20) = m ((c.tc : Thread Cert.MergeReferenceIdeal.nD Cert.MergeReferenceIdeal.τ).loc Cert.MergeReferenceIdeal.main_arg20)
      ∧ r.2.mem ((c.tc : Thread Cert.MergeReferenceIdeal.nD Cert.MergeReferenceIdeal.τ).loc Cert.MergeReferenceIdeal.main_arg21) = m ((c.tc : Thread Cert.MergeReferenceIdeal.nD Cert.MergeReferenceIdeal.τ).loc Cert.MergeReferenceIdeal.main_arg21))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v64) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4) = v0 c
          ∧ r.2.mem ((c.tc : Thread Cert.InProjReferenceIdeal.nD Cert.InProjReferenceIdeal.τ).loc Cert.InProjReferenceIdeal.main_v9) = v1 c
          ∧ r.2.mem ((c.tc : Thread Cert.InProjReferenceIdeal.nD Cert.InProjReferenceIdeal.τ).loc Cert.InProjReferenceIdeal.main_v13) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)
      ∧ m' ((c.tc : Thread Cert.MergeReferenceIdeal.nD Cert.MergeReferenceIdeal.τ).loc Cert.MergeReferenceIdeal.main_arg19) = m ((c.tc : Thread Cert.MergeIdeal.nD Cert.MergeIdeal.τ).loc Cert.MergeIdeal.main_arg19)
      ∧ m' ((c.tc : Thread Cert.MergeReferenceIdeal.nD Cert.MergeReferenceIdeal.τ).loc Cert.MergeReferenceIdeal.main_arg20) = m ((c.tc : Thread Cert.MergeIdeal.nD Cert.MergeIdeal.τ).loc Cert.MergeIdeal.main_arg20)
      ∧ m' ((c.tc : Thread Cert.MergeReferenceIdeal.nD Cert.MergeReferenceIdeal.τ).loc Cert.MergeReferenceIdeal.main_arg21) = m ((c.tc : Thread Cert.MergeIdeal.nD Cert.MergeIdeal.τ).loc Cert.MergeIdeal.main_arg21)) →
    ∃ (v0 : (c : Dev Cert.MergeIdeal.nD) → Buf (Elt Ideal) ((c.tc : Thread Cert.MergeIdeal.nD Cert.MergeIdeal.τ).loc Cert.MergeIdeal.main_v0_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
          ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20)
          ∧ r.2.mem ((c.tc : Thread Cert.MergeIdeal.nD Cert.MergeIdeal.τ).loc Cert.MergeIdeal.main_arg21) = m ((c.tc : Thread Cert.MergeIdeal.nD Cert.MergeIdeal.τ).loc Cert.MergeIdeal.main_arg21))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v108) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18)
          ∧ r.2.mem ((c.tc : Thread Cert.MergeReferenceIdeal.nD Cert.MergeReferenceIdeal.τ).loc Cert.MergeReferenceIdeal.main_arg19) = m' ((c.tc : Thread Cert.MergeReferenceIdeal.nD Cert.MergeReferenceIdeal.τ).loc Cert.MergeReferenceIdeal.main_arg19)
          ∧ r.2.mem ((c.tc : Thread Cert.MergeReferenceIdeal.nD Cert.MergeReferenceIdeal.τ).loc Cert.MergeReferenceIdeal.main_arg20) = m' ((c.tc : Thread Cert.MergeReferenceIdeal.nD Cert.MergeReferenceIdeal.τ).loc Cert.MergeReferenceIdeal.main_arg20)
          ∧ r.2.mem ((c.tc : Thread Cert.MergeReferenceIdeal.nD Cert.MergeReferenceIdeal.τ).loc Cert.MergeReferenceIdeal.main_arg21) = m' ((c.tc : Thread Cert.MergeReferenceIdeal.nD Cert.MergeReferenceIdeal.τ).loc Cert.MergeReferenceIdeal.main_arg21))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal) (hPre_experts_in_range := hPre_experts_in_range)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
-- ==== Pre_experts_in_range.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : IVec S544 32) (main_arg1 : IVec S1 32) (main_arg2 : FVec F S139264x1024 .f32) (main_arg3 : FVec F S32x1024x2048 .bf16) (main_arg4 : FVec F S32x1x2048 .f32) (main_arg5 : FVec F S32x1024x1024 .bf16) (main_arg6 : FVec F S32x1x1024 .f32) : IVec S544 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  main_v4
-- ==== Kernel.lean ====
abbrev S32768x9216 : Shape := ⟨2, ![32768, 9216]⟩
abbrev S32x12 : Shape := ⟨2, ![32, 12]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32x4 : Shape := ⟨2, ![32, 4]⟩
abbrev S128x256x1 : Shape := ⟨3, ![128, 256, 1]⟩
abbrev S128x256x4 : Shape := ⟨3, ![128, 256, 4]⟩
abbrev S4x128x256 : Shape := ⟨3, ![4, 128, 256]⟩
abbrev S1x128x256 : Shape := ⟨3, ![1, 128, 256]⟩
abbrev S8x4096x9216 : Shape := ⟨3, ![8, 4096, 9216]⟩
abbrev S8x4096x256 : Shape := ⟨3, ![8, 4096, 256]⟩
abbrev S1x64x256 : Shape := ⟨3, ![1, 64, 256]⟩
abbrev S64x256 : Shape := ⟨2, ![64, 256]⟩
abbrev S256x256 : Shape := ⟨2, ![256, 256]⟩

abbrev nBuf : Space → Nat
  | .hbm => 75
  | .vmem => 19
  | .smem => 0
  | _ => 0

abbrev bufTy : (tb : Table) → Fin (tcTables nBuf tb) → BufTy
  | .hbm, ⟨0, _⟩ => ⟨S32768x9216, .bf16⟩
  | .hbm, ⟨1, _⟩ => ⟨S32x12, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S1x256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S32x4, .f32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S128x256, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S_, .i32⟩
  | .hbm, ⟨56, _⟩ => ⟨S128x256, .i32⟩
  | .hbm, ⟨57, _⟩ => ⟨S128x256, .i32⟩
  | .hbm, ⟨58, _⟩ => ⟨S128x256, .i32⟩
  | .hbm, ⟨59, _⟩ => ⟨S128x256x1, .i32⟩
  | .hbm, ⟨60, _⟩ => ⟨S128x256x4, .f32⟩
  | .hbm, ⟨61, _⟩ => ⟨S4x128x256, .f32⟩
  | .hbm, ⟨62, _⟩ => ⟨S128x256, .i32⟩
  | .hbm, ⟨63, _⟩ => ⟨S_, .i32⟩
  | .hbm, ⟨64, _⟩ => ⟨S128x256, .i32⟩
  | .hbm, ⟨65, _⟩ => ⟨S128x256, .i1⟩
  | .hbm, ⟨66, _⟩ => ⟨S1x128x256, .i1⟩
  | .hbm, ⟨67, _⟩ => ⟨S_, .f32⟩
  | .hbm, ⟨68, _⟩ => ⟨S_, .f32⟩
  | .hbm, ⟨69, _⟩ => ⟨S4x128x256, .i1⟩
  | .hbm, ⟨70, _⟩ => ⟨S4x128x256, .f32⟩
  | .hbm, ⟨71, _⟩ => ⟨S4x128x256, .f32⟩
  | .hbm, ⟨72, _⟩ => ⟨S8x4096x9216, .bf16⟩
  | .hbm, ⟨73, _⟩ => ⟨S8x4096x256, .f32⟩
  | .hbm, ⟨74, _⟩ => ⟨S8x4096x256, .f32⟩
  | .local _ .vmem, ⟨0, _⟩ => ⟨S1x128x256, .bf16⟩
  | .local _ .vmem, ⟨1, _⟩ => ⟨S1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S4x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_c_8 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c21_i32 : BitVec 32 := 21#32
  let c0_i32_0 : BitVec 32 := 0#32
  ![arg0.toNat, v1.toNat, c21_i32.toNat]

def cc0_transform_2 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c21_i32 : BitVec 32 := 21#32
  let c0_i32 : BitVec 32 := 0#32
  ![arg0.toNat, v1.toNat, c21_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c22_i32 : BitVec 32 := 22#32
  let c0_i32_0 : BitVec 32 := 0#32
  ![arg0.toNat, v1.toNat, c22_i32.toNat]

def cc0_transform_5 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c22_i32 : BitVec 32 := 22#32
  let c0_i32 : BitVec 32 := 0#32
  ![arg0.toNat, v1.toNat, c22_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x9216 : Shape := ⟨2, ![32768, 9216]⟩
abbrev S32x12 : Shape := ⟨2, ![32, 12]⟩
abbrev S32768x768 : Shape := ⟨2, ![32768, 768]⟩
abbrev S8x4096x3x4x64 : Shape := ⟨5, ![8, 4096, 3, 4, 64]⟩
abbrev S8x4096x1x4x64 : Shape := ⟨5, ![8, 4096, 1, 4, 64]⟩
abbrev S8x4096x4x64 : Shape := ⟨4, ![8, 4096, 4, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S32x4 : Shape := ⟨2, ![32, 4]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S1x1x4096x4096 : Shape := ⟨4, ![1, 1, 4096, 4096]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096x4 : Shape := ⟨3, ![8, 4096, 4]⟩
abbrev S8x4096x4x1 : Shape := ⟨4, ![8, 4096, 4, 1]⟩
abbrev S8x4096x256 : Shape := ⟨3, ![8, 4096, 256]⟩

abbrev nBuf : Space → Nat
  | .hbm => 104
  | .vmem => 0
  | .smem => 0
  | _ => 0

abbrev bufTy : (tb : Table) → Fin (tcTables nBuf tb) → BufTy
  | .hbm, ⟨0, _⟩ => ⟨S32768x9216, .bf16⟩
  | .hbm, ⟨1, _⟩ => ⟨S32x12, .f32⟩
  | .hbm, ⟨2, _⟩ => ⟨S32768x9216, .f32⟩
  | .hbm, ⟨3, _⟩ => ⟨S32768x768, .f32⟩
  | .hbm, ⟨4, _⟩ => ⟨S8x4096x3x4x64, .f32⟩
  | .hbm, ⟨5, _⟩ => ⟨S8x4096x1x4x64, .f32⟩
  | .hbm, ⟨6, _⟩ => ⟨S8x4096x4x64, .f32⟩
  | .hbm, ⟨7, _⟩ => ⟨S8x4096x1x4x64, .f32⟩
  | .hbm, ⟨8, _⟩ => ⟨S8x4096x4x64, .f32⟩
  | .hbm, ⟨9, _⟩ => ⟨S8x4096x1x4x64, .f32⟩
  | .hbm, ⟨10, _⟩ => ⟨S8x4096x4x64, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i1⟩
  | .hbm, ⟨42, _⟩ => ⟨S_, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .i32⟩
  | .hbm, ⟨47, _⟩ => ⟨S_, .i32⟩
  | .hbm, ⟨48, _⟩ => ⟨S4096x4096, .i32⟩
  | .hbm, ⟨49, _⟩ => ⟨S4096x4096, .i1⟩
  | .hbm, ⟨50, _⟩ => ⟨S4096x4096, .i32⟩
  | .hbm, ⟨51, _⟩ => ⟨S4096x4096, .i32⟩
  | .hbm, ⟨52, _⟩ => ⟨S4096x4096, .i32⟩
  | .hbm, ⟨53, _⟩ => ⟨S32x4, .f32⟩
  | .hbm, ⟨54, _⟩ => ⟨S_, .i32⟩
  | .hbm, ⟨55, _⟩ => ⟨S4096x4096, .i32⟩
  | .hbm, ⟨56, _⟩ => ⟨S4096x4096, .i1⟩
  | .hbm, ⟨57, _⟩ => ⟨S_, .i32⟩
  | .hbm, ⟨58, _⟩ => ⟨S4096x4096, .i32⟩
  | .hbm, ⟨59, _⟩ => ⟨S4096x4096, .i32⟩
  | .hbm, ⟨60, _⟩ => ⟨S4096x4096, .i32⟩
  | .hbm, ⟨61, _⟩ => ⟨S4096x4096x1, .i32⟩
  | .hbm, ⟨62, _⟩ => ⟨S4096x4096x4, .f32⟩
  | .hbm, ⟨63, _⟩ => ⟨S4x4096x4096, .f32⟩
  | .hbm, ⟨64, _⟩ => ⟨S8x4x4096x4096, .f32⟩
  | .hbm, ⟨65, _⟩ => ⟨S_, .f32⟩
  | .hbm, ⟨66, _⟩ => ⟨S8x4x4096x4096, .f32⟩
  | .hbm, ⟨67, _⟩ => ⟨S8x4x4096x4096, .f32⟩
  | .hbm, ⟨68, _⟩ => ⟨S1x4x4096x4096, .f32⟩
  | .hbm, ⟨69, _⟩ => ⟨S8x4x4096x4096, .f32⟩
  | .hbm, ⟨70, _⟩ => ⟨S8x4x4096x4096, .f32⟩
  | .hbm, ⟨71, _⟩ => ⟨S4096x4096, .i32⟩
  | .hbm, ⟨72, _⟩ => ⟨S_, .i32⟩
  | .hbm, ⟨73, _⟩ => ⟨S4096x4096, .i32⟩
  | .hbm, ⟨74, _⟩ => ⟨S4096x4096, .i1⟩
  | .hbm, ⟨75, _⟩ => ⟨S1x1x4096x4096, .i1⟩
  | .hbm, ⟨76, _⟩ => ⟨S_, .f32⟩
  | .hbm, ⟨77, _⟩ => ⟨S_, .f32⟩
  | .hbm, ⟨78, _⟩ => ⟨S8x4x4096x4096, .i1⟩
  | .hbm, ⟨79, _⟩ => ⟨S8x4x4096x4096, .f32⟩
  | .hbm, ⟨80, _⟩ => ⟨S8x4x4096x4096, .f32⟩
  | .hbm, ⟨81, _⟩ => ⟨S_, .f32⟩
  | .hbm, ⟨82, _⟩ => ⟨S8x4x4096, .f32⟩
  | .hbm, ⟨83, _⟩ => ⟨S8x4x4096x1, .f32⟩
  | .hbm, ⟨84, _⟩ => ⟨S8x4x4096x4096, .f32⟩
  | .hbm, ⟨85, _⟩ => ⟨S8x4x4096x4096, .f32⟩
  | .hbm, ⟨86, _⟩ => ⟨S8x4x4096x4096, .f32⟩
  | .hbm, ⟨87, _⟩ => ⟨S_, .f32⟩
  | .hbm, ⟨88, _⟩ => ⟨S8x4x4096, .f32⟩
  | .hbm, ⟨89, _⟩ => ⟨S8x4x4096x4096, .bf16⟩
  | .hbm, ⟨90, _⟩ => ⟨S8x4x4096x4096, .f32⟩
  | .hbm, ⟨91, _⟩ => ⟨S8x4x64x4096, .f32⟩
  | .hbm, ⟨92, _⟩ => ⟨S8x4096x4x64, .f32⟩
  | .hbm, ⟨93, _⟩ => ⟨S8x4096x4, .f32⟩
  | .hbm, ⟨94, _⟩ => ⟨S8x4096x4x1, .f32⟩
  | .hbm, ⟨95, _⟩ => ⟨S8x4096x4x64, .f32⟩
  | .hbm, ⟨96, _⟩ => ⟨S8x4096x4x64, .f32⟩
  | .hbm, ⟨97, _⟩ => ⟨S8x4x4096, .f32⟩
  | .hbm, ⟨98, _⟩ => ⟨S8x4x4096, .f32⟩
  | .hbm, ⟨99, _⟩ => ⟨S8x4x4096, .f32⟩
  | .hbm, ⟨100, _⟩ => ⟨S8x4096x4, .f32⟩
  | .hbm, ⟨101, _⟩ => ⟨S8x4096x256, .f32⟩
  | .hbm, ⟨102, _⟩ => ⟨S8x4096x4x64, .f32⟩
  | .hbm, ⟨103, _⟩ => ⟨S8x4096x256, .f32⟩
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_c_4 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_c_6 : Ref sig .tc := ⟨.hbm, 43, rfl⟩
abbrev main_call0_v0 : Ref sig .tc := ⟨.hbm, 44, rfl⟩
abbrev main_call0_v1 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]

def κ : String → Option EReal := fun
  | "mask" => some ⊥
  | _ => none
-- ==== Experts.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S139264x1024, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x1x2048 : Shape := ⟨3, ![544, 1, 2048]⟩
abbrev S544x1024x1024 : Shape := ⟨3, ![544, 1024, 1024]⟩
abbrev S544x1x1024 : Shape := ⟨3, ![544, 1, 1024]⟩
abbrev S544x1x1 : Shape := ⟨3, ![544, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S139264x1024, .f32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S139264x1024, .bf16⟩
  | .hbm, ⟨8, _⟩ => ⟨S139264x1024, .f32⟩
  | .hbm, ⟨9, _⟩ => ⟨S544x256x1024, .f32⟩
  | .hbm, ⟨10, _⟩ => ⟨S32x1024x2048, .f32⟩
  | .hbm, ⟨11, _⟩ => ⟨S_, .i32⟩
  | .hbm, ⟨12, _⟩ => ⟨S544, .i32⟩
  | .hbm, ⟨13, _⟩ => ⟨S544, .i1⟩
  | .hbm, ⟨14, _⟩ => ⟨S_, .i32⟩
  | .hbm, ⟨15, _⟩ => ⟨S544, .i32⟩
  | .hbm, ⟨16, _⟩ => ⟨S544, .i32⟩
  | .hbm, ⟨17, _⟩ => ⟨S544, .i32⟩
  | .hbm, ⟨18, _⟩ => ⟨S544x1, .i32⟩
  | .hbm, ⟨19, _⟩ => ⟨S544x1024x2048, .f32⟩
  | .hbm, ⟨20, _⟩ => ⟨S544x256x2048, .f32⟩
  | .hbm, ⟨21, _⟩ => ⟨S_, .i32⟩
  | .hbm, ⟨22, _⟩ => ⟨S544, .i32⟩
  | .hbm, ⟨23, _⟩ => ⟨S544, .i1⟩
  | .hbm, ⟨24, _⟩ => ⟨S_, .i32⟩
  | .hbm, ⟨25, _⟩ => ⟨S544, .i32⟩
  | .hbm, ⟨26, _⟩ => ⟨S544, .i32⟩
  | .hbm, ⟨27, _⟩ => ⟨S544, .i32⟩
  | .hbm, ⟨28, _⟩ => ⟨S544x1, .i32⟩
  | .hbm, ⟨29, _⟩ => ⟨S544x1x2048, .f32⟩
  | .hbm, ⟨30, _⟩ => ⟨S544x256x2048, .f32⟩
  | .hbm, ⟨31, _⟩ => ⟨S544x256x2048, .f32⟩
  | .hbm, ⟨32, _⟩ => ⟨S544x256x1024, .f32⟩
  | .hbm, ⟨33, _⟩ => ⟨S_, .f32⟩
  | .hbm, ⟨34, _⟩ => ⟨S544x256x1024, .f32⟩
  | .hbm, ⟨35, _⟩ => ⟨S544x256x1024, .f32⟩
  | .hbm, ⟨36, _⟩ => ⟨S544x256x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S544x256x1024, .f32⟩
  | .hbm, ⟨41, _⟩ => ⟨S544x256x1024, .f32⟩
  | .hbm, ⟨42, _⟩ => ⟨S_, .f32⟩
  | .hbm, ⟨43, _⟩ => ⟨S544x256x1024, .f32⟩
  | .hbm, ⟨44, _⟩ => ⟨S544x256x1024, .f32⟩
  | .hbm, ⟨45, _⟩ => ⟨S_, .f32⟩
  | .hbm, ⟨46, _⟩ => ⟨S544x256x1024, .f32⟩
  | .hbm, ⟨47, _⟩ => ⟨S544x256x1024, .f32⟩
  | .hbm, ⟨48, _⟩ => ⟨S544x256x1024, .f32⟩
  | .hbm, ⟨49, _⟩ => ⟨S544x256x1024, .f32⟩
  | .hbm, ⟨50, _⟩ => ⟨S_, .f32⟩
  | .hbm, ⟨51, _⟩ => ⟨S544x256x1024, .f32⟩
  | .hbm, ⟨52, _⟩ => ⟨S544x256x1024, .f32⟩
  | .hbm, ⟨53, _⟩ => ⟨S_, .f32⟩
  | .hbm, ⟨54, _⟩ => ⟨S544x256x1024, .f32⟩
  | .hbm, ⟨55, _⟩ => ⟨S544x256x1024, .f32⟩
  | .hbm, ⟨56, _⟩ => ⟨S544x256x1024, .f32⟩
  | .hbm, ⟨57, _⟩ => ⟨S_, .f32⟩
  | .hbm, ⟨58, _⟩ => ⟨S544x256x1024, .f32⟩
  | .hbm, ⟨59, _⟩ => ⟨S544x256x1024, .f32⟩
  | .hbm, ⟨60, _⟩ => ⟨S544x256x1024, .f32⟩
  | .hbm, ⟨61, _⟩ => ⟨S544x256x1024, .bf16⟩
  | .hbm, ⟨62, _⟩ => ⟨S544x256x1024, .f32⟩
  | .hbm, ⟨63, _⟩ => ⟨S32x1024x1024, .f32⟩
  | .hbm, ⟨64, _⟩ => ⟨S_, .i32⟩
  | .hbm, ⟨65, _⟩ => ⟨S544, .i32⟩
  | .hbm, ⟨66, _⟩ => ⟨S544, .i1⟩
  | .hbm, ⟨67, _⟩ => ⟨S_, .i32⟩
  | .hbm, ⟨68, _⟩ => ⟨S544, .i32⟩
  | .hbm, ⟨69, _⟩ => ⟨S544, .i32⟩
  | .hbm, ⟨70, _⟩ => ⟨S544, .i32⟩
  | .hbm, ⟨71, _⟩ => ⟨S544x1, .i32⟩
  | .hbm, ⟨72, _⟩ => ⟨S544x1024x1024, .f32⟩
  | .hbm, ⟨73, _⟩ => ⟨S544x256x1024, .f32⟩
  | .hbm, ⟨74, _⟩ => ⟨S_, .i32⟩
  | .hbm, ⟨75, _⟩ => ⟨S544, .i32⟩
  | .hbm, ⟨76, _⟩ => ⟨S544, .i1⟩
  | .hbm, ⟨77, _⟩ => ⟨S_, .i32⟩
  | .hbm, ⟨78, _⟩ => ⟨S544, .i32⟩
  | .hbm, ⟨79, _⟩ => ⟨S544, .i32⟩
  | .hbm, ⟨80, _⟩ => ⟨S544, .i32⟩
  | .hbm, ⟨81, _⟩ => ⟨S544x1, .i32⟩
  | .hbm, ⟨82, _⟩ => ⟨S544x1x1024, .f32⟩
  | .hbm, ⟨83, _⟩ => ⟨S544x256x1024, .f32⟩
  | .hbm, ⟨84, _⟩ => ⟨S544x256x1024, .f32⟩
  | .hbm, ⟨85, _⟩ => ⟨S544, .i32⟩
  | .hbm, ⟨86, _⟩ => ⟨S_, .i32⟩
  | .hbm, ⟨87, _⟩ => ⟨S544, .i32⟩
  | .hbm, ⟨88, _⟩ => ⟨S544, .i1⟩
  | .hbm, ⟨89, _⟩ => ⟨S544x1x1, .i1⟩
  | .hbm, ⟨90, _⟩ => ⟨S_, .f32⟩
  | .hbm, ⟨91, _⟩ => ⟨S_, .f32⟩
  | .hbm, ⟨92, _⟩ => ⟨S544x256x1024, .i1⟩
  | .hbm, ⟨93, _⟩ => ⟨S544x256x1024, .f32⟩
  | .hbm, ⟨94, _⟩ => ⟨S544x256x1024, .f32⟩
  | .hbm, ⟨95, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== InProj.lean ====
abbrev S32768x1024 : Shape := ⟨2, ![32768, 1024]⟩
abbrev S1024x9216 : Shape := ⟨2, ![1024, 9216]⟩
abbrev S768x1024 : Shape := ⟨2, ![768, 1024]⟩
abbrev S1024x1536 : Shape := ⟨2, ![1024, 1536]⟩
abbrev S32768x9216 : Shape := ⟨2, ![32768, 9216]⟩
abbrev S768x32768 : Shape := ⟨2, ![768, 32768]⟩
abbrev S12x32768x128 : Shape := ⟨3, ![12, 32768, 128]⟩
abbrev S512x1024 : Shape := ⟨2, ![512, 1024]⟩
abbrev S512x1536 : Shape := ⟨2, ![512, 1536]⟩
abbrev S768x512 : Shape := ⟨2, ![768, 512]⟩
abbrev S12x512x128 : Shape := ⟨3, ![12, 512, 128]⟩
abbrev S512x128 : Shape := ⟨2, ![512, 128]⟩
abbrev S1x512x128 : Shape := ⟨3, ![1, 512, 128]⟩

abbrev nBuf : Space → Nat
  | .hbm => 7
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024x9216, .bf16⟩
  | .hbm, ⟨2, _⟩ => ⟨S768x1024, .bf16⟩
  | .hbm, ⟨3, _⟩ => ⟨S1024x1536, .bf16⟩
  | .hbm, ⟨4, _⟩ => ⟨S32768x9216, .bf16⟩
  | .hbm, ⟨5, _⟩ => ⟨S768x32768, .bf16⟩
  | .hbm, ⟨6, _⟩ => ⟨S12x32768x128, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x1536, .bf16⟩
  | .local _ .vmem, ⟨4, _⟩ => ⟨S768x1024, .bf16⟩
  | .local _ .vmem, ⟨5, _⟩ => ⟨S1024x1536, .bf16⟩
  | .local _ .vmem, ⟨6, _⟩ => ⟨S512x1536, .bf16⟩
  | .local _ .vmem, ⟨7, _⟩ => ⟨S512x1536, .bf16⟩
  | .local _ .vmem, ⟨8, _⟩ => ⟨S768x512, .bf16⟩
  | .local _ .vmem, ⟨9, _⟩ => ⟨S768x512, .bf16⟩
  | .local _ .vmem, ⟨10, _⟩ => ⟨S12x512x128, .f32⟩
  | .local _ .vmem, ⟨11, _⟩ => ⟨S12x512x128, .f32⟩
  | .local _ .vmem, ⟨12, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S12x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InProjReferenceIdeal.lean ====
abbrev S32768x1024 : Shape := ⟨2, ![32768, 1024]⟩
abbrev S1024x9216 : Shape := ⟨2, ![1024, 9216]⟩
abbrev S768x1024 : Shape := ⟨2, ![768, 1024]⟩
abbrev S1024x1536 : Shape := ⟨2, ![1024, 1536]⟩
abbrev S32768x9216 : Shape := ⟨2, ![32768, 9216]⟩
abbrev S1024x768 : Shape := ⟨2, ![1024, 768]⟩
abbrev S32768x768 : Shape := ⟨2, ![32768, 768]⟩
abbrev S768x32768 : Shape := ⟨2, ![768, 32768]⟩
abbrev S32768x1536 : Shape := ⟨2, ![32768, 1536]⟩
abbrev S32768x12x128 : Shape := ⟨3, ![32768, 12, 128]⟩
abbrev S12x32768x128 : Shape := ⟨3, ![12, 32768, 128]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x9216, .bf16⟩
  | .hbm, ⟨2, _⟩ => ⟨S768x1024, .bf16⟩
  | .hbm, ⟨3, _⟩ => ⟨S1024x1536, .bf16⟩
  | .hbm, ⟨4, _⟩ => ⟨S32768x1024, .bf16⟩
  | .hbm, ⟨5, _⟩ => ⟨S32768x1024, .f32⟩
  | .hbm, ⟨6, _⟩ => ⟨S1024x9216, .f32⟩
  | .hbm, ⟨7, _⟩ => ⟨S32768x9216, .f32⟩
  | .hbm, ⟨8, _⟩ => ⟨S32768x9216, .bf16⟩
  | .hbm, ⟨9, _⟩ => ⟨S768x1024, .f32⟩
  | .hbm, ⟨10, _⟩ => ⟨S1024x768, .f32⟩
  | .hbm, ⟨11, _⟩ => ⟨S32768x768, .f32⟩
  | .hbm, ⟨12, _⟩ => ⟨S768x32768, .f32⟩
  | .hbm, ⟨13, _⟩ => ⟨S768x32768, .bf16⟩
  | .hbm, ⟨14, _⟩ => ⟨S1024x1536, .f32⟩
  | .hbm, ⟨15, _⟩ => ⟨S32768x1536, .f32⟩
  | .hbm, ⟨16, _⟩ => ⟨S32768x12x128, .f32⟩
  | .hbm, ⟨17, _⟩ => ⟨S12x32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Merge.lean ====
abbrev S32768x1024 : Shape := ⟨2, ![32768, 1024]⟩
abbrev S32768x256 : Shape := ⟨2, ![32768, 256]⟩
abbrev S2x32768x128 : Shape := ⟨3, ![2, 32768, 128]⟩
abbrev S768x32768 : Shape := ⟨2, ![768, 32768]⟩
abbrev S32768x768 : Shape := ⟨2, ![32768, 768]⟩
abbrev S32768x9216 : Shape := ⟨2, ![32768, 9216]⟩
abbrev S768x768 : Shape := ⟨2, ![768, 768]⟩
abbrev S768x1 : Shape := ⟨2, ![768, 1]⟩
abbrev S768x1024 : Shape := ⟨2, ![768, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S32768x128 : Shape := ⟨2, ![32768, 128]⟩
abbrev S8x128 : Shape := ⟨2, ![8, 128]⟩
abbrev S256x1024 : Shape := ⟨2, ![256, 1024]⟩
abbrev S256x256 : Shape := ⟨2, ![256, 256]⟩
abbrev S2x256x128 : Shape := ⟨3, ![2, 256, 128]⟩
abbrev S768x256 : Shape := ⟨2, ![768, 256]⟩
abbrev S256x768 : Shape := ⟨2, ![256, 768]⟩
abbrev S256x4096 : Shape := ⟨2, ![256, 4096]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128 : Shape := ⟨1, ![128]⟩

abbrev nBuf : Space → Nat
  | .hbm => 25
  | .vmem => 39
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S2x32768x128, .f32⟩
  | .hbm, ⟨3, _⟩ => ⟨S2x32768x128, .f32⟩
  | .hbm, ⟨4, _⟩ => ⟨S32768x256, .f32⟩
  | .hbm, ⟨5, _⟩ => ⟨S2x32768x128, .f32⟩
  | .hbm, ⟨6, _⟩ => ⟨S2x32768x128, .f32⟩
  | .hbm, ⟨7, _⟩ => ⟨S768x32768, .bf16⟩
  | .hbm, ⟨8, _⟩ => ⟨S32768x768, .bf16⟩
  | .hbm, ⟨9, _⟩ => ⟨S32768x1024, .bf16⟩
  | .hbm, ⟨10, _⟩ => ⟨S32768x9216, .bf16⟩
  | .hbm, ⟨11, _⟩ => ⟨S768x768, .bf16⟩
  | .hbm, ⟨12, _⟩ => ⟨S768x1, .f32⟩
  | .hbm, ⟨13, _⟩ => ⟨S768x1024, .bf16⟩
  | .hbm, ⟨14, _⟩ => ⟨S768x1024, .bf16⟩
  | .hbm, ⟨15, _⟩ => ⟨S768x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x128, .f32⟩
  | .hbm, ⟨21, _⟩ => ⟨S1x128, .f32⟩
  | .hbm, ⟨22, _⟩ => ⟨S32768x1024, .f32⟩
  | .hbm, ⟨23, _⟩ => ⟨S32768x128, .f32⟩
  | .hbm, ⟨24, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S2x256x128, .f32⟩
  | .local _ .vmem, ⟨5, _⟩ => ⟨S2x256x128, .f32⟩
  | .local _ .vmem, ⟨6, _⟩ => ⟨S2x256x128, .f32⟩
  | .local _ .vmem, ⟨7, _⟩ => ⟨S2x256x128, .f32⟩
  | .local _ .vmem, ⟨8, _⟩ => ⟨S256x256, .f32⟩
  | .local _ .vmem, ⟨9, _⟩ => ⟨S256x256, .f32⟩
  | .local _ .vmem, ⟨10, _⟩ => ⟨S2x256x128, .f32⟩
  | .local _ .vmem, ⟨11, _⟩ => ⟨S2x256x128, .f32⟩
  | .local _ .vmem, ⟨12, _⟩ => ⟨S2x256x128, .f32⟩
  | .local _ .vmem, ⟨13, _⟩ => ⟨S2x256x128, .f32⟩
  | .local _ .vmem, ⟨14, _⟩ => ⟨S768x256, .bf16⟩
  | .local _ .vmem, ⟨15, _⟩ => ⟨S768x256, .bf16⟩
  | .local _ .vmem, ⟨16, _⟩ => ⟨S256x768, .bf16⟩
  | .local _ .vmem, ⟨17, _⟩ => ⟨S256x768, .bf16⟩
  | .local _ .vmem, ⟨18, _⟩ => ⟨S256x1024, .bf16⟩
  | .local _ .vmem, ⟨19, _⟩ => ⟨S256x1024, .bf16⟩
  | .local _ .vmem, ⟨20, _⟩ => ⟨S256x4096, .bf16⟩
  | .local _ .vmem, ⟨21, _⟩ => ⟨S256x4096, .bf16⟩
  | .local _ .vmem, ⟨22, _⟩ => ⟨S768x768, .bf16⟩
  | .local _ .vmem, ⟨23, _⟩ => ⟨S768x1, .f32⟩
  | .local _ .vmem, ⟨24, _⟩ => ⟨S768x1024, .bf16⟩
  | .local _ .vmem, ⟨25, _⟩ => ⟨S768x1024, .bf16⟩
  | .local _ .vmem, ⟨26, _⟩ => ⟨S768x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1x1024, .f32⟩
  | .local _ .vmem, ⟨30, _⟩ => ⟨S1x1024, .f32⟩
  | .local _ .vmem, ⟨31, _⟩ => ⟨S1024x128, .f32⟩
  | .local _ .vmem, ⟨32, _⟩ => ⟨S1x128, .f32⟩
  | .local _ .vmem, ⟨33, _⟩ => ⟨S256x1024, .f32⟩
  | .local _ .vmem, ⟨34, _⟩ => ⟨S256x1024, .f32⟩
  | .local _ .vmem, ⟨35, _⟩ => ⟨S256x128, .f32⟩
  | .local _ .vmem, ⟨36, _⟩ => ⟨S256x128, .f32⟩
  | .local _ .vmem, ⟨37, _⟩ => ⟨S8x128, .f32⟩
  | .local _ .vmem, ⟨38, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v0_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S768x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MergeReferenceIdeal.lean ====
abbrev S32768x1024 : Shape := ⟨2, ![32768, 1024]⟩
abbrev S32768x256 : Shape := ⟨2, ![32768, 256]⟩
abbrev S2x32768x128 : Shape := ⟨3, ![2, 32768, 128]⟩
abbrev S768x32768 : Shape := ⟨2, ![768, 32768]⟩
abbrev S32768x768 : Shape := ⟨2, ![32768, 768]⟩
abbrev S32768x9216 : Shape := ⟨2, ![32768, 9216]⟩
abbrev S768x768 : Shape := ⟨2, ![768, 768]⟩
abbrev S768x1 : Shape := ⟨2, ![768, 1]⟩
abbrev S768x1024 : Shape := ⟨2, ![768, 1024]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S32768x2x128 : Shape := ⟨3, ![32768, 2, 128]⟩
abbrev S768 : Shape := ⟨1, ![768]⟩
abbrev S1x768 : Shape := ⟨2, ![1, 768]⟩
abbrev S_ : Shape := ⟨0, ![]⟩
abbrev S32768x4096 : Shape := ⟨2, ![32768, 4096]⟩
abbrev S32768 : Shape := ⟨1, ![32768]⟩
abbrev S32768x1 : Shape := ⟨2, ![32768, 1]⟩

abbrev nBuf : Space → Nat
  | .hbm => 141
  | .vmem => 0
  | .smem => 0
  | _ => 0

abbrev hbmTy0_0 (i : Nat) : BufTy := match i % 128 with
  | 0 => ⟨S32768x1024, .f32⟩
  | 1 => ⟨S32768x256, .f32⟩
  | 2 => ⟨S2x32768x128, .f32⟩
  | 3 => ⟨S2x32768x128, .f32⟩
  | 4 => ⟨S32768x256, .f32⟩
  | 5 => ⟨S2x32768x128, .f32⟩
  | 6 => ⟨S2x32768x128, .f32⟩
  | 7 => ⟨S768x32768, .bf16⟩
  | 8 => ⟨S32768x768, .bf16⟩
  | 9 => ⟨S32768x1024, .bf16⟩
  | 10 => ⟨S32768x9216, .bf16⟩
  | 11 => ⟨S768x768, .bf16⟩
  | 12 => ⟨S768x1, .f32⟩
  | 13 => ⟨S768x1024, .bf16⟩
  | 14 => ⟨S768x1024, .bf16⟩
  | 15 => ⟨S768x1024, .bf16⟩
  | 16 => ⟨S1024x1024, .bf16⟩
  | 17 => ⟨S1024x1024, .bf16⟩
  | 18 => ⟨S1x1024, .f32⟩
  | 19 => ⟨S1x1024, .f32⟩
  | 20 => ⟨S1024x128, .f32⟩
  | 21 => ⟨S1x128, .f32⟩
  | 22 => ⟨S32768x2x128, .f32⟩
  | 23 => ⟨S32768x256, .f32⟩
  | 24 => ⟨S32768x2x128, .f32⟩
  | 25 => ⟨S32768x256, .f32⟩
  | 26 => ⟨S32768x2x128, .f32⟩
  | 27 => ⟨S32768x256, .f32⟩
  | 28 => ⟨S32768x2x128, .f32⟩
  | 29 => ⟨S32768x256, .f32⟩
  | 30 => ⟨S32768x256, .f32⟩
  | 31 => ⟨S32768x256, .f32⟩
  | 32 => ⟨S32768x256, .f32⟩
  | 33 => ⟨S32768x256, .f32⟩
  | 34 => ⟨S32768x256, .f32⟩
  | 35 => ⟨S32768x256, .f32⟩
  | 36 => ⟨S32768x256, .f32⟩
  | 37 => ⟨S32768x256, .f32⟩
  | 38 => ⟨S32768x256, .f32⟩
  | 39 => ⟨S32768x256, .f32⟩
  | 40 => ⟨S32768x256, .f32⟩
  | 41 => ⟨S32768x256, .f32⟩
  | 42 => ⟨S32768x256, .f32⟩
  | 43 => ⟨S32768x256, .f32⟩
  | 44 => ⟨S32768x256, .f32⟩
  | 45 => ⟨S32768x256, .f32⟩
  | 46 => ⟨S32768x256, .f32⟩
  | 47 => ⟨S32768x256, .f32⟩
  | 48 => ⟨S32768x256, .f32⟩
  | 49 => ⟨S32768x256, .f32⟩
  | 50 => ⟨S32768x256, .f32⟩
  | 51 => ⟨S32768x256, .f32⟩
  | 52 => ⟨S32768x768, .f32⟩
  | 53 => ⟨S32768x768, .bf16⟩
  | 54 => ⟨S768x32768, .f32⟩
  | 55 => ⟨S32768x768, .f32⟩
  | 56 => ⟨S768x768, .f32⟩
  | 57 => ⟨S768x768, .f32⟩
  | 58 => ⟨S32768x768, .f32⟩
  | 59 => ⟨S768, .f32⟩
  | 60 => ⟨S1x768, .f32⟩
  | 61 => ⟨S32768x768, .f32⟩
  | 62 => ⟨S32768x768, .f32⟩
  | 63 => ⟨S32768x768, .f32⟩
  | 64 => ⟨S32768x768, .f32⟩
  | 65 => ⟨S_, .f32⟩
  | 66 => ⟨S32768x768, .f32⟩
  | 67 => ⟨S32768x768, .f32⟩
  | 68 => ⟨S_, .f32⟩
  | 69 => ⟨S32768x768, .f32⟩
  | 70 => ⟨S32768x768, .f32⟩
  | 71 => ⟨S32768x768, .f32⟩
  | 72 => ⟨S32768x768, .bf16⟩
  | 73 => ⟨S32768x4096, .bf16⟩
  | 74 => ⟨S32768x4096, .f32⟩
  | 75 => ⟨S32768x4096, .f32⟩
  | 76 => ⟨S32768x4096, .f32⟩
  | 77 => ⟨S_, .f32⟩
  | 78 => ⟨S32768x4096, .f32⟩
  | 79 => ⟨S32768x4096, .f32⟩
  | 80 => ⟨S_, .f32⟩
  | 81 => ⟨S32768x4096, .f32⟩
  | 82 => ⟨S32768x4096, .f32⟩
  | 83 => ⟨S32768x1024, .f32⟩
  | 84 => ⟨S32768x768, .f32⟩
  | 85 => ⟨S768x1024, .f32⟩
  | 86 => ⟨S32768x1024, .f32⟩
  | 87 => ⟨S32768x1024, .f32⟩
  | 88 => ⟨S32768x1024, .f32⟩
  | 89 => ⟨S32768x768, .f32⟩
  | 90 => ⟨S768x1024, .f32⟩
  | 91 => ⟨S32768x1024, .f32⟩
  | 92 => ⟨S32768x1024, .f32⟩
  | 93 => ⟨S32768x1024, .f32⟩
  | 94 => ⟨S32768x1024, .f32⟩
  | 95 => ⟨S32768x768, .f32⟩
  | 96 => ⟨S768x1024, .f32⟩
  | 97 => ⟨S32768x1024, .f32⟩
  | 98 => ⟨S32768x1024, .f32⟩
  | 99 => ⟨S32768x1024, .f32⟩
  | 100 => ⟨S32768x1024, .f32⟩
  | 101 => ⟨S32768x1024, .f32⟩
  | 102 => ⟨S1024x1024, .f32⟩
  | 103 => ⟨S32768x1024, .f32⟩
  | 104 => ⟨S32768x1024, .f32⟩
  | 105 => ⟨S32768x1024, .f32⟩
  | 106 => ⟨S_, .f32⟩
  | 107 => ⟨S32768x1024, .f32⟩
  | 108 => ⟨S32768x1024, .f32⟩
  | 109 => ⟨S32768x1024, .bf16⟩
  | 110 => ⟨S32768x1024, .f32⟩
  | 111 => ⟨S1024x1024, .f32⟩
  | 112 => ⟨S32768x1024, .f32⟩
  | 113 => ⟨S32768x1024, .f32⟩
  | 114 => ⟨S_, .f32⟩
  | 115 => ⟨S32768, .f32⟩
  | 116 => ⟨S32768x1, .f32⟩
  | 117 => ⟨S_, .f32⟩
  | 118 => ⟨S32768x1, .f32⟩
  | 119 => ⟨S32768x1, .f32⟩
  | 120 => ⟨S32768x1024, .f32⟩
  | 121 => ⟨S32768x1024, .f32⟩
  | 122 => ⟨S32768x1024, .f32⟩
  | 123 => ⟨S_, .f32⟩
  | 124 => ⟨S32768, .f32⟩
  | 125 => ⟨S32768x1, .f32⟩
  | 126 => ⟨S_, .f32⟩
  | 127 => ⟨S32768x1, .f32⟩
  | _ => ⟨S32768x1024, .f32⟩

abbrev hbmTy0_1 (i : Nat) : BufTy := match i % 128 with
  | 0 => ⟨S32768x1, .f32⟩
  | 1 => ⟨S32768x1024, .f32⟩
  | 2 => ⟨S32768x1024, .f32⟩
  | 3 => ⟨S_, .f32⟩
  | 4 => ⟨S32768x1, .f32⟩
  | 5 => ⟨S32768x1, .f32⟩
  | 6 => ⟨S32768x1, .f32⟩
  | 7 => ⟨S32768x1024, .f32⟩
  | 8 => ⟨S32768x1024, .f32⟩
  | 9 => ⟨S32768x1024, .f32⟩
  | 10 => ⟨S32768x1024, .f32⟩
  | 11 => ⟨S32768x1024, .f32⟩
  | 12 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_cst_0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_1 : Ref sig .tc := ⟨.hbm, 77, rfl⟩
abbrev main_v53 : Ref sig .tc := ⟨.hbm, 78, rfl⟩
abbrev main_v54 : Ref sig .tc := ⟨.hbm, 79, rfl⟩
abbrev main_cst_2 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_3 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_4 : Ref sig .tc := ⟨.hbm, 114, rfl⟩
abbrev main_v87 : Ref sig .tc := ⟨.hbm, 115, rfl⟩
abbrev main_v88 : Ref sig .tc := ⟨.hbm, 116, rfl⟩
abbrev main_cst_5 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_6 : Ref sig .tc := ⟨.hbm, 123, rfl⟩
abbrev main_v94 : Ref sig .tc := ⟨.hbm, 124, rfl⟩
abbrev main_v95 : Ref sig .tc := ⟨.hbm, 125, rfl⟩
abbrev main_cst_7 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_8 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Proof.Base.lean ====
/- Facts of extended reals and 32-bit words that the window attention's proof uses. -/
module

public import Idealize.ShloMosaic.Lib.Pointwise
public import Idealize.ShloMosaic.Lib.Pipeline.ValueKit

@[expose] public section

noncomputable section

open Idealize.ShloMosaic
open scoped BigOperators

namespace Cert.Base

theorem ninf : Ideal.ofBits .f32 0xFF800000#32 = (⊥ : EReal) := by simp [Ideal.ofBits, Ideal.ieee]

theorem eighth32 : Ideal.ofBits .f32 0x3E000000#32 = (((1 / 8 : ℝ) : ℝ) : EReal) := by
  simp [Ideal.ofBits, Ideal.ieee, -EReal.coe_mul]; norm_num

theorem eighth16 : Ideal.ofBits .bf16 0x3E00#16 = (((1 / 8 : ℝ) : ℝ) : EReal) := by
  simp [Ideal.ofBits, Ideal.ieee, -EReal.coe_mul]; norm_num

/-- A nonnegative real factor comes out of a sum of extended reals. -/
theorem sum_mul_coe {ι : Type} (s : Finset ι) (f : ι → EReal) (a : ℝ) (ha : 0 ≤ a) :
    (∑ x ∈ s, f x * (a : EReal)) = (∑ x ∈ s, f x) * (a : EReal) := by
  classical
  induction s using Finset.induction_on with
  | empty => simp
  | insert x s hx ih =>
    rw [Finset.sum_insert hx, Finset.sum_insert hx, ih, EReal.right_distrib_of_nonneg_of_ne_top (by exact_mod_cast ha) (EReal.coe_ne_top a)]

/-- Two families related by a matching of indices, and zero off it, have the same sum. -/
theorem sum_match {α β : Type} [Fintype α] [Fintype β] (R : α → β → Prop) (f : α → EReal) (g : β → EReal)
    (hu : ∀ a b b', R a b → R a b' → b = b') (hv : ∀ a a' b, R a b → R a' b → a = a')
    (hfg : ∀ a b, R a b → f a = g b)
    (hf : ∀ a, (∃ b, R a b) ∨ f a = 0) (hg : ∀ b, (∃ a, R a b) ∨ g b = 0) :
    ∑ a, f a = ∑ b, g b := by
  classical
  have hR : ∀ a, f a ≠ 0 → ∃ b, R a b := fun a h => (hf a).resolve_right h
  refine Finset.sum_bij_ne_zero (fun a _ h => (hR a h).choose) (fun _ _ _ => Finset.mem_univ _) ?_ ?_ ?_
  · intro a _ h a' _ h' e
    exact hv a a' _ (hR a h).choose_spec (e ▸ (hR a' h').choose_spec)
  · intro b _ h
    obtain ⟨a, ha⟩ := (hg b).resolve_right h
    have h0 : f a ≠ 0 := by rw [hfg a b ha]; exact h
    exact ⟨a, Finset.mem_univ _, h0, hu a _ _ (hR a h0).choose_spec ha⟩
  · intro a _ h
    exact hfg a _ (hR a h).choose_spec

theorem fold_max_le {α : Type} [Fintype α] (f : α → EReal) (m : EReal) :
    (Finset.univ.fold max ⊥ f) ≤ m ↔ ∀ a, f a ≤ m := by
  rw [Finset.fold_max_le]; simp

/-- Two families related by a matching of indices, and `⊥` off it, have the same largest value. -/
theorem max_match {α β : Type} [Fintype α] [Fintype β] (R : α → β → Prop) (f : α → EReal) (g : β → EReal)
    (hfg : ∀ a b, R a b → f a = g b)
    (hf : ∀ a, (∃ b, R a b) ∨ f a = ⊥) (hg : ∀ b, (∃ a, R a b) ∨ g b = ⊥) :
    Finset.univ.fold max ⊥ f = Finset.univ.fold max ⊥ g := by
  refine le_antisymm ((fold_max_le f _).2 fun a => ?_) ((fold_max_le g _).2 fun b => ?_)
  · rcases hf a with ⟨b, h⟩ | h
    · rw [hfg a b h]; exact (fold_max_le g _).1 le_rfl b
    · rw [h]; exact bot_le
  · rcases hg b with ⟨a, h⟩ | h
    · rw [← hfg a b h]; exact (fold_max_le f _).1 le_rfl a
    · rw [h]; exact bot_le

/-- The exponential of a masked score is zero, whatever is subtracted. -/
theorem exp_mask (m : EReal) : Ideal.exp (⊥ - m) = 0 := by
  rw [sub_eq_add_neg, EReal.bot_add, Ideal.exp_bot]

theorem select_true {α : Type} {c : BitVec 1} (h : c = 1#1) (x y : α) : Scalar.select c x y = x := by
  subst h; rfl

theorem select_false {α : Type} {c : BitVec 1} (h : c = 0#1) (x y : α) : Scalar.select c x y = y := by
  subst h; rfl

/-- The bucket of a relative position, before the wrap of a negative table index. -/
def bk1 (w : BitVec 32) : BitVec 32 :=
  IntOp.addi (Scalar.select (IntOp.cmpi .sgt w 0#32) 16#32 0#32)
    (Scalar.select (IntOp.cmpi .slt (IntOp.absi w) 8#32) (IntOp.absi w)
      (IntOp.minsi (IntOp.addi 8#32 (FloatOps.fptosi (F := Ideal) (φ := .f32) 32
        (Ideal.div (Ideal.log (Ideal.div (FloatOps.sitofp (F := Ideal) FTy.f32 (IntOp.maxsi (IntOp.absi w) 1#32)) (Ideal.ofBits .f32 1090519040#32)))
          (Ideal.ofBits .f32 1083917269#32) * Ideal.ofBits .f32 1090519040#32 : EReal))) 15#32))

/-- The row of the bias table that a relative position reads. -/
def bk (w : BitVec 32) : BitVec 32 :=
  Scalar.select (IntOp.cmpi .slt (bk1 w) 0#32) (IntOp.addi (bk1 w) 32#32) (bk1 w)

/-- The rows of a table gathered at a plane of row numbers: row `idx`, clamped into the table, of column `h`. -/
theorem gather_tab {A B : Nat} (wf : GatherDims.WF ⟨2, ![32, 4]⟩ ⟨3, ![A, B, 1]⟩ ⟨3, ![A, B, 4]⟩ [2] [0] [] [0] [] 2 ![1, 4])
    (x : (⟨2, ![32, 4]⟩ : Shape).Idx → EReal) (idx : IVec ⟨3, ![A, B, 1]⟩ 32) (a : Fin A) (b : Fin B) (h : Fin 4) :
    Host.gather (⟨[2], [0], [], [], [0], 2, ![1, 4], wf⟩ : GatherDims ⟨2, ![32, 4]⟩ ⟨3, ![A, B, 1]⟩ ⟨3, ![A, B, 4]⟩) x idx (ix3 a b h)
      = x (ix2 ⟨min (idx (ix3 a b 0)).toInt.toNat 31, by omega⟩ h) := by
  unfold Host.gather
  congr 1
  funext t
  refine Fin.ext ?_
  fin_cases t
  · unfold GatherDims.operandIdx
    simp only []
    rw [GatherDims.batchCoord_eq_zero _ _ _ (by simp), GatherDims.offCoord_eq_zero _ _ _ (fun h => ((GatherDims.mem_sKept _ _).mp h).1 (by simp))]
    simp only [Nat.add_zero]
    unfold GatherDims.start
    rw [dif_pos (by simp)]
    have hsi : (⟨[2], [0], [], [], [0], 2, ![1, 4], wf⟩ : GatherDims ⟨2, ![32, 4]⟩ ⟨3, ![A, B, 1]⟩ ⟨3, ![A, B, 4]⟩).siIdx (ix3 a b h)
        ⟨List.idxOf (0 : Fin 2) [0], by simp⟩ = ix3 a b 0 := by
      funext c; refine Fin.ext ?_
      match c with
      | ⟨0, _⟩ => rfl
      | ⟨1, _⟩ => rfl
      | ⟨2, _⟩ => rfl
    exact congrArg (fun j => min (idx j).toInt.toNat 31) hsi
  · unfold GatherDims.operandIdx
    simp only []
    rw [GatherDims.batchCoord_eq_zero _ _ _ (by simp)]
    unfold GatherDims.start GatherDims.offCoord
    rw [dif_neg (by simp), dif_pos ((GatherDims.mem_sKept _ _).2 ⟨by simp, by simp⟩)]
    simp only [Nat.zero_add, Nat.add_zero]
    rfl

end Cert.Base

end
-- ==== Proof.Head.lean ====
/- One head of the kernel's body as vector functions of the window's keys, queries, values and bias slab, and their
   reads at a row and a column. -/
module

public import proofs.«01_k».proof.Proof.Gen.KernelIdeal.Frame
public import proofs.«01_k».proof.Proof.Base
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Win

open Cert.KernelIdeal Cert.KernelIdeal.Gen

/-- The lane's head number. -/
def lane : IVec S1x256 32 := k0_pay9 (iota .tc S1x256 32 [1] iota_S1x256_d1_w32) 64#32 k0_pay7 k0_pay8

/-- The lanes of head `hw`. -/
def lm (hw : BitVec 32) : IVec S128x256 1 :=
  broadcastTo S128x256 (shapeCast S1x256 (cmpi .eq lane (broadcast S1x256 hw)) shapeCasts_S1x256_S1x256) broadcasts_S1x256_S128x256

/-- The scores of head `hw` over the window. -/
def sc (hw : BitVec 32) (kw : FVec Ideal S256x256 .bf16) (q : FVec Ideal S128x256 .bf16) (va : IVec S128x256 1)
    (sl : FVec Ideal S1x128x256 .f32) : FVec Ideal S128x256 .f32 :=
  select va (addf (matmul dot_S128x256_S256x256_S128x256_1_1_0_0_n_n none
      (mulf (select (lm hw) q (broadcast S128x256 (Scalar.ofBits .bf16 0x0000#16))) (broadcast S128x256 (Scalar.ofBits .bf16 0x3E00#16)))
      kw (constant S128x256 .f32 0x00000000#32)) (shapeCast S128x256 sl shapeCasts_S1x128x256_S128x256))
    (broadcast S128x256 (Named.named κ "mask" 0xF149F2CA#32))

/-- A row's largest score. -/
def mx (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials of the scores less the row's largest. -/
def ex (s : FVec Ideal S128x256 .f32) : FVec Ideal S128x256 .f32 :=
  exp (subf s (broadcastTo S128x256 (mx s) broadcasts_S128x1_S128x256))

/-- A row's sum of exponentials. -/
def dn (s : FVec Ideal S128x256 .f32) : FVec Ideal S128x1 .f32 :=
  shapeCast S128x1 (multiReduction .add [1] S128 (ex s) 0x00000000#32 reduces_S128x256_S128 (.inl rfl) rfl) shapeCasts_S128_S128x1

/-- The head's output on its lanes, zero elsewhere. -/
def oh (hw : BitVec 32) (s : FVec Ideal S128x256 .f32) (vw : FVec Ideal S256x256 .bf16) : FVec Ideal S128x256 .f32 :=
  select (lm hw) (divf (matmul dot_S128x256_S256x256_S128x256_1_0_0_1_n_n none (truncf .bf16 (ex s) bitsLt_bf16_f32) vw
      (constant S128x256 .f32 0x00000000#32)) (broadcastTo S128x256 (dn s) broadcasts_S128x1_S128x256))
    (broadcast S128x256 (Scalar.ofBits .f32 0x00000000#32))

/-- The head's log of summed exponentials on its lanes, zero elsewhere. -/
def lh (hw : BitVec 32) (s : FVec Ideal S128x256 .f32) : FVec Ideal S128x256 .f32 :=
  select (lm hw) (broadcastTo S128x256 (shapeCast S128x1 (addf (mx s) (log (dn s))) shapeCasts_S128x1_S128x1) broadcasts_S128x1_S128x256)
    (broadcast S128x256 (Scalar.ofBits .f32 0x00000000#32))

section Body
variable (i : grid0.Coords) (x0 x1 x2 x3 x4 x5 x6 : FVec Ideal S1x128x256 .bf16) (x7 : FVec Ideal S4x128x256 .f32)

/-- The four heads' scores at a grid point. -/
def s0 : FVec Ideal S128x256 .f32 := sc 0#32 (k0_pay43 i x0 x1 x2 x3 x4 x5 x6 x7) (k0_pay45 i x0 x1 x2 x3 x4 x5 x6 x7) (k0_pay6 i) (View.ld (Val := Elt Ideal) (e' := .f32) x7 r0_3)
def s1 : FVec Ideal S128x256 .f32 := sc 1#32 (k0_pay43 i x0 x1 x2 x3 x4 x5 x6 x7) (k0_pay45 i x0 x1 x2 x3 x4 x5 x6 x7) (k0_pay6 i) (View.ld (Val := Elt Ideal) (e' := .f32) x7 r0_4)
def s2 : FVec Ideal S128x256 .f32 := sc 2#32 (k0_pay43 i x0 x1 x2 x3 x4 x5 x6 x7) (k0_pay45 i x0 x1 x2 x3 x4 x5 x6 x7) (k0_pay6 i) (View.ld (Val := Elt Ideal) (e' := .f32) x7 r0_5)
def s3 : FVec Ideal S128x256 .f32 := sc 3#32 (k0_pay43 i x0 x1 x2 x3 x4 x5 x6 x7) (k0_pay45 i x0 x1 x2 x3 x4 x5 x6 x7) (k0_pay6 i) (View.ld (Val := Elt Ideal) (e' := .f32) x7 r0_6)

/-- What the body stores in the first result. -/
def outv : FVec Ideal S1x128x256 .f32 :=
  shapeCast S1x128x256 (addf (addf (addf (addf (broadcast S128x256 (Scalar.ofBits .f32 0x00000000#32))
      (oh 0#32 (s0 i x0 x1 x2 x3 x4 x5 x6 x7) (k0_pay44 i x0 x1 x2 x3 x4 x5 x6 x7)))
      (oh 1#32 (s1 i x0 x1 x2 x3 x4 x5 x6 x7) (k0_pay44 i x0 x1 x2 x3 x4 x5 x6 x7)))
      (oh 2#32 (s2 i x0 x1 x2 x3 x4 x5 x6 x7) (k0_pay44 i x0 x1 x2 x3 x4 x5 x6 x7)))
      (oh 3#32 (s3 i x0 x1 x2 x3 x4 x5 x6 x7) (k0_pay44 i x0 x1 x2 x3 x4 x5 x6 x7))) shapeCasts_S128x256_S1x128x256

/-- What the body stores in the second result. -/
def lsev : FVec Ideal S1x128x256 .f32 :=
  shapeCast S1x128x256 (addf (addf (addf (addf (broadcast S128x256 (Scalar.ofBits .f32 0x00000000#32))
      (lh 0#32 (s0 i x0 x1 x2 x3 x4 x5 x6 x7))) (lh 1#32 (s1 i x0 x1 x2 x3 x4 x5 x6 x7)))
      (lh 2#32 (s2 i x0 x1 x2 x3 x4 x5 x6 x7))) (lh 3#32 (s3 i x0 x1 x2 x3 x4 x5 x6 x7))) shapeCasts_S128x256_S1x128x256

theorem out8_eq : out0_8 (F := Ideal) i x0 x1 x2 x3 x4 x5 x6 x7 = View.canon (Val := Elt Ideal) (e := .f32) [⟨r0_1, outv i x0 x1 x2 x3 x4 x5 x6 x7⟩] := rfl

theorem out9_eq : out0_9 (F := Ideal) i x0 x1 x2 x3 x4 x5 x6 x7 = View.canon (Val := Elt Ideal) (e := .f32) [⟨r0_1, lsev i x0 x1 x2 x3 x4 x5 x6 x7⟩] := rfl

end Body

/-! ## Reads -/

theorem lane_apply : ∀ e : Fin 256, lane (ix2 0 e) = BitVec.ofNat 32 (e.val / 64) := by decide +kernel

theorem lm_apply (hw : BitVec 32) (r : Fin 128) (e : Fin 256) :
    lm hw (ix2 r e) = IntOp.cmpi .eq (lane (ix2 0 e)) hw := by
  pointwise [lm]

theorem sc_apply (hw : BitVec 32) (kw : FVec Ideal S256x256 .bf16) (q : FVec Ideal S128x256 .bf16) (va : IVec S128x256 1)
    (sl : FVec Ideal S1x128x256 .f32) (r : Fin 128) (c : Fin 256) :
    sc hw kw q va sl (ix2 r c) = Scalar.select (va (ix2 r c)) ((∑ e : Fin 256, Scalar.select (lm hw (ix2 r e))
        (q (ix2 r e) * Ideal.ofBits .bf16 0x3E00#16 * kw (ix2 c e)) 0) + sl (ix3 0 r c)) ⊥ := by
  pointwise [sc]
  rw [IdealRules.named_const.ideal_named_scalar _ _ _ _ rfl]

theorem mx_apply (s : FVec Ideal S128x256 .f32) (r : Fin 128) :
    mx s (ix2 r 0) = Finset.univ.fold max ⊥ fun c : Fin 256 => s (ix2 r c) := by
  pointwise [mx]
  rw [Base.ninf]

theorem ex_apply (s : FVec Ideal S128x256 .f32) (r : Fin 128) (c : Fin 256) :
    ex s (ix2 r c) = Ideal.exp (s (ix2 r c) - mx s (ix2 r 0)) := by
  pointwise [ex]

theorem dn_apply (s : FVec Ideal S128x256 .f32) (r : Fin 128) :
    dn s (ix2 r 0) = ∑ c : Fin 256, ex s (ix2 r c) := by
  pointwise [dn]

theorem oh_apply (hw : BitVec 32) (s : FVec Ideal S128x256 .f32) (vw : FVec Ideal S256x256 .bf16) (r : Fin 128) (e : Fin 256) :
    oh hw s vw (ix2 r e) = Scalar.select (lm hw (ix2 r e)) (Ideal.div (∑ c : Fin 256, ex s (ix2 r c) * vw (ix2 c e)) (dn s (ix2 r 0))) 0 := by
  pointwise [oh]

theorem lh_apply (hw : BitVec 32) (s : FVec Ideal S128x256 .f32) (r : Fin 128) (e : Fin 256) :
    lh hw s (ix2 r e) = Scalar.select (lm hw (ix2 r e)) (mx s (ix2 r 0) + Ideal.log (dn s (ix2 r 0))) 0 := by
  pointwise [lh]

end Cert.Win

end
-- ==== Proof.Bias.lean ====
/- The bias table the kernel's host computes, and the reference's biases, as one function of the relative position. -/
module

public import proofs.«01_k».proof.Proof.Gen.KernelIdeal.Frame
public import proofs.«01_k».proof.Proof.Base
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Bias

open Cert.KernelIdeal Cert.KernelIdeal.Gen

variable (m : (ℓ : Loc nD τ sig) → Buf (Elt Ideal) ℓ)

theorem mul_one_word (w : BitVec 32) : IntOp.muli w 1#32 = w := by
  show w * 1#32 = w
  exact BitVec.mul_one w

/-- Column `c` of row `r` of the host's table: the key's position less the query's, as a word. -/
def W (r : Fin 128) (c : Fin 256) : BitVec 32 :=
  IntOp.subi (IntOp.subi (BitVec.ofNat 32 c.val) 64#32) (BitVec.ofNat 32 r.val)

/-- The same over the whole table. -/
def relV : IVec S128x256 32 :=
  subi (broadcastInDim S128x256 ![0, 1] bcast_S1x256_S128x256_0_1
      (subi (broadcastInDim S1x256 ![1] bcast_S256_S1x256_1 (iotaInDim S256 32 0)) (broadcastInDim S1x256 ![] bcast_S_S1x256 (constantI S_ 32 64#32))))
    (broadcastInDim S128x256 ![0, 1] bcast_S128x1_S128x256_0_1 (broadcastInDim S128x1 ![0] bcast_S128_S128x1_0 (iotaInDim S128 32 0)))

/-- A word everywhere. -/
abbrev all (w : BitVec 32) : IVec S128x256 32 := broadcastInDim S128x256 ![] bcast_S_S128x256 (constantI S_ 32 w)

/-- A number everywhere. -/
abbrev allF (w : BitVec 32) : FVec Ideal S128x256 .f32 := broadcastInDim S128x256 ![] bcast_S_S128x256 (constant S_ .f32 w)

/-- The bucket of every relative position, before the wrap. -/
def bkV1 (w : IVec S128x256 32) : IVec S128x256 32 :=
  addi (select (cmpi .sgt w (all 0#32)) (all 16#32) (all 0#32))
    (select (cmpi .slt (absi w) (all 8#32)) (absi w)
      (minsi (addi (all 8#32) (fptosi 32 (mulf (Host.divf (Host.log (Host.divf (sitofp .f32 (maxsi (absi w) (all 1#32))) (allF 1090519040#32)))
        (allF 1083917269#32)) (allF 1090519040#32)))) (all 15#32)))

/-- The table row of every relative position. -/
def bkV (w : IVec S128x256 32) : IVec S128x256 32 :=
  select (cmpi .slt (bkV1 w) (all 0#32)) (addi (bkV1 w) (all 32#32)) (bkV1 w)

/-- The host's table of biases, `⊥` outside the window. -/
def tabV (a : FVec Ideal S32x12 .f32) : FVec Ideal S4x128x256 .f32 :=
  select (broadcastInDim S4x128x256 ![0, 1, 2] bcast_S1x128x256_S4x128x256_0_1_2
      (broadcastInDim S1x128x256 ![1, 2] bcast_S128x256_S1x128x256_1_2 (cmpi .sle (absi relV) (all 64#32))))
    (transpose S4x128x256 [2, 0, 1] (Host.gather gather_S32x4_S128x256x1_S128x256x4_2_0_n_n_0_2_14
      (extractStridedSlice S32x4 ![0, 0] a slices_S32x12_S32x4_0_0)
      (broadcastInDim S128x256x1 ![0, 1] bcast_S128x256_S128x256x1_0_1 (bkV (muli relV (all 1#32))))) transposes_S128x256x4_S4x128x256_2_0_1)
    (broadcastInDim S4x128x256 ![] bcast_S_S4x128x256 (constant S_ .f32 0xFF800000#32))

theorem relV_apply (r : Fin 128) (c : Fin 256) : relV (ix2 r c) = W r c := by
  pointwise [relV, W]

theorem relM_apply (r : Fin 128) (c : Fin 256) : (muli relV (all 1#32)) (ix2 r c) = W r c := by
  pointwise []
  rw [mul_one_word, relV_apply]

theorem bkV1_apply (w : IVec S128x256 32) (r : Fin 128) (c : Fin 256) : bkV1 w (ix2 r c) = Base.bk1 (w (ix2 r c)) := by
  pointwise [bkV1, Base.bk1]

theorem bkV_apply (w : IVec S128x256 32) (r : Fin 128) (c : Fin 256) : bkV w (ix2 r c) = Base.bk (w (ix2 r c)) := by
  pointwise [bkV, Base.bk]
  rw [bkV1_apply]

theorem tabV_apply (a : FVec Ideal S32x12 .f32) (h : Fin 4) (r : Fin 128) (c : Fin 256) :
    tabV a (ix3 h r c) = Scalar.select (IntOp.cmpi .sle (IntOp.absi (W r c)) 64#32)
      (a (ix2 ⟨min (Base.bk (W r c)).toInt.toNat 31, by omega⟩ ⟨h.val, by omega⟩)) (⊥ : EReal) := by
  have e : ∀ x i, Host.gather (α := EReal) gather_S32x4_S128x256x1_S128x256x4_2_0_n_n_0_2_14 x i (ix3 r c h)
      = x (ix2 ⟨min (i (ix3 r c 0)).toInt.toNat 31, by omega⟩ h) := fun x i => Base.gather_tab _ x i r c h
  have e2 : ∀ (t : Fin 32), extractStridedSlice S32x4 ![0, 0] a slices_S32x12_S32x4_0_0 (ix2 t h) = a (ix2 t ⟨h.val, by omega⟩) :=
    fun t => by pointwise []
  have e3 : ∀ w : IVec S128x256 32, broadcastInDim S128x256x1 ![0, 1] bcast_S128x256_S128x256x1_0_1 w (ix3 r c 0) = w (ix2 r c) :=
    fun w => by pointwise []
  pointwise [tabV]
  rw [e, Base.ninf, relV_apply, e2]
  simp only [e3, bkV_apply, relM_apply]

theorem entry48_eq (d : Dev nD) : V m d main_v48 = tabV (m ((d : Thread nD τ).loc main_arg1)) := by
  show StableHlo.after [hostOps0, hostOps0_1, hostOps0_2, hostOps0_3, hostOps0_4, hostOps0_5, hostOps0_6].flatten
      (fun b => m (d, b)) (Proc.tc.devRef _) = _
  simp only [hostOps0, hostOps0_1, hostOps0_2, hostOps0_3, hostOps0_4, hostOps0_5, hostOps0_6, List.flatten_cons, List.flatten_nil,
    List.append_nil, List.cons_append, List.nil_append, StableHlo.TRef.ternary, StableHlo.TRef.unary, StableHlo.TRef.toBuf,
    StableHlo.TRef.ofBuf, cast_eq]
  after_results_simp
  rfl

theorem entry48 (d : Dev nD) (h : Fin 4) (r : Fin 128) (c : Fin 256) :
    V m d main_v48 (ix3 h r c) = Scalar.select (IntOp.cmpi .sle (IntOp.absi (W r c)) 64#32)
      (m ((d : Thread nD τ).loc main_arg1) (ix2 ⟨min (Base.bk (W r c)).toInt.toNat 31, by omega⟩ ⟨h.val, by omega⟩)) (⊥ : EReal) := by
  rw [entry48_eq]
  exact tabV_apply _ h r c

/-- The packed rows by batch row and position. -/
theorem rows_apply (x : FVec Ideal S32768x9216 .bf16) (b : Fin 8) (p : Fin 4096) (l : Fin 9216) :
    shapeCast S8x4096x9216 x shapeCasts_S32768x9216_S8x4096x9216 (ix3 b p l) = x (ix2 ⟨b.val * 4096 + p.val, by omega⟩ l) := by
  pointwise []

theorem entry49 (d : Dev nD) (b : Fin 8) (p : Fin 4096) (l : Fin 9216) :
    V m d main_v49 (ix3 b p l) = m ((d : Thread nD τ).loc main_arg0) (ix2 ⟨b.val * 4096 + p.val, by omega⟩ l) := by
  show StableHlo.after [hostOps0, hostOps0_1, hostOps0_2, hostOps0_3, hostOps0_4, hostOps0_5, hostOps0_6].flatten
      (fun b => m (d, b)) (Proc.tc.devRef _) _ = _
  simp only [hostOps0, hostOps0_1, hostOps0_2, hostOps0_3, hostOps0_4, hostOps0_5, hostOps0_6, List.flatten_cons, List.flatten_nil,
    List.append_nil, List.cons_append, List.nil_append, StableHlo.TRef.ternary, StableHlo.TRef.unary, StableHlo.TRef.toBuf,
    StableHlo.TRef.ofBuf, cast_eq]
  after_results_simp
  exact rows_apply (m ((d : Thread nD τ).loc main_arg0)) b p l

end Cert.Bias

end
-- ==== Proof.Reads.lean ====
/- What a grid point of the attention reads: the window's keys and values, the queries, the bias slabs and the range of
   valid columns, each as an entry of the program's own arguments. -/
module

public import proofs.«01_k».proof.Proof.Head
public import proofs.«01_k».proof.Proof.Bias
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open scoped BigOperators

namespace Cert.Win

open Cert.KernelIdeal Cert.KernelIdeal.Gen

/-! ## The window in the blocks -/

section Blocks
variable (i : grid0.Coords) (x0 x1 x2 x3 x4 x5 x6 : FVec Ideal S1x128x256 .bf16) (x7 : FVec Ideal S4x128x256 .f32)

theorem q_read (r : Fin 128) (e : Fin 256) : k0_pay45 i x0 x1 x2 x3 x4 x5 x6 x7 (ix2 r e) = x0 (ix3 0 r e) := by
  pointwise [k0_pay45, k0_pay5, r0_1]

theorem k_read (c : Fin 256) (e : Fin 256) : k0_pay43 i x0 x1 x2 x3 x4 x5 x6 x7 (ix2 c e)
    = if h : c.val < 64 then x1 (ix3 0 ⟨64 + c.val, by omega⟩ e)
      else if h2 : c.val < 192 then x2 (ix3 0 ⟨c.val - 64, by omega⟩ e) else x3 (ix3 0 ⟨c.val - 192, by omega⟩ e) := by
  pointwise [k0_pay43, k0_pay3, r0_0, r0_1, r0_2]
  by_cases h : c.val < 64
  · simp only [dif_pos h]
  · simp only [dif_neg h]
    by_cases h2 : c.val < 192
    · rw [dif_pos (show c.val - 64 < 128 by omega), dif_pos h2]
    · rw [dif_neg (show ¬ c.val - 64 < 128 by omega), dif_neg h2]
      exact congrArg x3 (congrArg (fun a => ix3 0 a e) (Fin.ext (by simp only []; omega)))

theorem v_read (c : Fin 256) (e : Fin 256) : k0_pay44 i x0 x1 x2 x3 x4 x5 x6 x7 (ix2 c e)
    = if h : c.val < 64 then x4 (ix3 0 ⟨64 + c.val, by omega⟩ e)
      else if h2 : c.val < 192 then x5 (ix3 0 ⟨c.val - 64, by omega⟩ e) else x6 (ix3 0 ⟨c.val - 192, by omega⟩ e) := by
  pointwise [k0_pay44, k0_pay4, r0_0, r0_1, r0_2]
  by_cases h : c.val < 64
  · simp only [dif_pos h]
  · simp only [dif_neg h]
    by_cases h2 : c.val < 192
    · rw [dif_pos (show c.val - 64 < 128 by omega), dif_pos h2]
    · rw [dif_neg (show ¬ c.val - 64 < 128 by omega), dif_neg h2]
      exact congrArg x6 (congrArg (fun a => ix3 0 a e) (Fin.ext (by simp only []; omega)))

theorem slab0 (r : Fin 128) (c : Fin 256) : View.ld (Val := Elt Ideal) (e' := .f32) x7 r0_3 (ix3 0 r c) = x7 (ix3 0 r c) := by
  pointwise [r0_3]
theorem slab1 (r : Fin 128) (c : Fin 256) : View.ld (Val := Elt Ideal) (e' := .f32) x7 r0_4 (ix3 0 r c) = x7 (ix3 1 r c) := by
  pointwise [r0_4]
theorem slab2 (r : Fin 128) (c : Fin 256) : View.ld (Val := Elt Ideal) (e' := .f32) x7 r0_5 (ix3 0 r c) = x7 (ix3 2 r c) := by
  pointwise [r0_5]
theorem slab3 (r : Fin 128) (c : Fin 256) : View.ld (Val := Elt Ideal) (e' := .f32) x7 r0_6 (ix3 0 r c) = x7 (ix3 3 r c) := by
  pointwise [r0_6]
end Blocks

/-! ## Valid columns -/

/-- The column test on words, at a block of queries and a column. -/
theorem valid_word : ∀ (i : Fin 32) (c : Fin 256), IntOp.andi
      (IntOp.cmpi CmpIPredicate.sge (IntOp.addi (Scalar.subi (Scalar.muli (BitVec.ofNat 32 i.val) 128#32) 64#32) (BitVec.ofNat 32 c.val)) 0#32)
      (IntOp.cmpi CmpIPredicate.slt (IntOp.addi (Scalar.subi (Scalar.muli (BitVec.ofNat 32 i.val) 128#32) 64#32) (BitVec.ofNat 32 c.val)) 4096#32)
    = if 64 ≤ i.val * 128 + c.val ∧ i.val * 128 + c.val < 4160 then 1#1 else 0#1 := by decide +kernel

theorem coord_val : ∀ t : Fin grid0.N, (grid0.coords t 1).val = t.val % 32 := by decide +kernel

theorem valid_apply (t : Fin cfg0.N) (r : Fin 128) (c : Fin 256) : k0_pay6 (grid0.coords t) (ix2 r c)
    = if 64 ≤ t.val % 32 * 128 + c.val ∧ t.val % 32 * 128 + c.val < 4160 then 1#1 else 0#1 := by
  pointwise [k0_pay6]
  rw [coord_val]
  exact valid_word ⟨t.val % 32, by omega⟩ c

/-! ## The blocks in the arrays -/

theorem idx_val : ∀ t : Fin cfg0.N, win0_0.index t = ![t.val / 32, t.val % 32, 20]
    ∧ win0_1.index t = ![t.val / 32, t.val % 32 - 1, 21]
    ∧ win0_2.index t = ![t.val / 32, t.val % 32, 21]
    ∧ win0_3.index t = ![t.val / 32, min (t.val % 32 + 1) 31, 21]
    ∧ win0_4.index t = ![t.val / 32, t.val % 32 - 1, 22]
    ∧ win0_5.index t = ![t.val / 32, t.val % 32, 22]
    ∧ win0_6.index t = ![t.val / 32, min (t.val % 32 + 1) 31, 22]
    ∧ win0_7.index t = ![0, 0, 0]
    ∧ win0_8.index t = ![t.val / 32, t.val % 32, 0]
    ∧ win0_9.index t = ![t.val / 32, t.val % 32, 0] :=
  (by decide +kernel : ∀ t : Fin grid0.N, _)

variable (m : (ℓ : Loc nD τ sig) → Buf (Elt Ideal) ℓ)

theorem blk0 (d : Dev nD) (t : Fin cfg0.N) (ht : t.val < 256) (r : Fin 128) (e : Fin 256) :
    iblk m d 0 t (ix3 0 r e) = V m d main_v49 (ix3 ⟨t.val / 32, by omega⟩ ⟨t.val % 32 * 128 + r.val, by omega⟩ ⟨5120 + e.val, by omega⟩) := by
  have e0 := idx_val t
  unfold iblk
  show V m d main_v49 (((cfg0.win 0).blk t).view.emb (ix3 0 r e)) = _
  generalize V m d main_v49 = A
  blk_ext [e0]

theorem blk1 (d : Dev nD) (t : Fin cfg0.N) (ht : t.val < 256) (r : Fin 128) (e : Fin 256) :
    iblk m d 1 t (ix3 0 r e) = V m d main_v49 (ix3 ⟨t.val / 32, by omega⟩ ⟨(t.val % 32 - 1) * 128 + r.val, by omega⟩ ⟨5376 + e.val, by omega⟩) := by
  have e0 := idx_val t
  unfold iblk
  show V m d main_v49 (((cfg0.win 1).blk t).view.emb (ix3 0 r e)) = _
  generalize V m d main_v49 = A
  blk_ext [e0]

theorem blk2 (d : Dev nD) (t : Fin cfg0.N) (ht : t.val < 256) (r : Fin 128) (e : Fin 256) :
    iblk m d 2 t (ix3 0 r e) = V m d main_v49 (ix3 ⟨t.val / 32, by omega⟩ ⟨t.val % 32 * 128 + r.val, by omega⟩ ⟨5376 + e.val, by omega⟩) := by
  have e0 := idx_val t
  unfold iblk
  show V m d main_v49 (((cfg0.win 2).blk t).view.emb (ix3 0 r e)) = _
  generalize V m d main_v49 = A
  blk_ext [e0]

theorem blk3 (d : Dev nD) (t : Fin cfg0.N) (ht : t.val < 256) (r : Fin 128) (e : Fin 256) :
    iblk m d 3 t (ix3 0 r e) = V m d main_v49 (ix3 ⟨t.val / 32, by omega⟩ ⟨min (t.val % 32 + 1) 31 * 128 + r.val, by omega⟩ ⟨5376 + e.val, by omega⟩) := by
  have e0 := idx_val t
  unfold iblk
  show V m d main_v49 (((cfg0.win 3).blk t).view.emb (ix3 0 r e)) = _
  generalize V m d main_v49 = A
  blk_ext [e0]

theorem blk4 (d : Dev nD) (t : Fin cfg0.N) (ht : t.val < 256) (r : Fin 128) (e : Fin 256) :
    iblk m d 4 t (ix3 0 r e) = V m d main_v49 (ix3 ⟨t.val / 32, by omega⟩ ⟨(t.val % 32 - 1) * 128 + r.val, by omega⟩ ⟨5632 + e.val, by omega⟩) := by
  have e0 := idx_val t
  unfold iblk
  show V m d main_v49 (((cfg0.win 4).blk t).view.emb (ix3 0 r e)) = _
  generalize V m d main_v49 = A
  blk_ext [e0]

theorem blk5 (d : Dev nD) (t : Fin cfg0.N) (ht : t.val < 256) (r : Fin 128) (e : Fin 256) :
    iblk m d 5 t (ix3 0 r e) = V m d main_v49 (ix3 ⟨t.val / 32, by omega⟩ ⟨t.val % 32 * 128 + r.val, by omega⟩ ⟨5632 + e.val, by omega⟩) := by
  have e0 := idx_val t
  unfold iblk
  show V m d main_v49 (((cfg0.win 5).blk t).view.emb (ix3 0 r e)) = _
  generalize V m d main_v49 = A
  blk_ext [e0]

theorem blk6 (d : Dev nD) (t : Fin cfg0.N) (ht : t.val < 256) (r : Fin 128) (e : Fin 256) :
    iblk m d 6 t (ix3 0 r e) = V m d main_v49 (ix3 ⟨t.val / 32, by omega⟩ ⟨min (t.val % 32 + 1) 31 * 128 + r.val, by omega⟩ ⟨5632 + e.val, by omega⟩) := by
  have e0 := idx_val t
  unfold iblk
  show V m d main_v49 (((cfg0.win 6).blk t).view.emb (ix3 0 r e)) = _
  generalize V m d main_v49 = A
  blk_ext [e0]

theorem blk7 (d : Dev nD) (t : Fin cfg0.N) (h : Fin 4) (r : Fin 128) (c : Fin 256) :
    iblk m d 7 t (ix3 h r c) = V m d main_v48 (ix3 h r c) := by
  have e0 := idx_val t
  unfold iblk
  show V m d main_v48 (((cfg0.win 7).blk t).view.emb (ix3 h r c)) = _
  generalize V m d main_v48 = A
  blk_ext [e0]

/-- Column `c` of the window of query block `i` holds key `k`, the window starting 64 positions before the block. -/
def At (i : ℕ) (c : Fin 256) (k : Fin 4096) : Prop := k.val + 64 = i * 128 + c.val

section Window
variable (d : Dev nD) (t : Fin cfg0.N)

/-- The queries, the window's keys and its values at a grid point. -/
def qv : FVec Ideal S128x256 .bf16 := k0_pay45 (grid0.coords t) (iblk m d 0 t) (iblk m d 1 t) (iblk m d 2 t) (iblk m d 3 t) (iblk m d 4 t) (iblk m d 5 t) (iblk m d 6 t) (iblk m d 7 t)
def kv : FVec Ideal S256x256 .bf16 := k0_pay43 (grid0.coords t) (iblk m d 0 t) (iblk m d 1 t) (iblk m d 2 t) (iblk m d 3 t) (iblk m d 4 t) (iblk m d 5 t) (iblk m d 6 t) (iblk m d 7 t)
def vv : FVec Ideal S256x256 .bf16 := k0_pay44 (grid0.coords t) (iblk m d 0 t) (iblk m d 1 t) (iblk m d 2 t) (iblk m d 3 t) (iblk m d 4 t) (iblk m d 5 t) (iblk m d 6 t) (iblk m d 7 t)

theorem qv_apply (ht : t.val < 256) (r : Fin 128) (e : Fin 256) : qv m d t (ix2 r e)
    = m ((d : Thread nD τ).loc main_arg0) (ix2 ⟨t.val / 32 * 4096 + (t.val % 32 * 128 + r.val), by omega⟩ ⟨5120 + e.val, by omega⟩) := by
  unfold qv
  rw [q_read, blk0 m d t ht, Bias.entry49]

theorem kv_apply (ht : t.val < 256) (c e : Fin 256) (k : Fin 4096) (hk : At (t.val % 32) c k) : kv m d t (ix2 c e)
    = m ((d : Thread nD τ).loc main_arg0) (ix2 ⟨t.val / 32 * 4096 + k.val, by omega⟩ ⟨5376 + e.val, by omega⟩) := by
  unfold At at hk
  unfold kv
  rw [k_read]
  by_cases h : c.val < 64
  · rw [dif_pos h, blk1 m d t ht, Bias.entry49]
    exact congrArg (m ((d : Thread nD τ).loc main_arg0)) (congrArg (fun a => ix2 a (⟨5376 + e.val, by omega⟩ : Fin 9216)) (Fin.ext (by simp only []; omega)))
  · rw [dif_neg h]
    by_cases h2 : c.val < 192
    · rw [dif_pos h2, blk2 m d t ht, Bias.entry49]
      exact congrArg (m ((d : Thread nD τ).loc main_arg0)) (congrArg (fun a => ix2 a (⟨5376 + e.val, by omega⟩ : Fin 9216)) (Fin.ext (by simp only []; omega)))
    · rw [dif_neg h2, blk3 m d t ht, Bias.entry49]
      exact congrArg (m ((d : Thread nD τ).loc main_arg0)) (congrArg (fun a => ix2 a (⟨5376 + e.val, by omega⟩ : Fin 9216)) (Fin.ext (by simp only []; omega)))

theorem vv_apply (ht : t.val < 256) (c e : Fin 256) (k : Fin 4096) (hk : At (t.val % 32) c k) : vv m d t (ix2 c e)
    = m ((d : Thread nD τ).loc main_arg0) (ix2 ⟨t.val / 32 * 4096 + k.val, by omega⟩ ⟨5632 + e.val, by omega⟩) := by
  unfold At at hk
  unfold vv
  rw [v_read]
  by_cases h : c.val < 64
  · rw [dif_pos h, blk4 m d t ht, Bias.entry49]
    exact congrArg (m ((d : Thread nD τ).loc main_arg0)) (congrArg (fun a => ix2 a (⟨5632 + e.val, by omega⟩ : Fin 9216)) (Fin.ext (by simp only []; omega)))
  · rw [dif_neg h]
    by_cases h2 : c.val < 192
    · rw [dif_pos h2, blk5 m d t ht, Bias.entry49]
      exact congrArg (m ((d : Thread nD τ).loc main_arg0)) (congrArg (fun a => ix2 a (⟨5632 + e.val, by omega⟩ : Fin 9216)) (Fin.ext (by simp only []; omega)))
    · rw [dif_neg h2, blk6 m d t ht, Bias.entry49]
      exact congrArg (m ((d : Thread nD τ).loc main_arg0)) (congrArg (fun a => ix2 a (⟨5632 + e.val, by omega⟩ : Fin 9216)) (Fin.ext (by simp only []; omega)))

end Window

end Cert.Win

end
-- ==== Proof.Ref.lean ====
/- The reference's values read at an index. -/
module

public import proofs.«01_k».proof.Proof.Gen.ReferenceIdeal.Read
public import proofs.«01_k».proof.Proof.Base
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Ref

open Cert.ReferenceIdeal Cert.ReferenceIdeal.Gen Cert.ReferenceIdeal.Read

variable (x0 : FVec Ideal S32768x9216 .bf16) (x1 : FVec Ideal S32x12 .f32)

theorem rel_apply (p k : Fin 4096) :
    val_main_v14 (F := Ideal) (ix2 p k) = BitVec.ofNat 32 k.val - BitVec.ofNat 32 p.val := by
  pointwise [val_main_v14, val_main_v13, val_main_v12, val_main_v11, val_main_v10, val_main_v9]
  rfl

theorem q_apply (b : Fin 8) (p : Fin 4096) (h : Fin 4) (d : Fin 64) :
    val_main_v4 (F := Ideal) x0 (ix4 b p h d) = x0 (ix2 ⟨b.val * 4096 + p.val, by omega⟩ ⟨5120 + h.val * 64 + d.val, by omega⟩) := by
  pointwise [val_main_v4, val_main_v3, val_main_v2, val_main_v1, val_main_v0]
  exact congrArg x0 ((ix2_inj ..).2 ⟨rfl, Fin.ext (by simp only []; omega)⟩)

theorem k_apply (b : Fin 8) (p : Fin 4096) (h : Fin 4) (d : Fin 64) :
    val_main_v6 (F := Ideal) x0 (ix4 b p h d) = x0 (ix2 ⟨b.val * 4096 + p.val, by omega⟩ ⟨5376 + h.val * 64 + d.val, by omega⟩) := by
  pointwise [val_main_v6, val_main_v5, val_main_v2, val_main_v1, val_main_v0]
  exact congrArg x0 ((ix2_inj ..).2 ⟨rfl, Fin.ext (by simp only []; omega)⟩)

theorem v_apply (b : Fin 8) (p : Fin 4096) (h : Fin 4) (d : Fin 64) :
    val_main_v8 (F := Ideal) x0 (ix4 b p h d) = x0 (ix2 ⟨b.val * 4096 + p.val, by omega⟩ ⟨5632 + h.val * 64 + d.val, by omega⟩) := by
  pointwise [val_main_v8, val_main_v7, val_main_v2, val_main_v1, val_main_v0]
  exact congrArg x0 ((ix2_inj ..).2 ⟨rfl, Fin.ext (by simp only []; omega)⟩)

theorem logit_apply (b : Fin 8) (h : Fin 4) (p k : Fin 4096) :
    val_main_v58 (F := Ideal) x0 x1 (ix4 b h p k) = Scalar.select (IntOp.cmpi .sle (IntOp.absi (val_main_v14 (F := Ideal) (ix2 p k))) 64#32)
      ((∑ d : Fin 64, val_main_v4 (F := Ideal) x0 (ix4 b p h d) * val_main_v6 (F := Ideal) x0 (ix4 b k h d)) * Ideal.ofBits .f32 0x3E000000#32
        + val_main_v46 (F := Ideal) x1 (ix3 p k h)) ⊥ := by
  pointwise [val_main_v58, val_main_call2_v2, val_main_call2_v1, val_main_call2_v0, val_main_cst_12, val_main_v57, val_main_v56, val_main_v55,
    val_main_c_11, val_main_v54, val_main_v53, val_main_v52, val_main_v51, val_main_v50, val_main_v49, val_main_cst_10, val_main_v48, val_main_v47]
  exact congrArg (Scalar.select _ _) Base.ninf

theorem max_apply (b : Fin 8) (h : Fin 4) (p : Fin 4096) :
    val_main_v59 (F := Ideal) x0 x1 (ix3 b h p) = Finset.univ.fold max ⊥ fun k : Fin 4096 => val_main_v58 (F := Ideal) x0 x1 (ix4 b h p k) := by
  pointwise [val_main_v59, val_main_cst_13]
  rw [Base.ninf]

theorem exp_apply (b : Fin 8) (h : Fin 4) (p k : Fin 4096) :
    val_main_v63 (F := Ideal) x0 x1 (ix4 b h p k)
      = Ideal.exp (val_main_v58 (F := Ideal) x0 x1 (ix4 b h p k) - val_main_v59 (F := Ideal) x0 x1 (ix3 b h p)) := by
  pointwise [val_main_v63, val_main_v62, val_main_v61, val_main_v60]

theorem den_apply (b : Fin 8) (h : Fin 4) (p : Fin 4096) :
    val_main_v64 (F := Ideal) x0 x1 (ix3 b h p) = ∑ k : Fin 4096, val_main_v63 (F := Ideal) x0 x1 (ix4 b h p k) := by
  pointwise [val_main_v64, val_main_cst_14]

end Cert.Ref

end
-- ==== Proof.RefB.lean ====
/- The reference's values read at an index. -/
module

public import proofs.«01_k».proof.Proof.Gen.ReferenceIdeal.Read
public import proofs.«01_k».proof.Proof.Base
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Ref

open Cert.ReferenceIdeal Cert.ReferenceIdeal.Gen Cert.ReferenceIdeal.Read

variable (x0 : FVec Ideal S32768x9216 .bf16) (x1 : FVec Ideal S32x12 .f32)

theorem pv_apply (b : Fin 8) (h : Fin 4) (d : Fin 64) (p : Fin 4096) :
    val_main_v67 (F := Ideal) x0 x1 (ix4 b h d p) = ∑ k : Fin 4096, val_main_v8 (F := Ideal) x0 (ix4 b k h d)
        * val_main_v63 (F := Ideal) x0 x1 (ix4 b h p k) := by
  rw [val_main_v67_apply]
  refine Finset.sum_congr rfl fun k _ => ?_
  rw [show lidx_main_v67 (ix4 b h d p) k = ix4 b k h d from (by idx_ext), show ridx_main_v67 (ix4 b h d p) k = ix4 b h p k from (by idx_ext)]
  pointwise [val_main_v66, val_main_v65]

theorem quo_apply (b : Fin 8) (p : Fin 4096) (h : Fin 4) (d : Fin 64) :
    val_main_v72 (F := Ideal) x0 x1 (ix4 b p h d) = Ideal.div (val_main_v67 (F := Ideal) x0 x1 (ix4 b h d p))
      (val_main_v64 (F := Ideal) x0 x1 (ix3 b h p)) := by
  pointwise [val_main_v72, val_main_v71, val_main_v70, val_main_v69, val_main_v68]

theorem out_apply (b : Fin 8) (p : Fin 4096) (l : Fin 256) :
    val_main_v77 (F := Ideal) x0 x1 (ix3 b p l)
      = val_main_v72 (F := Ideal) x0 x1 (ix4 b p ⟨l.val / 64, by omega⟩ ⟨l.val % 64, by omega⟩) := by
  rw [val_main_v77_apply]
  generalize val_main_v72 (F := Ideal) x0 x1 = f
  refine congrArg f ?_
  idx_ext

theorem ls_apply (b : Fin 8) (h : Fin 4) (p : Fin 4096) :
    val_main_v75 (F := Ideal) x0 x1 (ix3 b h p) = val_main_v73 (F := Ideal) x0 x1 (ix3 b h p)
        + Ideal.log (val_main_v64 (F := Ideal) x0 x1 (ix3 b h p)) := by
  rw [val_main_v75_apply, val_main_v74_apply]
  generalize val_main_v73 (F := Ideal) x0 x1 = f
  generalize val_main_v64 (F := Ideal) x0 x1 = g
  pointwise []

theorem mxr_apply (b : Fin 8) (h : Fin 4) (p : Fin 4096) :
    val_main_v73 (F := Ideal) x0 x1 (ix3 b h p) = val_main_v59 (F := Ideal) x0 x1 (ix3 b h p) := by
  pointwise [val_main_v73, val_main_v60]

theorem lse_apply (b : Fin 8) (p : Fin 4096) (l : Fin 256) :
    val_main_v79 (F := Ideal) x0 x1 (ix3 b p l) = val_main_v75 (F := Ideal) x0 x1 (ix3 b ⟨l.val / 64, by omega⟩ p) := by
  pointwise [val_main_v79, val_main_v78, val_main_v76]

end Cert.Ref

end
-- ==== Proof.RefW.lean ====
module

public import proofs.«01_k».proof.Proof.Gen.ReferenceIdeal.Read
public import proofs.«01_k».proof.Proof.Base
public import Idealize.ShloMosaic.Lib.Pointwise
public import Idealize.ShloMosaic.Lib.Pipeline.ValueKit

/-! The reference's scores, weights and sums, read at one element. -/

@[expose] public section

set_option maxRecDepth 16384

noncomputable section

open Idealize.ShloMosaic Idealize.ShloMosaic.TcCoe Idealize.SL.Sem
open scoped BigOperators

namespace Cert.Ref

open Cert.ReferenceIdeal Cert.ReferenceIdeal.Gen Cert.ReferenceIdeal.Read

theorem bkt_apply (p k : Fin 4096) :
    val_main_v44 (F := Ideal) (ix2 p k) = Base.bk (val_main_v14 (F := Ideal) (ix2 p k)) := by
  simp only [val_main_v44, val_main_v43, val_main_v42, val_main_c_9, val_main_v41, val_main_v40, val_main_c_8, val_main_v38, val_main_v37,
    val_main_v36, val_main_v35, val_main_v34, val_main_c_7, val_main_v33, val_main_call0_v1, val_main_call0_v0, val_main_c_6, val_main_c_5, val_main_v32,
    val_main_v31, val_main_c_4, val_main_v30, val_main_v29, val_main_c_3, val_main_v28, val_main_v27, val_main_c_2, val_main_v26, val_main_v25,
    val_main_v24, val_main_cst_1, val_main_v23, val_main_v22, val_main_cst_0, val_main_v21, val_main_v20, val_main_v19, val_main_cst, val_main_v18,
    val_main_v17, val_main_v16, val_main_c, val_main_v15, id_eq]
  pointwise [Base.bk, Base.bk1]

theorem bias_apply (x1 : FVec Ideal S32x12 .f32) (p k : Fin 4096) (h : Fin 4) :
    val_main_v46 (F := Ideal) x1 (ix3 p k h)
      = x1 (ix2 ⟨min (Base.bk (val_main_v14 (F := Ideal) (ix2 p k))).toInt.toNat 31, by omega⟩ ⟨h.val, by omega⟩) := by
  unfold val_main_v46 gather_S32x4_S4096x4096x1_S4096x4096x4_2_0_n_n_0_2_14
  rw [Base.gather_tab]
  have e : val_main_v45 (F := Ideal) (ix3 p k 0) = val_main_v44 (F := Ideal) (ix2 p k) := by pointwise [val_main_v45]
  have e2 : ∀ (a : Fin 32), val_main_v39 (F := Ideal) x1 (ix2 a h) = x1 (ix2 a ⟨h.val, by omega⟩) := fun a => by pointwise [val_main_v39]
  rw [e2]
  simp only [e, bkt_apply]

end Cert.Ref

end
-- ==== Proof.Match.lean ====
/- The window's scores against the reference's logits: equal where a column holds a key, and `⊥` off that matching on
   both sides; so the row's largest score, its sum of exponentials and its weighted values agree. -/
module

public import proofs.«01_k».proof.Proof.Reads
public import proofs.«01_k».proof.Proof.Ref
public import proofs.«01_k».proof.Proof.RefB
public import proofs.«01_k».proof.Proof.RefW

@[expose] public section

set_option maxRecDepth 16384

noncomputable section

open Idealize.ShloMosaic Idealize.ShloMosaic.TcCoe Idealize.SL.Sem
open scoped BigOperators

namespace Cert.Win

open Cert.KernelIdeal Cert.KernelIdeal.Gen
open Cert.ReferenceIdeal.Read

/-! ## Words -/

theorem head_word : ∀ (e : Fin 256) (h : Fin 4), IntOp.cmpi .eq (BitVec.ofNat 32 (e.val / 64)) (BitVec.ofNat 32 h.val)
    = if e.val / 64 = h.val then 1#1 else 0#1 := by decide +kernel

theorem lm_head (h : Fin 4) (r : Fin 128) (e : Fin 256) :
    lm (BitVec.ofNat 32 h.val) (ix2 r e) = if e.val / 64 = h.val then 1#1 else 0#1 := by
  rw [lm_apply, lane_apply, head_word]

theorem far_pos : ∀ n : Fin 4096, 64 < n.val → IntOp.cmpi .sle (IntOp.absi (BitVec.ofNat 32 n.val)) 64#32 = 0#1 := by decide +kernel
theorem far_neg : ∀ n : Fin 4096, 64 < n.val → IntOp.cmpi .sle (IntOp.absi (0#32 - BitVec.ofNat 32 n.val)) 64#32 = 0#1 := by decide +kernel

/-- A relative position past 64 either way is outside the band. -/
theorem far (p k : Fin 4096) (h : p.val + 64 < k.val ∨ k.val + 64 < p.val) :
    IntOp.cmpi .sle (IntOp.absi (BitVec.ofNat 32 k.val - BitVec.ofNat 32 p.val)) 64#32 = 0#1 := by
  rcases h with h | h
  · rw [show BitVec.ofNat 32 k.val - BitVec.ofNat 32 p.val = BitVec.ofNat 32 (k.val - p.val) from
      BitVec.eq_of_toNat_eq (by simp only [BitVec.toNat_sub, BitVec.toNat_ofNat]; omega)]
    exact far_pos ⟨k.val - p.val, by omega⟩ (by simp only []; omega)
  · rw [show BitVec.ofNat 32 k.val - BitVec.ofNat 32 p.val = 0#32 - BitVec.ofNat 32 (p.val - k.val) from
      BitVec.eq_of_toNat_eq (by simp only [BitVec.toNat_sub, BitVec.toNat_ofNat]; omega)]
    exact far_neg ⟨p.val - k.val, by omega⟩ (by simp only []; omega)

/-- The position of row `r` of query block `i`. -/
abbrev pos (i : ℕ) (hi : i < 32) (r : Fin 128) : Fin 4096 := ⟨i * 128 + r.val, by omega⟩

/-- The window's relative position is the reference's. -/
theorem rel_word (i : ℕ) (hi : i < 32) (r : Fin 128) (c : Fin 256) (k : Fin 4096) (hk : At i c k) :
    Bias.W r c = BitVec.ofNat 32 k.val - BitVec.ofNat 32 (pos i hi r).val := by
  unfold At at hk
  unfold Bias.W
  show BitVec.ofNat 32 c.val - 64#32 - BitVec.ofNat 32 r.val = _
  exact BitVec.eq_of_toNat_eq (by simp only [BitVec.toNat_sub, BitVec.toNat_ofNat]; omega)

/-! ## Scores -/

variable (m : (ℓ : Loc nD τ sig) → Buf (Elt Ideal) ℓ) (d : Dev nD) (t : Fin cfg0.N)

/-- The packed projection and the bias table. -/
abbrev A0 : FVec Ideal Cert.ReferenceIdeal.S32768x9216 .bf16 := m ((d : Thread nD τ).loc main_arg0)
abbrev A1 : FVec Ideal Cert.ReferenceIdeal.S32x12 .f32 := m ((d : Thread nD τ).loc main_arg1)

/-- A head's scores over a bias slab. -/
def S (h : Fin 4) (sl : FVec Ideal S1x128x256 .f32) : FVec Ideal S128x256 .f32 :=
  sc (BitVec.ofNat 32 h.val) (kv m d t) (qv m d t) (k0_pay6 (grid0.coords t)) sl

/-- The slab holds the head's biases. -/
def Slab (h : Fin 4) (sl : FVec Ideal S1x128x256 .f32) : Prop := ∀ r c, sl (ix3 0 r c)
  = Scalar.select (IntOp.cmpi .sle (IntOp.absi (Bias.W r c)) 64#32)
      (A1 m d (ix2 ⟨min (Base.bk (Bias.W r c)).toInt.toNat 31, by omega⟩ ⟨h.val, by omega⟩)) (⊥ : EReal)

theorem dot_eq (ht : t.val < 256) (h : Fin 4) (r : Fin 128) (c : Fin 256) (k : Fin 4096) (hk : At (t.val % 32) c k) :
    (∑ e : Fin 256, Scalar.select (lm (BitVec.ofNat 32 h.val) (ix2 r e))
        (qv m d t (ix2 r e) * Ideal.ofBits .bf16 0x3E00#16 * kv m d t (ix2 c e)) (0 : EReal))
      = (∑ j : Fin 64, val_main_v4 (F := Ideal) (A0 m d) (ix4 ⟨t.val / 32, by omega⟩ (pos (t.val % 32) (by omega) r) h j)
          * val_main_v6 (F := Ideal) (A0 m d) (ix4 ⟨t.val / 32, by omega⟩ k h j)) * Ideal.ofBits .f32 0x3E000000#32 := by
  rw [Base.eighth32, ← Base.sum_mul_coe _ _ _ (by norm_num)]
  refine Base.sum_match (fun (e : Fin 256) (j : Fin 64) => e.val = h.val * 64 + j.val) _ _ ?_ ?_ ?_ ?_ ?_
  · intro a b b' h1 h2; exact Fin.ext (by omega)
  · intro a a' b h1 h2; exact Fin.ext (by omega)
  · intro e j he
    rw [lm_head, if_pos (by omega), Base.select_true rfl, qv_apply m d t ht, kv_apply m d t ht c e k hk, Ref.q_apply, Ref.k_apply, Base.eighth16,
      mul_assoc, mul_comm (((1 / 8 : ℝ) : ℝ) : EReal), ← mul_assoc]
    congr 2
    · exact congrArg (A0 m d) ((ix2_inj ..).2 ⟨rfl, Fin.ext (by simp only []; omega)⟩)
    · exact congrArg (A0 m d) ((ix2_inj ..).2 ⟨rfl, Fin.ext (by simp only []; omega)⟩)
  · intro e
    by_cases he : e.val / 64 = h.val
    · exact .inl ⟨⟨e.val % 64, by omega⟩, by simp only []; omega⟩
    · right; rw [lm_head, if_neg he, Base.select_false rfl]
  · intro j
    exact .inl ⟨⟨h.val * 64 + j.val, by omega⟩, rfl⟩

/-- A masked bias masks the score. -/
theorem mask_in (b : BitVec 1) (x y : EReal) : x + Scalar.select b y ⊥ = Scalar.select b (x + y) ⊥ := by
  rcases (show ∀ b : BitVec 1, b = 1#1 ∨ b = 0#1 by decide) b with hb | hb
  · rw [Base.select_true hb, Base.select_true hb]
  · rw [Base.select_false hb, Base.select_false hb, EReal.add_bot]

theorem band_eq (w w' : BitVec 32) (hw : w = w') (x : FVec Ideal Cert.ReferenceIdeal.S32x12 .f32) (h : Fin 4) (s : EReal) :
    s + Scalar.select (IntOp.cmpi .sle (IntOp.absi w) 64#32) (x (ix2 ⟨min (Base.bk w).toInt.toNat 31, by omega⟩ ⟨h.val, by omega⟩)) (⊥ : EReal)
      = Scalar.select (IntOp.cmpi .sle (IntOp.absi w') 64#32) (s + x (ix2 ⟨min (Base.bk w').toInt.toNat 31, by omega⟩ ⟨h.val, by omega⟩)) (⊥ : EReal) := by
  subst hw
  exact mask_in _ _ _

theorem score_eq (ht : t.val < 256) (h : Fin 4) (sl : FVec Ideal S1x128x256 .f32) (hsl : Slab m d h sl) (r : Fin 128) (c : Fin 256) (k : Fin 4096)
    (hk : At (t.val % 32) c k) :
    S m d t h sl (ix2 r c) = val_main_v58 (F := Ideal) (A0 m d) (A1 m d) (ix4 ⟨t.val / 32, by omega⟩ h (pos (t.val % 32) (by omega) r) k) := by
  have hk' := hk
  unfold At at hk'
  unfold S
  have hv : 64 ≤ t.val % 32 * 128 + c.val ∧ t.val % 32 * 128 + c.val < 4160 := by omega
  have hs : sl (ix3 0 r c) = Scalar.select (IntOp.cmpi .sle (IntOp.absi (Bias.W r c)) 64#32)
      (A1 m d (ix2 ⟨min (Base.bk (Bias.W r c)).toInt.toNat 31, by omega⟩ ⟨h.val, by omega⟩)) (⊥ : EReal) := hsl r c
  rw [sc_apply, valid_apply, if_pos hv, Base.select_true rfl, dot_eq m d t ht h r c k hk, hs, Ref.logit_apply, Ref.bias_apply]
  exact band_eq _ _ ((rel_word (t.val % 32) (by omega) r c k hk).trans (Ref.rel_apply _ _).symm) (A1 m d) h _

theorem score_off (ht : t.val < 256) (h : Fin 4) (sl : FVec Ideal S1x128x256 .f32) (r : Fin 128) (c : Fin 256) :
    (∃ k, At (t.val % 32) c k) ∨ S m d t h sl (ix2 r c) = ⊥ := by
  by_cases hc : 64 ≤ t.val % 32 * 128 + c.val ∧ t.val % 32 * 128 + c.val < 4160
  · exact .inl ⟨⟨t.val % 32 * 128 + c.val - 64, by omega⟩, by unfold At; simp only []; omega⟩
  · right; unfold S; rw [sc_apply, valid_apply, if_neg hc, Base.select_false rfl]

theorem logit_off (ht : t.val < 256) (h : Fin 4) (r : Fin 128) (k : Fin 4096) :
    (∃ c, At (t.val % 32) c k) ∨
      val_main_v58 (F := Ideal) (A0 m d) (A1 m d) (ix4 ⟨t.val / 32, by omega⟩ h (pos (t.val % 32) (by omega) r) k) = ⊥ := by
  by_cases hc : t.val % 32 * 128 ≤ k.val + 64 ∧ k.val + 64 < t.val % 32 * 128 + 256
  · exact .inl ⟨⟨k.val + 64 - t.val % 32 * 128, by omega⟩, by unfold At; simp only []; omega⟩
  · right
    rw [Ref.logit_apply, Ref.rel_apply, far (pos (t.val % 32) (by omega) r) k (by simp only []; omega), Base.select_false rfl]

/-! ## Rows -/

theorem mx_eq (ht : t.val < 256) (h : Fin 4) (sl : FVec Ideal S1x128x256 .f32) (hsl : Slab m d h sl) (r : Fin 128) :
    mx (S m d t h sl) (ix2 r 0) = val_main_v59 (F := Ideal) (A0 m d) (A1 m d) (ix3 ⟨t.val / 32, by omega⟩ h (pos (t.val % 32) (by omega) r)) := by
  rw [mx_apply, Ref.max_apply]
  exact Base.max_match (At (t.val % 32)) _ _ (fun c k hk => score_eq m d t ht h sl hsl r c k hk) (score_off m d t ht h sl r) (logit_off m d t ht h r)

theorem ex_eq (ht : t.val < 256) (h : Fin 4) (sl : FVec Ideal S1x128x256 .f32) (hsl : Slab m d h sl) (r : Fin 128) (c : Fin 256) (k : Fin 4096)
    (hk : At (t.val % 32) c k) : ex (S m d t h sl) (ix2 r c)
      = val_main_v63 (F := Ideal) (A0 m d) (A1 m d) (ix4 ⟨t.val / 32, by omega⟩ h (pos (t.val % 32) (by omega) r) k) := by
  rw [ex_apply, Ref.exp_apply, mx_eq m d t ht h sl hsl, score_eq m d t ht h sl hsl r c k hk]

theorem ex_off (ht : t.val < 256) (h : Fin 4) (sl : FVec Ideal S1x128x256 .f32) (r : Fin 128) (c : Fin 256) :
    (∃ k, At (t.val % 32) c k) ∨ ex (S m d t h sl) (ix2 r c) = 0 := by
  refine (score_off m d t ht h sl r c).imp_right fun e => ?_
  rw [ex_apply, e, Base.exp_mask]

theorem exp_off (ht : t.val < 256) (h : Fin 4) (r : Fin 128) (k : Fin 4096) :
    (∃ c, At (t.val % 32) c k) ∨
      val_main_v63 (F := Ideal) (A0 m d) (A1 m d) (ix4 ⟨t.val / 32, by omega⟩ h (pos (t.val % 32) (by omega) r) k) = 0 := by
  refine (logit_off m d t ht h r k).imp_right fun e => ?_
  rw [Ref.exp_apply, e, Base.exp_mask]

theorem at_left (i : ℕ) : ∀ (a : Fin 256) (b b' : Fin 4096), At i a b → At i a b' → b = b' := by
  intro a b b' h1 h2; unfold At at h1 h2; exact Fin.ext (by omega)
theorem at_right (i : ℕ) : ∀ (a a' : Fin 256) (b : Fin 4096), At i a b → At i a' b → a = a' := by
  intro a b b' h1 h2; unfold At at h1 h2; exact Fin.ext (by omega)

theorem dn_eq (ht : t.val < 256) (h : Fin 4) (sl : FVec Ideal S1x128x256 .f32) (hsl : Slab m d h sl) (r : Fin 128) :
    dn (S m d t h sl) (ix2 r 0) = val_main_v64 (F := Ideal) (A0 m d) (A1 m d) (ix3 ⟨t.val / 32, by omega⟩ h (pos (t.val % 32) (by omega) r)) := by
  rw [dn_apply, Ref.den_apply]
  exact Base.sum_match (At (t.val % 32)) _ _ (at_left _) (at_right _) (fun c k hk => ex_eq m d t ht h sl hsl r c k hk) (ex_off m d t ht h sl r)
    (exp_off m d t ht h r)

theorem pv_eq (ht : t.val < 256) (h : Fin 4) (sl : FVec Ideal S1x128x256 .f32) (hsl : Slab m d h sl) (r : Fin 128) (l : Fin 256) (hl : l.val / 64 = h.val) :
    (∑ c : Fin 256, ex (S m d t h sl) (ix2 r c) * vv m d t (ix2 c l))
      = val_main_v67 (F := Ideal) (A0 m d) (A1 m d) (ix4 ⟨t.val / 32, by omega⟩ h ⟨l.val % 64, by omega⟩ (pos (t.val % 32) (by omega) r)) := by
  rw [Ref.pv_apply]
  refine Base.sum_match (At (t.val % 32)) _ _ (at_left _) (at_right _) (fun c k hk => ?_) (fun c => ?_) (fun k => ?_)
  · rw [ex_eq m d t ht h sl hsl r c k hk, vv_apply m d t ht c l k hk, Ref.v_apply, mul_comm]
    congr 1
    exact congrArg (A0 m d) ((ix2_inj ..).2 ⟨rfl, Fin.ext (by simp only []; omega)⟩)
  · exact (ex_off m d t ht h sl r c).imp_right fun e => by rw [e, zero_mul]
  · exact (exp_off m d t ht h r k).imp_right fun e => by rw [e, mul_zero]

/-- A head's share of the first result: the reference on the head's lanes, zero elsewhere. -/
theorem oh_eq (ht : t.val < 256) (h : Fin 4) (sl : FVec Ideal S1x128x256 .f32) (hsl : Slab m d h sl) (r : Fin 128) (l : Fin 256) :
    oh (BitVec.ofNat 32 h.val) (S m d t h sl) (vv m d t) (ix2 r l) = if l.val / 64 = h.val
      then val_main_v77 (F := Ideal) (A0 m d) (A1 m d) (ix3 ⟨t.val / 32, by omega⟩ (pos (t.val % 32) (by omega) r) l) else 0 := by
  rw [oh_apply, lm_head]
  by_cases hl : l.val / 64 = h.val
  · rw [if_pos hl, if_pos hl, Base.select_true rfl, pv_eq m d t ht h sl hsl r l hl, dn_eq m d t ht h sl hsl, Ref.out_apply, Ref.quo_apply]
    rw [show (⟨l.val / 64, by omega⟩ : Fin 4) = h from Fin.ext hl]
  · rw [if_neg hl, if_neg hl, Base.select_false rfl]

/-- A head's share of the second result. -/
theorem lh_eq (ht : t.val < 256) (h : Fin 4) (sl : FVec Ideal S1x128x256 .f32) (hsl : Slab m d h sl) (r : Fin 128) (l : Fin 256) :
    lh (BitVec.ofNat 32 h.val) (S m d t h sl) (ix2 r l) = if l.val / 64 = h.val
      then val_main_v79 (F := Ideal) (A0 m d) (A1 m d) (ix3 ⟨t.val / 32, by omega⟩ (pos (t.val % 32) (by omega) r) l) else 0 := by
  rw [lh_apply, lm_head]
  by_cases hl : l.val / 64 = h.val
  · rw [if_pos hl, if_pos hl, Base.select_true rfl, mx_eq m d t ht h sl hsl, dn_eq m d t ht h sl hsl, Ref.lse_apply, Ref.ls_apply, Ref.mxr_apply]
    rw [show (⟨l.val / 64, by omega⟩ : Fin 4) = h from Fin.ext hl]
  · rw [if_neg hl, if_neg hl, Base.select_false rfl]

/-- Of the four heads exactly one owns a lane. -/
theorem four (x : EReal) : ∀ (n : ℕ), n < 4 → (((0 + (if n = 0 then x else 0)) + (if n = 1 then x else 0)) + (if n = 2 then x else 0)) + (if n = 3 then x else 0) = x := by
  intro n hn
  interval_cases n <;> simp

end Cert.Win

end
-- ==== Proof.Value.lean ====
/- The two result arrays after the kernel's run are the reference's. -/
module

public import proofs.«01_k».proof.Proof.Match

@[expose] public section

set_option maxRecDepth 16384

noncomputable section

open Idealize.ShloMosaic Idealize.ShloMosaic.TcCoe Idealize.SL.Sem
open Idealize.ShloMosaic.Pipeline (Dat)
open scoped BigOperators

namespace Cert.Win.Value

open Cert.KernelIdeal Cert.KernelIdeal.Gen Cert.Win
open Cert.ReferenceIdeal.Read

variable (m : (ℓ : Loc nD τ sig) → Buf (Elt Ideal) ℓ)

theorem slab_0 (d : Dev nD) (t : Fin cfg0.N) : Slab m d 0 (View.ld (Val := Elt Ideal) (e' := .f32) (iblk m d 7 t) r0_3) := by
  intro r c
  rw [slab0, blk7, Bias.entry48]
theorem slab_1 (d : Dev nD) (t : Fin cfg0.N) : Slab m d 1 (View.ld (Val := Elt Ideal) (e' := .f32) (iblk m d 7 t) r0_4) := by
  intro r c
  rw [slab1, blk7, Bias.entry48]
theorem slab_2 (d : Dev nD) (t : Fin cfg0.N) : Slab m d 2 (View.ld (Val := Elt Ideal) (e' := .f32) (iblk m d 7 t) r0_5) := by
  intro r c
  rw [slab2, blk7, Bias.entry48]
theorem slab_3 (d : Dev nD) (t : Fin cfg0.N) : Slab m d 3 (View.ld (Val := Elt Ideal) (e' := .f32) (iblk m d 7 t) r0_6) := by
  intro r c
  rw [slab3, blk7, Bias.entry48]

theorem outv_apply (d : Dev nD) (t : Fin cfg0.N) (ht : t.val < 256) (r : Fin 128) (l : Fin 256) :
    outv (grid0.coords t) (iblk m d 0 t) (iblk m d 1 t) (iblk m d 2 t) (iblk m d 3 t) (iblk m d 4 t) (iblk m d 5 t) (iblk m d 6 t) (iblk m d 7 t) (ix3 0 r l)
      = val_main_v77 (F := Ideal) (A0 m d) (A1 m d) (ix3 ⟨t.val / 32, by omega⟩ (pos (t.val % 32) (by omega) r) l) := by
  have e : ∀ a b c f : FVec Ideal S128x256 .f32, shapeCast S1x128x256 (addf (addf (addf (addf (broadcast S128x256 (Scalar.ofBits (F := Ideal) .f32 0x00000000#32)) a) b) c) f)
      shapeCasts_S128x256_S1x128x256 (ix3 0 r l) = (((0 + a (ix2 r l)) + b (ix2 r l)) + c (ix2 r l)) + f (ix2 r l) := by
    intro a b c f
    pointwise []
  have h0 := oh_eq m d t ht 0 _ (slab_0 m d t) r l
  have h1 := oh_eq m d t ht 1 _ (slab_1 m d t) r l
  have h2 := oh_eq m d t ht 2 _ (slab_2 m d t) r l
  have h3 := oh_eq m d t ht 3 _ (slab_3 m d t) r l
  refine (e _ _ _ _).trans ?_
  refine (congrArg₂ (· + ·) (congrArg₂ (· + ·) (congrArg₂ (· + ·) (congrArg (0 + ·) h0) h1) h2) h3).trans ?_
  exact four _ (l.val / 64) (by omega)

theorem lsev_apply (d : Dev nD) (t : Fin cfg0.N) (ht : t.val < 256) (r : Fin 128) (l : Fin 256) :
    lsev (grid0.coords t) (iblk m d 0 t) (iblk m d 1 t) (iblk m d 2 t) (iblk m d 3 t) (iblk m d 4 t) (iblk m d 5 t) (iblk m d 6 t) (iblk m d 7 t) (ix3 0 r l)
      = val_main_v79 (F := Ideal) (A0 m d) (A1 m d) (ix3 ⟨t.val / 32, by omega⟩ (pos (t.val % 32) (by omega) r) l) := by
  have e : ∀ a b c f : FVec Ideal S128x256 .f32, shapeCast S1x128x256 (addf (addf (addf (addf (broadcast S128x256 (Scalar.ofBits (F := Ideal) .f32 0x00000000#32)) a) b) c) f)
      shapeCasts_S128x256_S1x128x256 (ix3 0 r l) = (((0 + a (ix2 r l)) + b (ix2 r l)) + c (ix2 r l)) + f (ix2 r l) := by
    intro a b c f
    pointwise []
  have h0 := lh_eq m d t ht 0 _ (slab_0 m d t) r l
  have h1 := lh_eq m d t ht 1 _ (slab_1 m d t) r l
  have h2 := lh_eq m d t ht 2 _ (slab_2 m d t) r l
  have h3 := lh_eq m d t ht 3 _ (slab_3 m d t) r l
  refine (e _ _ _ _).trans ?_
  refine (congrArg₂ (· + ·) (congrArg₂ (· + ·) (congrArg₂ (· + ·) (congrArg (0 + ·) h0) h1) h2) h3).trans ?_
  exact four _ (l.val / 64) (by omega)

/-- The first result array. -/
theorem final_8 (d : Dev nD) : (dats m 0 d).arrAt 8 (cfgs 0).N = val_main_v77 (F := Ideal) (A0 m d) (A1 m d) := by
  refine (dats m 0 d).arrAt_eq_of_covers 8 _ (by decide +kernel) fun t hf y => ?_
  have ht : t.val < 256 := t.isLt
  have e0 := idx_val t
  blk_simp; rw [after0_8, out8_eq]
  frame_out
  obtain ⟨r, l, hy⟩ : ∃ (r : Fin 128) (l : Fin 256), y = ix3 (0 : Fin 1) r l :=
    ⟨y 1, y 2, (eq_ix3 y).trans (congrArg (fun a : Fin 1 => ix3 a (y 1 : Fin 128) (y 2 : Fin 256)) (Subsingleton.elim _ _))⟩
  rw [hy]
  refine (outv_apply m d t ht r l).trans ?_
  generalize val_main_v77 (F := Ideal) (A0 m d) (A1 m d) = X
  blk_ext [e0]

/-- The second result array. -/
theorem final_9 (d : Dev nD) : (dats m 0 d).arrAt 9 (cfgs 0).N = val_main_v79 (F := Ideal) (A0 m d) (A1 m d) := by
  refine (dats m 0 d).arrAt_eq_of_covers 9 _ (by decide +kernel) fun t hf y => ?_
  have ht : t.val < 256 := t.isLt
  have e0 := idx_val t
  blk_simp; rw [after0_9, out9_eq]
  frame_out
  obtain ⟨r, l, hy⟩ : ∃ (r : Fin 128) (l : Fin 256), y = ix3 (0 : Fin 1) r l :=
    ⟨y 1, y 2, (eq_ix3 y).trans (congrArg (fun a : Fin 1 => ix3 a (y 1 : Fin 128) (y 2 : Fin 256)) (Subsingleton.elim _ _))⟩
  rw [hy]
  refine (lsev_apply m d t ht r l).trans ?_
  generalize val_main_v79 (F := Ideal) (A0 m d) (A1 m d) = X
  blk_ext [e0]

end Cert.Win.Value

end
-- ==== Proof.ExpRun.lean ====
module

public import proofs.«01_k».proof.Proof.Gen.ExpertsIdeal.Skeleton
public import proofs.«01_k».proof.Proof.Gen.ExpertsIdeal.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Init

/-! The body of the expert call run on symbolic blocks, once for a block of rows in use and once for a block past the
    rows in use, at any contents of the two tables. -/

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S544 .i32 := Memref.whole main_arg0
abbrev tbM0_1 : Memref sig .tc .smem S1 .i32 := Memref.whole main_arg1

/-- The word of the second table, as the body reads it. -/
abbrev word1 (T1 : S1.Idx → Elt Ideal .i32) : Elt Ideal .i32 :=
  View.readAt (Elt Ideal) (tbM0_1).view (Rect.unit (s := S1) ![0] S1.size inb_S1_S1_0).toLoadRect T1 (Shape.Idx.first (numel1_S1.symm ▸ Nat.one_pos))

/-- One staging buffer of the output, through which its contents are stated. -/
abbrev VO0_5 : View sig .tc .vmem S256x1024 .f32 := (Memref.whole cc0_stg5_0 : Memref sig .tc .vmem S256x1024 .f32).view

set_option backward.proofsInPublic true in
set_option maxHeartbeats 8000000 in
/-- A block in use: the body leaves the expert's output in the block. -/
noncomputable def runG (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : k0_cond1 i (word1 T1) = 1#1) (h2 : ¬(k0_cond2 i (word1 T1) = 1#1)) :
    { out0 : List (View.Piece (Elt Ideal) S256x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_experts_eq_skeleton]; unfold cc0_moe_experts_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The stored piece of this path fills the output block. -/
theorem coverG (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : k0_cond1 i (word1 T1) = 1#1) (h2 : ¬(k0_cond2 i (word1 T1) = 1#1)) (y : S256x1024.Idx) :
    ∃ pc ∈ (runG c i arg3 harg3 arg4 harg4 arg5 harg5 arg6 harg6 arg7 harg7 arg8 harg8 T0 T1 x0 x1 x2 x3 x4 h1 h2).1, y ∈ pc.1.set :=
  View.cover_of_tiledL (runG c i arg3 harg3 arg4 harg4 arg5 harg5 arg6 harg6 arg7 harg7 arg8 harg8 T0 T1 x0 x1 x2 x3 x4 h1 h2).1 S256x1024.size (by sl_kernel_rfl) y

/-- What this path leaves in the output block. -/
def outG (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : k0_cond1 i (word1 T1) = 1#1) (h2 : ¬(k0_cond2 i (word1 T1) = 1#1)) : S256x1024.Idx → Elt Ideal .f32 :=
  VO0_5.read (Elt Ideal) (VO0_5.writes (Elt Ideal) VO0_5.junk (runG c i arg3 harg3 arg4 harg4 arg5 harg5 arg6 harg6 arg7 harg7 arg8 harg8 T0 T1 x0 x1 x2 x3 x4 h1 h2).1)

set_option backward.proofsInPublic true in
set_option maxHeartbeats 8000000 in
/-- A block past the rows in use: the body leaves zeros in the block. -/
noncomputable def runZ (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : ¬(k0_cond1 i (word1 T1) = 1#1)) (h2 : k0_cond2 i (word1 T1) = 1#1) :
    { out0 : List (View.Piece (Elt Ideal) S256x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_experts_eq_skeleton]; unfold cc0_moe_experts_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The stored piece of this path fills the output block. -/
theorem coverZ (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : ¬(k0_cond1 i (word1 T1) = 1#1)) (h2 : k0_cond2 i (word1 T1) = 1#1) (y : S256x1024.Idx) :
    ∃ pc ∈ (runZ c i arg3 harg3 arg4 harg4 arg5 harg5 arg6 harg6 arg7 harg7 arg8 harg8 T0 T1 x0 x1 x2 x3 x4 h1 h2).1, y ∈ pc.1.set :=
  View.cover_of_tiledL (runZ c i arg3 harg3 arg4 harg4 arg5 harg5 arg6 harg6 arg7 harg7 arg8 harg8 T0 T1 x0 x1 x2 x3 x4 h1 h2).1 S256x1024.size (by sl_kernel_rfl) y

/-- What this path leaves in the output block. -/
def outZ (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : ¬(k0_cond1 i (word1 T1) = 1#1)) (h2 : k0_cond2 i (word1 T1) = 1#1) : S256x1024.Idx → Elt Ideal .f32 :=
  VO0_5.read (Elt Ideal) (VO0_5.writes (Elt Ideal) VO0_5.junk (runZ c i arg3 harg3 arg4 harg4 arg5 harg5 arg6 harg6 arg7 harg7 arg8 harg8 T0 T1 x0 x1 x2 x3 x4 h1 h2).1)

end Cert.ExpertsIdeal.Hand

end
-- ==== Proof.ExpFrame.lean ====
module

public import proofs.«01_k».proof.Proof.ExpRun
public import Idealize.ShloMosaic.Lib.Pipeline.Quiescent
public import Idealize.ShloMosaic.Adequacy

/-! The pipeline of the expert call at any tables whose block experts are below 32: its side condition, its blocks, its
    launch, and the frame. -/

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

/-- Every word of the table of block experts names one of the 32 experts. -/
def InRange (T0 : S544.Idx → Elt Ideal .i32) : Prop := ∀ x, (show BitVec 32 from T0 x).toNat < 32

set_option backward.proofsInPublic true in
/-- The two tables as the launch's prefetched contents. -/
def pfOf (T0 : S544.Idx → Elt Ideal .i32) (T1 : S1.Idx → Elt Ideal .i32) : pre0.Contents (Elt Ideal) :=
  fun | ⟨0, _⟩ => T0 | ⟨1, _⟩ => T1 | ⟨_ + 2, h⟩ => absurd h (by simp)

theorem ok_1 (T0 : S544.Idx → Elt Ideal .i32) (T1 : S1.Idx → Elt Ideal .i32) (h : InRange T0) : ∀ i : grid0.Coords, ∃ h : (∀ a, (cc0_transform_1 k0_off1_inb numel1_S1 (pfOf T0 T1) i a + 1) * S1x1024x2048.size a ≤ S32x1024x2048.size a), EltTy.bits .bf16 = 32 ∨ (Rect.block (s := S32x1024x2048) S1x1024x2048.size (cc0_transform_1 k0_off1_inb numel1_S1 (pfOf T0 T1) i) h).WholeWords (EltTy.packing .bf16) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_1
    intro a
    fin_cases a
    · show (_ + 1) * 1 ≤ 32
      exact (Nat.mul_one _).symm ▸ Nat.succ_le_of_lt hw
    · show (0 + 1) * _ ≤ _; decide
    · show (0 + 1) * _ ≤ _; decide, .inr (Affine.block_words_dvd (s := S32x1024x2048) (p := EltTy.packing .bf16) (by decide) (by decide))⟩
theorem ok_2 (T0 : S544.Idx → Elt Ideal .i32) (T1 : S1.Idx → Elt Ideal .i32) (h : InRange T0) : ∀ i : grid0.Coords, ∃ h : (∀ a, (cc0_transform_2 k0_off1_inb numel1_S1 (pfOf T0 T1) i a + 1) * S1x1x2048.size a ≤ S32x1x2048.size a), EltTy.bits .f32 = 32 ∨ (Rect.block (s := S32x1x2048) S1x1x2048.size (cc0_transform_2 k0_off1_inb numel1_S1 (pfOf T0 T1) i) h).WholeWords (EltTy.packing .f32) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_2
    intro a
    fin_cases a
    · show (_ + 1) * 1 ≤ 32
      exact (Nat.mul_one _).symm ▸ Nat.succ_le_of_lt hw
    · show (0 + 1) * _ ≤ _; decide
    · show (0 + 1) * _ ≤ _; decide, .inl rfl⟩
theorem ok_3 (T0 : S544.Idx → Elt Ideal .i32) (T1 : S1.Idx → Elt Ideal .i32) (h : InRange T0) : ∀ i : grid0.Coords, ∃ h : (∀ a, (cc0_transform_3 k0_off1_inb numel1_S1 (pfOf T0 T1) i a + 1) * S1x1024x1024.size a ≤ S32x1024x1024.size a), EltTy.bits .bf16 = 32 ∨ (Rect.block (s := S32x1024x1024) S1x1024x1024.size (cc0_transform_3 k0_off1_inb numel1_S1 (pfOf T0 T1) i) h).WholeWords (EltTy.packing .bf16) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_3
    intro a
    fin_cases a
    · show (_ + 1) * 1 ≤ 32
      exact (Nat.mul_one _).symm ▸ Nat.succ_le_of_lt hw
    · show (0 + 1) * _ ≤ _; decide
    · show (0 + 1) * _ ≤ _; decide, .inr (Affine.block_words_dvd (s := S32x1024x1024) (p := EltTy.packing .bf16) (by decide) (by decide))⟩
theorem ok_4 (T0 : S544.Idx → Elt Ideal .i32) (T1 : S1.Idx → Elt Ideal .i32) (h : InRange T0) : ∀ i : grid0.Coords, ∃ h : (∀ a, (cc0_transform_4 k0_off1_inb numel1_S1 (pfOf T0 T1) i a + 1) * S1x1x1024.size a ≤ S32x1x1024.size a), EltTy.bits .f32 = 32 ∨ (Rect.block (s := S32x1x1024) S1x1x1024.size (cc0_transform_4 k0_off1_inb numel1_S1 (pfOf T0 T1) i) h).WholeWords (EltTy.packing .f32) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_4
    intro a
    fin_cases a
    · show (_ + 1) * 1 ≤ 32
      exact (Nat.mul_one _).symm ▸ Nat.succ_le_of_lt hw
    · show (0 + 1) * _ ≤ _; decide
    · show (0 + 1) * _ ≤ _; decide, .inl rfl⟩

/-- Tables with the experts in range. -/
structure Tab where
  T0 : S544.Idx → Elt Ideal .i32
  T1 : S1.Idx → Elt Ideal .i32
  rng : InRange T0

theorem ok_tab (ch : Tab) : ok0 (F := Ideal) (pfOf ch.T0 ch.T1) :=
  ⟨ok_1 _ _ ch.rng, ok_2 _ _ ch.rng, ok_3 _ _ ch.rng, ok_4 _ _ ch.rng⟩

variable (ch : Tab)

/-- The pipeline at these tables. -/
def adm : (pcfg0 (F := Ideal)).Adm := ⟨pfOf ch.T0 ch.T1, ok_tab ch⟩
abbrev cfgA : Pipeline.Cfg sig Λ₀ := cfg0 (F := Ideal) (adm ch)
abbrev pcs : Fin 1 → Pipeline.Cfg sig Λ₀ := Pipeline.pin (pcfgs (F := Ideal)) fun _ => adm ch

/-- The launch memory holds these tables. -/
def Pinned (m : (ℓ : Loc nD τ sig) → Buf (Elt Ideal) ℓ) : Prop :=
  (∀ c : Dev nD, m ((c : Thread nD τ).loc main_arg0) = ch.T0)
  ∧ (∀ c : Dev nD, m ((c : Thread nD τ).loc main_arg1) = ch.T1)

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S256x1024 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x1024x2048 .bf16 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1x2048 .f32 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1024x1024 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x1x1024 .f32 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S256x1024 .f32 := spec0_5.stage ((cfgA ch).slots t (5 : Fin 6))
abbrev hs0_5 (t : Fin (cfgA ch).N) : (ms0_5 ch t).IsWhole := hstage0_5 (((cfgA ch).slots t (5 : Fin 6)).cast nbuf0_5)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The two conditions exclude one another; the output is stored at every point -/

theorem cond_iff (i : grid0.Coords) (v : BitVec 32) : k0_cond2 i v = 1#1 ↔ ¬ k0_cond1 i v = 1#1 := by
  unfold k0_cond1 k0_cond2
  simp only [Scalar.cmpi, Scalar.extui]
  have e : (BitVec.ofNat 32 (i 0).val).slt v = !(v.sle (BitVec.ofNat 32 (i 0).val)) := by
    simp only [BitVec.slt, BitVec.sle]
    by_cases h : (BitVec.ofNat 32 (i 0).val).toInt < v.toInt
    · simp [h]
    · simp [h, not_lt.mp h]
  simp only [IntOp.cmpi, e]
  cases h : v.sle (BitVec.ofNat 32 (i 0).val) <;> decide

theorem ncond2 {i : grid0.Coords} {v : BitVec 32} (h : k0_cond1 i v = 1#1) : ¬ k0_cond2 i v = 1#1 := fun h2 => (cond_iff i v).mp h2 h
theorem cond2_of {i : grid0.Coords} {v : BitVec 32} (h : ¬ k0_cond1 i v = 1#1) : k0_cond2 i v = 1#1 := (cond_iff i v).mpr h

theorem idle5 (i : grid0.Coords) : (cfgA ch).idle (5 : Fin 6) i = false := by
  show (!(k0_cond1 i _ == 1#1) && !(k0_cond2 i _ == 1#1)) = false
  generalize ((adm ch).1.atD 1 ![0] : BitVec 32) = v
  by_cases h : k0_cond1 i v = 1#1
  · simp [h]
  · simp [cond2_of h]

theorem flush5 (t : Fin (cfgA ch).N) : ((cfgA ch).win (5 : Fin 6)).flush t = true :=
  (Pipeline.Window.flush_reads ((cfgA ch).win (5 : Fin 6)) rfl 0 (show 1 < 544 by decide) (show grid0.fixedAfter reads0_5 0 = true by decide)
    (Pipeline.Window.sep_of_coord cc0_transform_5 0 0 (fun _ => rfl) (by decide)) (P := 1) (m := 0) (show grid0.stride 0 = 1 by decide) rfl t).mpr (Nat.mod_one _)

theorem fresh5 : ∀ n, (cfgA ch).fresh (5 : Fin 6) n = true
  | 0 => Pipeline.Cfg.fresh_zero _ _
  | n + 1 => by
    by_cases h : n < (cfgA ch).N
    · rw [Pipeline.Cfg.fresh_succ _ _ n h, flush5]; rfl
    · unfold Pipeline.Cfg.fresh; rw [dif_neg h]

/-! ## The proof data -/

/-- What the output block holds after point `t`. -/
def step0 (c : Dev nD) (t : Fin (cfgA ch).N) : S256x1024.Idx → Elt Ideal .f32 :=
  if h1 : k0_cond1 (crd ch t) (word1 ch.T1) = 1#1 then
    outG c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (ncond2 h1)
  else
    outZ c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (cond2_of h1)

theorem step0_G (c : Dev nD) (t : Fin (cfgA ch).N) (h1 : k0_cond1 (crd ch t) (word1 ch.T1) = 1#1) :
    step0 ch m ρ c t = outG c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (ncond2 h1) := dif_pos h1
theorem step0_Z (c : Dev nD) (t : Fin (cfgA ch).N) (h1 : ¬ k0_cond1 (crd ch t) (word1 ch.T1) = 1#1) :
    step0 ch m ρ c t = outZ c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (cond2_of h1) := dif_neg h1

/-- Between points: the body's halves of the tables. -/
def Phi (c : Dev nD) : sProp 𝕄 :=
  iprop((tbM0_0.view.loc (c : Thread nD τ) ↦{fullShare.right} ch.T0) ∗ (tbM0_1.view.loc (c : Thread nD τ) ↦{fullShare.right} ch.T1))

/-- The proof data of the pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => step0 ch m ρ c t
  Φ _ := Phi ch c
  q _ := fullShare
  owed _ := 0

theorem after0_0 (c : Dev nD) (t : Fin (cfgA ch).N) : (dats ch m ρ 0 c).after (0 : Fin 6) t = iblk ch m ρ c (0 : Fin 6) t := rfl
theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem after0_1 (c : Dev nD) (t : Fin (cfgA ch).N) : (dats ch m ρ 0 c).after (1 : Fin 6) t = iblk ch m ρ c (1 : Fin 6) t := rfl
theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem after0_2 (c : Dev nD) (t : Fin (cfgA ch).N) : (dats ch m ρ 0 c).after (2 : Fin 6) t = iblk ch m ρ c (2 : Fin 6) t := rfl
theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem after0_3 (c : Dev nD) (t : Fin (cfgA ch).N) : (dats ch m ρ 0 c).after (3 : Fin 6) t = iblk ch m ρ c (3 : Fin 6) t := rfl
theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem after0_4 (c : Dev nD) (t : Fin (cfgA ch).N) : (dats ch m ρ 0 c).after (4 : Fin 6) t = iblk ch m ρ c (4 : Fin 6) t := rfl
theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem after0_5 (c : Dev nD) (t : Fin (cfgA ch).N) : (dats ch m ρ 0 c).after (5 : Fin 6) t = step0 ch m ρ c t := rfl

theorem before0_5 (c : Dev nD) (t : Fin (cfgA ch).N) (d) : (dats ch m ρ 0 c).before (5 : Fin 6) t d = d := by
  rw [(dats ch m ρ 0 c).before_out_traj (5 : Fin 6) rfl (fun _ _ => rfl)
    (fun t _ hi _ => absurd ((idle5 ch _).symm.trans hi) (by decide)) t.val t rfl d, fresh5 ch]
  rfl

/-! ## The body at a point -/

abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle5 ch ((cfgA ch).grid.coords t)]
  simp only [before0_0, before0_1, before0_2, before0_3, before0_4, before0_5, after0_0, after0_1, after0_2, after0_3, after0_4, after0_5]
  rewrite [show (dats ch m ρ 0 c).Φ t.succ = Phi ch c from rfl, show (dats ch m ρ 0 c).Φ t.castSucc = Phi ch c from rfl,
    show (dats ch m ρ 0 c).owesAt () t.succ = (dats ch m ρ 0 c).owesAt () t.castSucc from rfl]
  unfold Phi
  by_cases h1 : k0_cond1 (crd ch t) (word1 ch.T1) = 1#1
  ·
    rewrite [step0_G ch m ρ c t h1]
    iintro ⟨⟨HT0, HT1⟩, Ho, ⟨%d0, H0⟩, ⟨%d1, H1⟩, ⟨%d2, H2⟩, ⟨%d3, H3⟩, ⟨%d4, H4⟩, ⟨%d5, H5⟩⟩
    iapply ((runG c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (ncond2 h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (coverG c _ _ _ _ _ _ _ _ _ _ _ _ _ _ _ _ _ _ _ _ _ _)
  ·
    rewrite [step0_Z ch m ρ c t h1]
    iintro ⟨⟨HT0, HT1⟩, Ho, ⟨%d0, H0⟩, ⟨%d1, H1⟩, ⟨%d2, H2⟩, ⟨%d3, H3⟩, ⟨%d4, H4⟩, ⟨%d5, H5⟩⟩
    iapply ((runZ c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (cond2_of h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (coverZ c _ _ _ _ _ _ _ _ _ _ _ _ _ _ _ _ _ _ _ _ _ _)

theorem body_obligation (c : Dev nD) : BodyObligation (dats ch m ρ 0 c) (defs₀ (F := Ideal)) Variants.none () Set.univ := fun t => by
  rw [bigSep_W0]
  exact sound_body ch m ρ c t

/-! ## The launch -/

def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c from rfl]
  unfold Phi
  iintro ⟨-, -⟩
  isplitr; · iempintro
  iempintro

/-- Every array ends at its computed contents, every table as it was. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- The argument arrays end unchanged and the result at its computed contents. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_v0) = (dats ch m ρ 0 c).arrAt (5 : Fin 6) (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 (5 : Fin 6), ((h c).2 0).trans (hp.1 c).symm, ((h c).2 1).trans (hp.2 c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _), ((h c).1 (4 : Fin 6)).trans ((dats ch m ρ 0 c).arrAt_in (4 : Fin 6) rfl _)⟩) (run_main ch m ρ hp)

/-- The frame: the arguments end unchanged and every counter at zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (unchanged ch m ρ hp)) ((θ_run defs _ _).mono (fun _ h => h.2) (run_main_quiescent ch m ρ hp))

end Cert.ExpertsIdeal.Hand

end
-- ==== Proof.ExpRunB.lean ====
module

public import proofs.«01_k».proof.Proof.Gen.Experts.Skeleton
public import proofs.«01_k».proof.Proof.Gen.Experts.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Init

/-! The body of the expert call run on symbolic blocks, once for a block of rows in use and once for a block past the
    rows in use, at any contents of the two tables. -/

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev tbM0_0 : Memref sig .tc .smem S544 .i32 := Memref.whole main_arg0
abbrev tbM0_1 : Memref sig .tc .smem S1 .i32 := Memref.whole main_arg1

/-- The word of the second table, as the body reads it. -/
abbrev word1 (T1 : S1.Idx → Elt Bits .i32) : Elt Bits .i32 :=
  View.readAt (Elt Bits) (tbM0_1).view (Rect.unit (s := S1) ![0] S1.size inb_S1_S1_0).toLoadRect T1 (Shape.Idx.first (numel1_S1.symm ▸ Nat.one_pos))

/-- One staging buffer of the output, through which its contents are stated. -/
abbrev VO0_5 : View sig .tc .vmem S256x1024 .f32 := (Memref.whole cc0_stg5_0 : Memref sig .tc .vmem S256x1024 .f32).view

set_option backward.proofsInPublic true in
set_option maxHeartbeats 8000000 in
/-- A block in use: the body leaves the expert's output in the block. -/
noncomputable def runG (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Bits .i32) (T1 : S1.Idx → Elt Bits .i32)
    (x0 : S256x1024.Idx → Elt Bits .f32) (x1 : S1x1024x2048.Idx → Elt Bits .bf16) (x2 : S1x1x2048.Idx → Elt Bits .f32) (x3 : S1x1024x1024.Idx → Elt Bits .bf16) (x4 : S1x1x1024.Idx → Elt Bits .f32)
    (h1 : k0_cond1 i (word1 T1) = 1#1) (h2 : ¬(k0_cond2 i (word1 T1) = 1#1)) :
    { out0 : List (View.Piece (Elt Bits) S256x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_experts_eq_skeleton]; unfold cc0_moe_experts_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The stored piece of this path fills the output block. -/
theorem coverG (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Bits .i32) (T1 : S1.Idx → Elt Bits .i32)
    (x0 : S256x1024.Idx → Elt Bits .f32) (x1 : S1x1024x2048.Idx → Elt Bits .bf16) (x2 : S1x1x2048.Idx → Elt Bits .f32) (x3 : S1x1024x1024.Idx → Elt Bits .bf16) (x4 : S1x1x1024.Idx → Elt Bits .f32)
    (h1 : k0_cond1 i (word1 T1) = 1#1) (h2 : ¬(k0_cond2 i (word1 T1) = 1#1)) (y : S256x1024.Idx) :
    ∃ pc ∈ (runG c i arg3 harg3 arg4 harg4 arg5 harg5 arg6 harg6 arg7 harg7 arg8 harg8 T0 T1 x0 x1 x2 x3 x4 h1 h2).1, y ∈ pc.1.set :=
  View.cover_of_tiledL (runG c i arg3 harg3 arg4 harg4 arg5 harg5 arg6 harg6 arg7 harg7 arg8 harg8 T0 T1 x0 x1 x2 x3 x4 h1 h2).1 S256x1024.size (by sl_kernel_rfl) y

/-- What this path leaves in the output block. -/
def outG (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Bits .i32) (T1 : S1.Idx → Elt Bits .i32)
    (x0 : S256x1024.Idx → Elt Bits .f32) (x1 : S1x1024x2048.Idx → Elt Bits .bf16) (x2 : S1x1x2048.Idx → Elt Bits .f32) (x3 : S1x1024x1024.Idx → Elt Bits .bf16) (x4 : S1x1x1024.Idx → Elt Bits .f32)
    (h1 : k0_cond1 i (word1 T1) = 1#1) (h2 : ¬(k0_cond2 i (word1 T1) = 1#1)) : S256x1024.Idx → Elt Bits .f32 :=
  VO0_5.read (Elt Bits) (VO0_5.writes (Elt Bits) VO0_5.junk (runG c i arg3 harg3 arg4 harg4 arg5 harg5 arg6 harg6 arg7 harg7 arg8 harg8 T0 T1 x0 x1 x2 x3 x4 h1 h2).1)

set_option backward.proofsInPublic true in
set_option maxHeartbeats 8000000 in
/-- A block past the rows in use: the body leaves zeros in the block. -/
noncomputable def runZ (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Bits .i32) (T1 : S1.Idx → Elt Bits .i32)
    (x0 : S256x1024.Idx → Elt Bits .f32) (x1 : S1x1024x2048.Idx → Elt Bits .bf16) (x2 : S1x1x2048.Idx → Elt Bits .f32) (x3 : S1x1024x1024.Idx → Elt Bits .bf16) (x4 : S1x1x1024.Idx → Elt Bits .f32)
    (h1 : ¬(k0_cond1 i (word1 T1) = 1#1)) (h2 : k0_cond2 i (word1 T1) = 1#1) :
    { out0 : List (View.Piece (Elt Bits) S256x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_experts_eq_skeleton]; unfold cc0_moe_experts_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The stored piece of this path fills the output block. -/
theorem coverZ (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Bits .i32) (T1 : S1.Idx → Elt Bits .i32)
    (x0 : S256x1024.Idx → Elt Bits .f32) (x1 : S1x1024x2048.Idx → Elt Bits .bf16) (x2 : S1x1x2048.Idx → Elt Bits .f32) (x3 : S1x1024x1024.Idx → Elt Bits .bf16) (x4 : S1x1x1024.Idx → Elt Bits .f32)
    (h1 : ¬(k0_cond1 i (word1 T1) = 1#1)) (h2 : k0_cond2 i (word1 T1) = 1#1) (y : S256x1024.Idx) :
    ∃ pc ∈ (runZ c i arg3 harg3 arg4 harg4 arg5 harg5 arg6 harg6 arg7 harg7 arg8 harg8 T0 T1 x0 x1 x2 x3 x4 h1 h2).1, y ∈ pc.1.set :=
  View.cover_of_tiledL (runZ c i arg3 harg3 arg4 harg4 arg5 harg5 arg6 harg6 arg7 harg7 arg8 harg8 T0 T1 x0 x1 x2 x3 x4 h1 h2).1 S256x1024.size (by sl_kernel_rfl) y

/-- What this path leaves in the output block. -/
def outZ (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Bits .i32) (T1 : S1.Idx → Elt Bits .i32)
    (x0 : S256x1024.Idx → Elt Bits .f32) (x1 : S1x1024x2048.Idx → Elt Bits .bf16) (x2 : S1x1x2048.Idx → Elt Bits .f32) (x3 : S1x1024x1024.Idx → Elt Bits .bf16) (x4 : S1x1x1024.Idx → Elt Bits .f32)
    (h1 : ¬(k0_cond1 i (word1 T1) = 1#1)) (h2 : k0_cond2 i (word1 T1) = 1#1) : S256x1024.Idx → Elt Bits .f32 :=
  VO0_5.read (Elt Bits) (VO0_5.writes (Elt Bits) VO0_5.junk (runZ c i arg3 harg3 arg4 harg4 arg5 harg5 arg6 harg6 arg7 harg7 arg8 harg8 T0 T1 x0 x1 x2 x3 x4 h1 h2).1)

end Cert.Experts.Hand

end
-- ==== Proof.ExpFrameB.lean ====
module

public import proofs.«01_k».proof.Proof.ExpRunB
public import Idealize.ShloMosaic.Lib.Pipeline.Quiescent
public import Idealize.ShloMosaic.Adequacy

/-! The pipeline of the expert call at any tables whose block experts are below 32: its side condition, its blocks, its
    launch, and the frame. -/

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

/-- Every word of the table of block experts names one of the 32 experts. -/
def InRange (T0 : S544.Idx → Elt Bits .i32) : Prop := ∀ x, (show BitVec 32 from T0 x).toNat < 32

set_option backward.proofsInPublic true in
/-- The two tables as the launch's prefetched contents. -/
def pfOf (T0 : S544.Idx → Elt Bits .i32) (T1 : S1.Idx → Elt Bits .i32) : pre0.Contents (Elt Bits) :=
  fun | ⟨0, _⟩ => T0 | ⟨1, _⟩ => T1 | ⟨_ + 2, h⟩ => absurd h (by simp)

theorem ok_1 (T0 : S544.Idx → Elt Bits .i32) (T1 : S1.Idx → Elt Bits .i32) (h : InRange T0) : ∀ i : grid0.Coords, ∃ h : (∀ a, (cc0_transform_1 k0_off1_inb numel1_S1 (pfOf T0 T1) i a + 1) * S1x1024x2048.size a ≤ S32x1024x2048.size a), EltTy.bits .bf16 = 32 ∨ (Rect.block (s := S32x1024x2048) S1x1024x2048.size (cc0_transform_1 k0_off1_inb numel1_S1 (pfOf T0 T1) i) h).WholeWords (EltTy.packing .bf16) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_1
    intro a
    fin_cases a
    · show (_ + 1) * 1 ≤ 32
      exact (Nat.mul_one _).symm ▸ Nat.succ_le_of_lt hw
    · show (0 + 1) * _ ≤ _; decide
    · show (0 + 1) * _ ≤ _; decide, .inr (Affine.block_words_dvd (s := S32x1024x2048) (p := EltTy.packing .bf16) (by decide) (by decide))⟩
theorem ok_2 (T0 : S544.Idx → Elt Bits .i32) (T1 : S1.Idx → Elt Bits .i32) (h : InRange T0) : ∀ i : grid0.Coords, ∃ h : (∀ a, (cc0_transform_2 k0_off1_inb numel1_S1 (pfOf T0 T1) i a + 1) * S1x1x2048.size a ≤ S32x1x2048.size a), EltTy.bits .f32 = 32 ∨ (Rect.block (s := S32x1x2048) S1x1x2048.size (cc0_transform_2 k0_off1_inb numel1_S1 (pfOf T0 T1) i) h).WholeWords (EltTy.packing .f32) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_2
    intro a
    fin_cases a
    · show (_ + 1) * 1 ≤ 32
      exact (Nat.mul_one _).symm ▸ Nat.succ_le_of_lt hw
    · show (0 + 1) * _ ≤ _; decide
    · show (0 + 1) * _ ≤ _; decide, .inl rfl⟩
theorem ok_3 (T0 : S544.Idx → Elt Bits .i32) (T1 : S1.Idx → Elt Bits .i32) (h : InRange T0) : ∀ i : grid0.Coords, ∃ h : (∀ a, (cc0_transform_3 k0_off1_inb numel1_S1 (pfOf T0 T1) i a + 1) * S1x1024x1024.size a ≤ S32x1024x1024.size a), EltTy.bits .bf16 = 32 ∨ (Rect.block (s := S32x1024x1024) S1x1024x1024.size (cc0_transform_3 k0_off1_inb numel1_S1 (pfOf T0 T1) i) h).WholeWords (EltTy.packing .bf16) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_3
    intro a
    fin_cases a
    · show (_ + 1) * 1 ≤ 32
      exact (Nat.mul_one _).symm ▸ Nat.succ_le_of_lt hw
    · show (0 + 1) * _ ≤ _; decide
    · show (0 + 1) * _ ≤ _; decide, .inr (Affine.block_words_dvd (s := S32x1024x1024) (p := EltTy.packing .bf16) (by decide) (by decide))⟩
theorem ok_4 (T0 : S544.Idx → Elt Bits .i32) (T1 : S1.Idx → Elt Bits .i32) (h : InRange T0) : ∀ i : grid0.Coords, ∃ h : (∀ a, (cc0_transform_4 k0_off1_inb numel1_S1 (pfOf T0 T1) i a + 1) * S1x1x1024.size a ≤ S32x1x1024.size a), EltTy.bits .f32 = 32 ∨ (Rect.block (s := S32x1x1024) S1x1x1024.size (cc0_transform_4 k0_off1_inb numel1_S1 (pfOf T0 T1) i) h).WholeWords (EltTy.packing .f32) := fun i =>
  ⟨by
    have hw : ((pfOf T0 T1).at 0 (Rect.unit (s := S544) ![(Scalar.indexCast (BitVec.ofNat 32 (i 0).val) : Index).toNat] S1.size (k0_off1_inb i)) numel1_S1 : BitVec 32).toNat < 32 := h _
    unfold cc0_transform_4
    intro a
    fin_cases a
    · show (_ + 1) * 1 ≤ 32
      exact (Nat.mul_one _).symm ▸ Nat.succ_le_of_lt hw
    · show (0 + 1) * _ ≤ _; decide
    · show (0 + 1) * _ ≤ _; decide, .inl rfl⟩

/-- Tables with the experts in range. -/
structure Tab where
  T0 : S544.Idx → Elt Bits .i32
  T1 : S1.Idx → Elt Bits .i32
  rng : InRange T0

theorem ok_tab (ch : Tab) : ok0 (F := Bits) (pfOf ch.T0 ch.T1) :=
  ⟨ok_1 _ _ ch.rng, ok_2 _ _ ch.rng, ok_3 _ _ ch.rng, ok_4 _ _ ch.rng⟩

variable (ch : Tab)

/-- The pipeline at these tables. -/
def adm : (pcfg0 (F := Bits)).Adm := ⟨pfOf ch.T0 ch.T1, ok_tab ch⟩
abbrev cfgA : Pipeline.Cfg sig Λ₀ := cfg0 (F := Bits) (adm ch)
abbrev pcs : Fin 1 → Pipeline.Cfg sig Λ₀ := Pipeline.pin (pcfgs (F := Bits)) fun _ => adm ch

/-- The launch memory holds these tables. -/
def Pinned (m : (ℓ : Loc nD τ sig) → Buf (Elt Bits) ℓ) : Prop :=
  (∀ c : Dev nD, m ((c : Thread nD τ).loc main_arg0) = ch.T0)
  ∧ (∀ c : Dev nD, m ((c : Thread nD τ).loc main_arg1) = ch.T1)

variable (m : (ℓ : Loc nD τ sig) → Buf (Elt Bits) ℓ) (ρ : Dev nD → PrngReg)

abbrev crd (t : Fin (cfgA ch).N) : (cfgA ch).grid.Coords := (cfgA ch).grid.coords t

abbrev ms0_0 (t : Fin (cfgA ch).N) : Memref sig .tc .vmem S256x1024 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x1024x2048 .bf16 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1x2048 .f32 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1024x1024 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x1x1024 .f32 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S256x1024 .f32 := spec0_5.stage ((cfgA ch).slots t (5 : Fin 6))
abbrev hs0_5 (t : Fin (cfgA ch).N) : (ms0_5 ch t).IsWhole := hstage0_5 (((cfgA ch).slots t (5 : Fin 6)).cast nbuf0_5)

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The two conditions exclude one another; the output is stored at every point -/

theorem cond_iff (i : grid0.Coords) (v : BitVec 32) : k0_cond2 i v = 1#1 ↔ ¬ k0_cond1 i v = 1#1 := by
  unfold k0_cond1 k0_cond2
  simp only [Scalar.cmpi, Scalar.extui]
  have e : (BitVec.ofNat 32 (i 0).val).slt v = !(v.sle (BitVec.ofNat 32 (i 0).val)) := by
    simp only [BitVec.slt, BitVec.sle]
    by_cases h : (BitVec.ofNat 32 (i 0).val).toInt < v.toInt
    · simp [h]
    · simp [h, not_lt.mp h]
  simp only [IntOp.cmpi, e]
  cases h : v.sle (BitVec.ofNat 32 (i 0).val) <;> decide

theorem ncond2 {i : grid0.Coords} {v : BitVec 32} (h : k0_cond1 i v = 1#1) : ¬ k0_cond2 i v = 1#1 := fun h2 => (cond_iff i v).mp h2 h
theorem cond2_of {i : grid0.Coords} {v : BitVec 32} (h : ¬ k0_cond1 i v = 1#1) : k0_cond2 i v = 1#1 := (cond_iff i v).mpr h

theorem idle5 (i : grid0.Coords) : (cfgA ch).idle (5 : Fin 6) i = false := by
  show (!(k0_cond1 i _ == 1#1) && !(k0_cond2 i _ == 1#1)) = false
  generalize ((adm ch).1.atD 1 ![0] : BitVec 32) = v
  by_cases h : k0_cond1 i v = 1#1
  · simp [h]
  · simp [cond2_of h]

theorem flush5 (t : Fin (cfgA ch).N) : ((cfgA ch).win (5 : Fin 6)).flush t = true :=
  (Pipeline.Window.flush_reads ((cfgA ch).win (5 : Fin 6)) rfl 0 (show 1 < 544 by decide) (show grid0.fixedAfter reads0_5 0 = true by decide)
    (Pipeline.Window.sep_of_coord cc0_transform_5 0 0 (fun _ => rfl) (by decide)) (P := 1) (m := 0) (show grid0.stride 0 = 1 by decide) rfl t).mpr (Nat.mod_one _)

theorem fresh5 : ∀ n, (cfgA ch).fresh (5 : Fin 6) n = true
  | 0 => Pipeline.Cfg.fresh_zero _ _
  | n + 1 => by
    by_cases h : n < (cfgA ch).N
    · rw [Pipeline.Cfg.fresh_succ _ _ n h, flush5]; rfl
    · unfold Pipeline.Cfg.fresh; rw [dif_neg h]

/-! ## The proof data -/

/-- What the output block holds after point `t`. -/
def step0 (c : Dev nD) (t : Fin (cfgA ch).N) : S256x1024.Idx → Elt Bits .f32 :=
  if h1 : k0_cond1 (crd ch t) (word1 ch.T1) = 1#1 then
    outG c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (ncond2 h1)
  else
    outZ c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (cond2_of h1)

theorem step0_G (c : Dev nD) (t : Fin (cfgA ch).N) (h1 : k0_cond1 (crd ch t) (word1 ch.T1) = 1#1) :
    step0 ch m ρ c t = outG c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (ncond2 h1) := dif_pos h1
theorem step0_Z (c : Dev nD) (t : Fin (cfgA ch).N) (h1 : ¬ k0_cond1 (crd ch t) (word1 ch.T1) = 1#1) :
    step0 ch m ρ c t = outZ c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (cond2_of h1) := dif_neg h1

/-- Between points: the body's halves of the tables. -/
def Phi (c : Dev nD) : sProp 𝕄 :=
  iprop((tbM0_0.view.loc (c : Thread nD τ) ↦{fullShare.right} ch.T0) ∗ (tbM0_1.view.loc (c : Thread nD τ) ↦{fullShare.right} ch.T1))

/-- The proof data of the pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => step0 ch m ρ c t
  Φ _ := Phi ch c
  q _ := fullShare
  owed _ := 0

theorem after0_0 (c : Dev nD) (t : Fin (cfgA ch).N) : (dats ch m ρ 0 c).after (0 : Fin 6) t = iblk ch m ρ c (0 : Fin 6) t := rfl
theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem after0_1 (c : Dev nD) (t : Fin (cfgA ch).N) : (dats ch m ρ 0 c).after (1 : Fin 6) t = iblk ch m ρ c (1 : Fin 6) t := rfl
theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem after0_2 (c : Dev nD) (t : Fin (cfgA ch).N) : (dats ch m ρ 0 c).after (2 : Fin 6) t = iblk ch m ρ c (2 : Fin 6) t := rfl
theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem after0_3 (c : Dev nD) (t : Fin (cfgA ch).N) : (dats ch m ρ 0 c).after (3 : Fin 6) t = iblk ch m ρ c (3 : Fin 6) t := rfl
theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem after0_4 (c : Dev nD) (t : Fin (cfgA ch).N) : (dats ch m ρ 0 c).after (4 : Fin 6) t = iblk ch m ρ c (4 : Fin 6) t := rfl
theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem after0_5 (c : Dev nD) (t : Fin (cfgA ch).N) : (dats ch m ρ 0 c).after (5 : Fin 6) t = step0 ch m ρ c t := rfl

theorem before0_5 (c : Dev nD) (t : Fin (cfgA ch).N) (d) : (dats ch m ρ 0 c).before (5 : Fin 6) t d = d := by
  rw [(dats ch m ρ 0 c).before_out_traj (5 : Fin 6) rfl (fun _ _ => rfl)
    (fun t _ hi _ => absurd ((idle5 ch _).symm.trans hi) (by decide)) t.val t rfl d, fresh5 ch]
  rfl

/-! ## The body at a point -/

abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle5 ch ((cfgA ch).grid.coords t)]
  simp only [before0_0, before0_1, before0_2, before0_3, before0_4, before0_5, after0_0, after0_1, after0_2, after0_3, after0_4, after0_5]
  rewrite [show (dats ch m ρ 0 c).Φ t.succ = Phi ch c from rfl, show (dats ch m ρ 0 c).Φ t.castSucc = Phi ch c from rfl,
    show (dats ch m ρ 0 c).owesAt () t.succ = (dats ch m ρ 0 c).owesAt () t.castSucc from rfl]
  unfold Phi
  by_cases h1 : k0_cond1 (crd ch t) (word1 ch.T1) = 1#1
  ·
    rewrite [step0_G ch m ρ c t h1]
    iintro ⟨⟨HT0, HT1⟩, Ho, ⟨%d0, H0⟩, ⟨%d1, H1⟩, ⟨%d2, H2⟩, ⟨%d3, H3⟩, ⟨%d4, H4⟩, ⟨%d5, H5⟩⟩
    iapply ((runG c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (ncond2 h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (coverG c _ _ _ _ _ _ _ _ _ _ _ _ _ _ _ _ _ _ _ _ _ _)
  ·
    rewrite [step0_Z ch m ρ c t h1]
    iintro ⟨⟨HT0, HT1⟩, Ho, ⟨%d0, H0⟩, ⟨%d1, H1⟩, ⟨%d2, H2⟩, ⟨%d3, H3⟩, ⟨%d4, H4⟩, ⟨%d5, H5⟩⟩
    iapply ((runZ c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) ch.T0 ch.T1 (iblk ch m ρ c (0 : Fin 6) t) (iblk ch m ρ c (1 : Fin 6) t) (iblk ch m ρ c (2 : Fin 6) t) (iblk ch m ρ c (3 : Fin 6) t) (iblk ch m ρ c (4 : Fin 6) t) h1 (cond2_of h1)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (coverZ c _ _ _ _ _ _ _ _ _ _ _ _ _ _ _ _ _ _ _ _ _ _)

theorem body_obligation (c : Dev nD) : BodyObligation (dats ch m ρ 0 c) (defs₀ (F := Bits)) Variants.none () Set.univ := fun t => by
  rw [bigSep_W0]
  exact sound_body ch m ρ c t

/-! ## The launch -/

def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c from rfl]
  unfold Phi
  iintro ⟨-, ⟨HT0, HT1⟩, -⟩
  isplitl [HT0]
  · iexact HT0
  iexact HT1

theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c from rfl]
  unfold Phi
  iintro ⟨-, -⟩
  isplitr; · iempintro
  iempintro

/-- Every array ends at its computed contents, every table as it was. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- The argument arrays end unchanged and the result at its computed contents. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_v0) = (dats ch m ρ 0 c).arrAt (5 : Fin 6) (cfgA ch).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 (5 : Fin 6), ((h c).2 0).trans (hp.1 c).symm, ((h c).2 1).trans (hp.2 c).symm, ((h c).1 (0 : Fin 6)).trans ((dats ch m ρ 0 c).arrAt_in (0 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _), ((h c).1 (4 : Fin 6)).trans ((dats ch m ρ 0 c).arrAt_in (4 : Fin 6) rfl _)⟩) (run_main ch m ρ hp)

/-- The frame: the arguments end unchanged and every counter at zero. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (unchanged ch m ρ hp)) ((θ_run defs _ _).mono (fun _ h => h.2) (run_main_quiescent ch m ρ hp))

end Cert.Experts.Hand

end
-- ==== Proof.ExpTables.lean ====
module

public import proofs.«01_k».proof.Defs
public import proofs.«01_k».proof.Proof.ExpFrame
public import proofs.«01_k».proof.Proof.ExpFrameB
public import proofs.«01_k».proof.Proof.Gen.Pre_experts_in_range

/-! The tables a launch memory holds, and that the precondition puts the block experts in range. -/

@[expose] public section

noncomputable section

open Idealize.ShloMosaic Idealize.ShloMosaic.TcCoe Idealize.SL.Sem

namespace Cert.ExpTables

theorem word_lt (w : BitVec 32) (h : IntOp.andi (IntOp.cmpi .sge w 0#32) (IntOp.cmpi .slt w 32#32) = 1#1) : w.toNat < 32 := by
  have h1 : (0#32).sle w = true := by
    by_contra hc
    rw [Bool.not_eq_true] at hc
    simp [IntOp.cmpi, IntOp.andi, hc] at h
  have h2 : w.slt 32#32 = true := by
    by_contra hc
    rw [Bool.not_eq_true] at hc
    simp [IntOp.cmpi, IntOp.andi, hc] at h
  simp only [BitVec.sle, BitVec.slt, decide_eq_true_eq] at h1 h2
  have e0 : (0#32).toInt = 0 := by decide
  have e1 : (32#32).toInt = 32 := by decide
  rw [e0] at h1
  rw [e1] at h2
  rw [BitVec.toInt_eq_toNat_cond] at h1 h2
  split at h1 <;> split at h2 <;> omega

end Cert.ExpTables

namespace Cert.ExpertsIdeal.Hand

open Cert.ExpertsIdeal

theorem inRange_of (m : (ℓ : Loc nD τ sig) → Buf (Elt Ideal) ℓ) (h : Cert.Pre_ExpertsIdeal m) (c : Dev nD) :
    InRange (m ((c : Thread nD τ).loc main_arg0)) := fun x =>
  Cert.ExpTables.word_lt _ (congrFun (h c) x)

/-- The tables the launch memory holds. -/
def tabOf (m : (ℓ : Loc nD τ sig) → Buf (Elt Ideal) ℓ) (h : Cert.Pre_ExpertsIdeal m) : Tab :=
  ⟨m (((0 : Dev nD) : Thread nD τ).loc main_arg0), m (((0 : Dev nD) : Thread nD τ).loc main_arg1), inRange_of m h 0⟩

theorem pinned_tabOf (m : (ℓ : Loc nD τ sig) → Buf (Elt Ideal) ℓ) (h : Cert.Pre_ExpertsIdeal m) : Pinned (tabOf m h) m :=
  ⟨fun c => by rw [show c = (0 : Dev nD) from Subsingleton.elim _ _]; rfl, fun c => by rw [show c = (0 : Dev nD) from Subsingleton.elim _ _]; rfl⟩

end Cert.ExpertsIdeal.Hand

namespace Cert.Experts.Hand

open Cert.Experts

theorem inRange_of (m : (ℓ : Loc nD τ sig) → Buf (Elt Bits) ℓ) (h : Cert.Pre_Experts m) (c : Dev nD) :
    InRange (m ((c : Thread nD τ).loc main_arg0)) := fun x =>
  Cert.ExpTables.word_lt _ (congrFun (h c) x)

/-- The tables the launch memory holds. -/
def tabOf (m : (ℓ : Loc nD τ sig) → Buf (Elt Bits) ℓ) (h : Cert.Pre_Experts m) : Tab :=
  ⟨m (((0 : Dev nD) : Thread nD τ).loc main_arg0), m (((0 : Dev nD) : Thread nD τ).loc main_arg1), inRange_of m h 0⟩

theorem pinned_tabOf (m : (ℓ : Loc nD τ sig) → Buf (Elt Bits) ℓ) (h : Cert.Pre_Experts m) : Pinned (tabOf m h) m :=
  ⟨fun c => by rw [show c = (0 : Dev nD) from Subsingleton.elim _ _]; rfl, fun c => by rw [show c = (0 : Dev nD) from Subsingleton.elim _ _]; rfl⟩

end Cert.Experts.Hand

end
-- ==== Proof.ExpRef.lean ====
/- The experts' reference read at an index. -/
module

public import proofs.«01_k».proof.Proof.Gen.ExpertsReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Exp

/-- The slabs of a table of 32 gathered at a column of numbers: slab `idx`, clamped into the table. -/
theorem gather_slab {N A B : Nat} (wf : GatherDims.WF ⟨3, ![32, A, B]⟩ ⟨2, ![N, 1]⟩ ⟨3, ![N, A, B]⟩ [1, 2] [0] [] [0] [] 1 ![1, A, B])
    (x : (⟨3, ![32, A, B]⟩ : Shape).Idx → EReal) (idx : IVec ⟨2, ![N, 1]⟩ 32) (n : Fin N) (a : Fin A) (b : Fin B) :
    Host.gather (⟨[1, 2], [0], [], [], [0], 1, ![1, A, B], wf⟩ : GatherDims ⟨3, ![32, A, B]⟩ ⟨2, ![N, 1]⟩ ⟨3, ![N, A, B]⟩) x idx (ix3 n a b)
      = x (ix3 ⟨min (idx (ix2 n 0)).toInt.toNat 31, by omega⟩ a b) := by
  unfold Host.gather
  congr 1
  funext t
  refine Fin.ext ?_
  fin_cases t
  · unfold GatherDims.operandIdx
    simp only []
    rw [GatherDims.batchCoord_eq_zero _ _ _ (by simp), GatherDims.offCoord_eq_zero _ _ _ (fun h => ((GatherDims.mem_sKept _ _).mp h).1 (by simp))]
    simp only [Nat.add_zero]
    unfold GatherDims.start
    rw [dif_pos (by simp)]
    have hsi : (⟨[1, 2], [0], [], [], [0], 1, ![1, A, B], wf⟩ : GatherDims ⟨3, ![32, A, B]⟩ ⟨2, ![N, 1]⟩ ⟨3, ![N, A, B]⟩).siIdx (ix3 n a b)
        ⟨List.idxOf (0 : Fin 3) [0], by simp⟩ = ix2 n 0 := by
      funext c; refine Fin.ext ?_
      match c with
      | ⟨0, _⟩ => rfl
      | ⟨1, _⟩ => rfl
    exact congrArg (fun j => min (idx j).toInt.toNat 31) hsi
  · unfold GatherDims.operandIdx
    simp only []
    rw [GatherDims.batchCoord_eq_zero _ _ _ (by simp)]
    unfold GatherDims.start GatherDims.offCoord
    rw [dif_neg (by simp), dif_pos ((GatherDims.mem_sKept _ _).2 ⟨by simp, by simp⟩)]
    simp only [Nat.zero_add, Nat.add_zero]
    rfl
  · unfold GatherDims.operandIdx
    simp only []
    rw [GatherDims.batchCoord_eq_zero _ _ _ (by simp)]
    unfold GatherDims.start GatherDims.offCoord
    rw [dif_neg (by simp), dif_pos ((GatherDims.mem_sKept _ _).2 ⟨by simp, by simp⟩)]
    simp only [Nat.zero_add, Nat.add_zero]
    rfl

/-- A word below 32 is not negative, and reads as itself. -/
theorem word_pos (w : BitVec 32) (h : w.toNat < 32) : w.toInt = w.toNat := by
  rw [BitVec.toInt_eq_toNat_cond]; split <;> omega

/-- The wrap of a negative number leaves a word below 32 as it is. -/
theorem wrap_eq (w : BitVec 32) (h : w.toNat < 32) : Scalar.select (IntOp.cmpi .slt w 0#32) (IntOp.addi w 32#32) w = w := by
  have e : IntOp.cmpi .slt w 0#32 = 0#1 := by
    have : w.slt 0#32 = false := by
      simp only [BitVec.slt, word_pos w h]
      have : (0#32).toInt = 0 := by decide
      rw [this]; simp
    simp [IntOp.cmpi, this]
  rw [e]; rfl

open Cert.ExpertsReferenceIdeal Cert.ExpertsReferenceIdeal.Gen Cert.ExpertsReferenceIdeal.Read

variable (x0 : IVec S544 32) (x1 : IVec S1 32) (x2 : FVec Ideal S139264x1024 .f32) (x3 : FVec Ideal S32x1024x2048 .bf16)
  (x4 : FVec Ideal S32x1x2048 .f32) (x5 : FVec Ideal S32x1024x1024 .bf16) (x6 : FVec Ideal S32x1x1024 .f32)

/-- The expert of block `n`. -/
def ex (h : ∀ x, (x0 x).toNat < 32) (n : Fin 544) : Fin 32 := ⟨(x0 (ix1 n)).toNat, h _⟩

variable (h0 : ∀ x, (x0 x).toNat < 32)

include h0 in
theorem idx9 (n : Fin 544) : val_main_v9 (F := Ideal) x0 (ix2 n 0) = x0 (ix1 n) := by
  have e : val_main_v9 (F := Ideal) x0 (ix2 n 0) = Scalar.select (IntOp.cmpi .slt (x0 (ix1 n)) 0#32) (IntOp.addi (x0 (ix1 n)) 32#32) (x0 (ix1 n)) := by
    pointwise [val_main_v9, val_main_v8, val_main_v7, val_main_v6, val_main_c_0, val_main_v5, val_main_v4, val_main_c]
  rw [e, wrap_eq _ (h0 _)]
include h0 in
theorem idx17 (n : Fin 544) : val_main_v17 (F := Ideal) x0 (ix2 n 0) = x0 (ix1 n) := idx9 x0 h0 n
include h0 in
theorem idx46 (n : Fin 544) : val_main_v46 (F := Ideal) x0 (ix2 n 0) = x0 (ix1 n) := idx9 x0 h0 n
include h0 in
theorem idx54 (n : Fin 544) : val_main_v54 (F := Ideal) x0 (ix2 n 0) = x0 (ix1 n) := idx9 x0 h0 n

theorem clamp {α : Type} (f : Fin 32 → α) (w w' : BitVec 32) (e : w = w') (h : w'.toNat < 32) (hh) : f ⟨min w.toInt.toNat 31, hh⟩ = f ⟨w'.toNat, h⟩ := by
  subst e
  refine congrArg f (Fin.ext ?_)
  show min w.toInt.toNat 31 = w.toNat
  rw [word_pos w h]; omega

theorem w1_apply (n : Fin 544) (a : Fin 1024) (b : Fin 2048) : val_main_v10 (F := Ideal) x0 x3 (ix3 n a b) = x3 (ix3 (ex x0 h0 n) a b) := by
  refine (gather_slab _ _ _ n a b).trans (clamp (fun e => x3 (ix3 e a b)) _ _ (idx9 x0 h0 n) (h0 _) _)

theorem b1_apply (n : Fin 544) (b : Fin 2048) : val_main_v18 (F := Ideal) x0 x4 (ix3 n 0 b) = x4 (ix3 (ex x0 h0 n) 0 b) := by
  refine (gather_slab _ _ _ n 0 b).trans (clamp (fun e => x4 (ix3 e 0 b)) _ _ (idx17 x0 h0 n) (h0 _) _)
theorem w2_apply (n : Fin 544) (a : Fin 1024) (b : Fin 1024) : val_main_v47 (F := Ideal) x0 x5 (ix3 n a b) = x5 (ix3 (ex x0 h0 n) a b) := by
  refine (gather_slab _ _ _ n a b).trans (clamp (fun e => x5 (ix3 e a b)) _ _ (idx46 x0 h0 n) (h0 _) _)
theorem b2_apply (n : Fin 544) (b : Fin 1024) : val_main_v55 (F := Ideal) x0 x6 (ix3 n 0 b) = x6 (ix3 (ex x0 h0 n) 0 b) := by
  refine (gather_slab _ _ _ n 0 b).trans (clamp (fun e => x6 (ix3 e 0 b)) _ _ (idx54 x0 h0 n) (h0 _) _)

theorem x_apply (n : Fin 544) (r : Fin 256) (k : Fin 1024) : val_main_v2 (F := Ideal) x2 (ix3 n r k) = x2 (ix2 ⟨n.val * 256 + r.val, by omega⟩ k) := by
  pointwise [val_main_v2, val_main_v1, val_main_v0]

/-- A hidden unit of an expert from its two preactivations. -/
def unit (g u : EReal) : EReal :=
  (min g (Ideal.ofBits .f32 0x40E00000#32) * Ideal.div (Ideal.ofBits .f32 0x3F800000#32)
      (Ideal.ofBits .f32 0x3F800000#32 + Ideal.exp (-(Ideal.ofBits .f32 0x3FD9DB23#32 * min g (Ideal.ofBits .f32 0x40E00000#32)))))
    * (min (Ideal.ofBits .f32 0x40E00000#32) (max (Ideal.ofBits .f32 0xC0E00000#32) u) + Ideal.ofBits .f32 0x3F800000#32)

theorem pre_apply (n : Fin 544) (r : Fin 256) (f : Fin 2048) : val_main_v20 (F := Ideal) x0 x2 x3 x4 (ix3 n r f)
    = (∑ k : Fin 1024, x2 (ix2 ⟨n.val * 256 + r.val, by omega⟩ k) * x3 (ix3 (ex x0 h0 n) k f)) + x4 (ix3 (ex x0 h0 n) 0 f) := by
  have e : val_main_v11 (F := Ideal) x0 x2 x3 (ix3 n r f) = ∑ k : Fin 1024, x2 (ix2 ⟨n.val * 256 + r.val, by omega⟩ k) * x3 (ix3 (ex x0 h0 n) k f) := by
    rw [val_main_v11_apply]
    refine Finset.sum_congr rfl fun k _ => ?_
    rw [show lidx_main_v11 (ix3 n r f) k = ix3 n r k from (by idx_ext), show ridx_main_v11 (ix3 n r f) k = ix3 n k f from (by idx_ext),
      x_apply, w1_apply x0 x3 h0]
  have e2 : val_main_v19 (F := Ideal) x0 x4 (ix3 n r f) = val_main_v18 (F := Ideal) x0 x4 (ix3 n 0 f) := by
    unfold val_main_v19
    generalize val_main_v18 (F := Ideal) x0 x4 = X
    pointwise []
  rw [val_main_v20_apply, e2, e, b1_apply x0 x4 h0]
  rfl

theorem hid_apply (n : Fin 544) (r : Fin 256) (f : Fin 1024) : val_main_v39 (F := Ideal) x0 x2 x3 x4 (ix3 n r f)
    = unit (val_main_v20 (F := Ideal) x0 x2 x3 x4 (ix3 n r ⟨f.val, by omega⟩)) (val_main_v20 (F := Ideal) x0 x2 x3 x4 (ix3 n r ⟨1024 + f.val, by omega⟩)) := by
  unfold val_main_v39 val_main_v38 val_main_v37 val_main_v36 val_main_v34 val_main_v33 val_main_v31 val_main_v29 val_main_v28 val_main_v27 val_main_v25
    val_main_call0_v2 val_main_v24 val_main_v23 val_main_v21
  generalize val_main_v20 (F := Ideal) x0 x2 x3 x4 = X
  pointwise [unit, val_main_v35, val_main_cst_8, val_main_v32, val_main_cst_7, val_main_v30, val_main_cst_6, val_main_v26, val_main_cst_5,
    val_main_call0_v4, val_main_call0_v3, val_main_call0_v1, val_main_call0_v0, val_main_cst_3, val_main_cst_4, val_main_v22, val_main_cst]
  rfl

theorem y_apply (n : Fin 544) (r : Fin 256) (j : Fin 1024) : val_main_v57 (F := Ideal) x0 x2 x3 x4 x5 x6 (ix3 n r j)
    = (∑ k : Fin 1024, val_main_v39 (F := Ideal) x0 x2 x3 x4 (ix3 n r k) * x5 (ix3 (ex x0 h0 n) k j)) + x6 (ix3 (ex x0 h0 n) 0 j) := by
  have e : val_main_v48 (F := Ideal) x0 x2 x3 x4 x5 (ix3 n r j) = ∑ k : Fin 1024, val_main_v39 (F := Ideal) x0 x2 x3 x4 (ix3 n r k) * x5 (ix3 (ex x0 h0 n) k j) := by
    rw [val_main_v48_apply]
    refine Finset.sum_congr rfl fun k _ => ?_
    rw [show lidx_main_v48 (ix3 n r j) k = ix3 n r k from (by idx_ext), show ridx_main_v48 (ix3 n r j) k = ix3 n k j from (by idx_ext),
      w2_apply x0 x5 h0]
  have e2 : val_main_v56 (F := Ideal) x0 x6 (ix3 n r j) = val_main_v55 (F := Ideal) x0 x6 (ix3 n 0 j) := by
    unfold val_main_v56
    generalize val_main_v55 (F := Ideal) x0 x6 = X
    pointwise []
  rw [val_main_v57_apply, e2, e, b2_apply x0 x6 h0]
  rfl

theorem used_apply (n : Fin 544) (r : Fin 256) (j : Fin 1024) : val_main_call1_v1 (F := Ideal) x1 (ix3 n r j)
    = IntOp.cmpi .slt (BitVec.ofNat 32 n.val) (x1 (ix1 0)) := by
  pointwise [val_main_call1_v1, val_main_v62, val_main_v61, val_main_v60, val_main_v59, val_main_v58]

theorem res_apply (n : Fin 544) (r : Fin 256) (j : Fin 1024) : val_main_v64 (F := Ideal) x0 x1 x2 x3 x4 x5 x6 (ix2 ⟨n.val * 256 + r.val, by omega⟩ j)
    = Scalar.select (IntOp.cmpi .slt (BitVec.ofNat 32 n.val) (x1 (ix1 0))) (val_main_v57 (F := Ideal) x0 x2 x3 x4 x5 x6 (ix3 n r j)) (Ideal.ofBits .f32 0x00000000#32) := by
  have e : val_main_v64 (F := Ideal) x0 x1 x2 x3 x4 x5 x6 (ix2 ⟨n.val * 256 + r.val, by omega⟩ j) = val_main_v63 (F := Ideal) x0 x1 x2 x3 x4 x5 x6 (ix3 n r j) := by
    rw [val_main_v64_apply]
    generalize val_main_v63 (F := Ideal) x0 x1 x2 x3 x4 x5 x6 = X
    refine congrArg X ?_
    idx_ext
  rw [e, val_main_v63_apply, used_apply]
  refine congrArg (Scalar.select _ _) ?_
  pointwise [val_main_call1_v2, val_main_call1_v0, val_main_cst_13]
  exact Ideal.ofBits_zero .f32

end Cert.Exp

end
-- ==== Proof.ExpBody.lean ====
/- What the experts' body stores, read at an index, and what its blocks are of the arguments. -/
module

public import proofs.«01_k».proof.Proof.ExpFrame
public import proofs.«01_k».proof.Proof.ExpRef

@[expose] public section

set_option maxRecDepth 16384

noncomputable section

open Idealize.ShloMosaic Idealize.ShloMosaic.TcCoe Idealize.SL.Sem
open Idealize.ShloMosaic.Pipeline (Dat)
open scoped BigOperators

namespace Cert.Exp

open Cert.ExpertsIdeal Cert.ExpertsIdeal.Gen Cert.ExpertsIdeal.Hand

section Body
variable (v8 : FVec Ideal S256x1024 .f32) (v10 : FVec Ideal S1x1024x2048 .bf16) (v13 : FVec Ideal S1x1x2048 .f32)
  (v33 : FVec Ideal S1x1024x1024 .bf16) (v36 : FVec Ideal S1x1x1024 .f32)

/-- The preactivations. -/
def pre : FVec Ideal S256x2048 .f32 :=
  addf (matmul dot_S256x1024_S1024x2048_S256x2048_1_0_0_1_n_n none (truncf .bf16 v8 bitsLt_bf16_f32)
    (shapeCast S1024x2048 v10 shapeCasts_S1x1024x2048_S1024x2048) (constant S256x2048 .f32 0x00000000#32))
    (broadcastTo S256x2048 (shapeCast S1x2048 v13 shapeCasts_S1x1x2048_S1x2048) broadcasts_S1x2048_S256x2048)

/-- The gate before its clamp, and the gate. -/
def gate (p : FVec Ideal S256x2048 .f32) : FVec Ideal S256x1024 .f32 :=
  minimumf (extractStridedSlice S256x1024 ![0, 0] p slices_S256x2048_o0_0_S256x1024) (broadcast S256x1024 (Scalar.ofBits .f32 0x40E00000#32))

/-- The hidden units. -/
def hid (p : FVec Ideal S256x2048 .f32) : FVec Ideal S256x1024 .bf16 :=
  truncf .bf16 (mulf (mulf (gate p) (logistic (mulf (broadcast S256x1024 (Scalar.ofBits .f32 0x3FD9DB23#32)) (gate p))))
    (addf (minimumf (broadcast S256x1024 (Scalar.ofBits .f32 0x40E00000#32)) (maximumf (broadcast S256x1024 (Scalar.ofBits .f32 0xC0E00000#32))
      (extractStridedSlice S256x1024 ![0, 1024] p slices_S256x2048_o0_1024_S256x1024))) (broadcast S256x1024 (Scalar.ofBits .f32 0x3F800000#32)))) bitsLt_bf16_f32

/-- The output rows. -/
def outp (h : FVec Ideal S256x1024 .bf16) : FVec Ideal S256x1024 .f32 :=
  addf (matmul dot_S256x1024_S1024x1024_S256x1024_1_0_0_1_n_n none h (shapeCast S1024x1024 v33 shapeCasts_S1x1024x1024_S1024x1024) (constant S256x1024 .f32 0x00000000#32))
    (broadcastTo S256x1024 (shapeCast S1x1024 v36 shapeCasts_S1x1x1024_S1x1024) broadcasts_S1x1024_S256x1024)

theorem pay1_eq : k0_pay1 (F := Ideal) v8 v10 v13 v33 v36 = outp v33 v36 (hid (pre v8 v10 v13)) := rfl

theorem preK_apply (r : Fin 256) (f : Fin 2048) : pre v8 v10 v13 (ix2 r f) = (∑ k : Fin 1024, v8 (ix2 r k) * v10 (ix3 0 k f)) + v13 (ix3 0 0 f) := by
  pointwise [pre]

theorem hidK_apply (p : FVec Ideal S256x2048 .f32) (r : Fin 256) (f : Fin 1024) : hid p (ix2 r f) = unit (p (ix2 r ⟨f.val, by omega⟩)) (p (ix2 r ⟨1024 + f.val, by omega⟩)) := by
  pointwise [hid, gate, unit, Ideal.logistic]

theorem outK_apply (h : FVec Ideal S256x1024 .bf16) (r : Fin 256) (j : Fin 1024) : outp v33 v36 h (ix2 r j) = (∑ k : Fin 1024, h (ix2 r k) * v33 (ix3 0 k j)) + v36 (ix3 0 0 j) := by
  pointwise [outp]

theorem pay2_apply (r : Fin 256) (j : Fin 1024) : k0_pay2 (F := Ideal) (ix2 r j) = Ideal.ofBits .f32 0x00000000#32 := rfl

end Body

theorem outG_eq (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : k0_cond1 i (word1 T1) = 1#1) (h2 : ¬(k0_cond2 i (word1 T1) = 1#1)) :
    outG c i arg3 harg3 arg4 harg4 arg5 harg5 arg6 harg6 arg7 harg7 arg8 harg8 T0 T1 x0 x1 x2 x3 x4 h1 h2 = k0_pay1 (F := Ideal) x0 x1 x2 x3 x4 := by
  frame_out [View.read_rep]

theorem outZ_eq (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole) (T0 : S544.Idx → Elt Ideal .i32) (T1 : S1.Idx → Elt Ideal .i32)
    (x0 : S256x1024.Idx → Elt Ideal .f32) (x1 : S1x1024x2048.Idx → Elt Ideal .bf16) (x2 : S1x1x2048.Idx → Elt Ideal .f32) (x3 : S1x1024x1024.Idx → Elt Ideal .bf16) (x4 : S1x1x1024.Idx → Elt Ideal .f32)
    (h1 : ¬(k0_cond1 i (word1 T1) = 1#1)) (h2 : k0_cond2 i (word1 T1) = 1#1) :
    outZ c i arg3 harg3 arg4 harg4 arg5 harg5 arg6 harg6 arg7 harg7 arg8 harg8 T0 T1 x0 x1 x2 x3 x4 h1 h2 = k0_pay2 (F := Ideal) := by
  frame_out

end Cert.Exp

end
-- ==== Proof.ExpValue.lean ====
/- The experts' result array after the kernel's run is the reference's. -/
module

public import proofs.«01_k».proof.Proof.ExpBody
public import Idealize.ShloMosaic.Lib.Pipeline.Value
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.Exp

open Cert.ExpertsIdeal Cert.ExpertsIdeal.Gen Cert.ExpertsIdeal.Hand

variable (ch : Tab) (m : (ℓ : Loc nD τ sig) → Buf (Elt Ideal) ℓ) (ρ : Dev nD → PrngReg)

theorem crd_val : ∀ t : Fin grid0.N, (grid0.coords t 0).val = t.val := by decide +kernel

theorem crd_word : ∀ t : Fin grid0.N, (BitVec.ofNat 32 (grid0.coords t 0).val).toNat = t.val := by decide +kernel

/-- The table's word at a grid point names the expert of that block. -/
theorem row_val (t : Fin grid0.N) : ((adm ch).1.at 0 (Rect.unit (s := S544) ![(Scalar.indexCast (BitVec.ofNat 32 (grid0.coords t 0).val) : Index).toNat] S1.size (k0_off1_inb (grid0.coords t))) numel1_S1 : BitVec 32).toNat
    = (ex ch.T0 ch.rng t).val := by
  have key : ∀ j : S544.Idx, (j 0).val = t.val → (show BitVec 32 from ch.T0 j).toNat = (show BitVec 32 from ch.T0 (ix1 t)).toNat := by
    intro j hj
    have : j = ix1 t := (eq_ix1 j).trans (congrArg ix1 (Fin.ext hj))
    rw [this]; rfl
  refine key _ ?_
  show (BitVec.ofNat 32 (grid0.coords t 0).val).toNat + 0 * 1 = t.val
  rw [crd_word]; omega

theorem ix_0_0 (t : Fin grid0.N) : (pcfg0.win (adm ch) 0).index t (0 : Fin 2) = t.val := crd_word t
theorem ix_0_1 (t : Fin grid0.N) : (pcfg0.win (adm ch) 0).index t (1 : Fin 2) = 0 := rfl
theorem ix_5_0 (t : Fin grid0.N) : (pcfg0.win (adm ch) 5).index t (0 : Fin 2) = t.val := crd_word t
theorem ix_5_1 (t : Fin grid0.N) : (pcfg0.win (adm ch) 5).index t (1 : Fin 2) = 0 := rfl
theorem ix_1_0 (t : Fin grid0.N) : (pcfg0.win (adm ch) 1).index t (0 : Fin 3) = (ex ch.T0 ch.rng t).val := row_val ch t
theorem ix_1_1 (t : Fin grid0.N) : (pcfg0.win (adm ch) 1).index t (1 : Fin 3) = 0 := rfl
theorem ix_1_2 (t : Fin grid0.N) : (pcfg0.win (adm ch) 1).index t (2 : Fin 3) = 0 := rfl
theorem ix_2_0 (t : Fin grid0.N) : (pcfg0.win (adm ch) 2).index t (0 : Fin 3) = (ex ch.T0 ch.rng t).val := row_val ch t
theorem ix_2_1 (t : Fin grid0.N) : (pcfg0.win (adm ch) 2).index t (1 : Fin 3) = 0 := rfl
theorem ix_2_2 (t : Fin grid0.N) : (pcfg0.win (adm ch) 2).index t (2 : Fin 3) = 0 := rfl
theorem ix_3_0 (t : Fin grid0.N) : (pcfg0.win (adm ch) 3).index t (0 : Fin 3) = (ex ch.T0 ch.rng t).val := row_val ch t
theorem ix_3_1 (t : Fin grid0.N) : (pcfg0.win (adm ch) 3).index t (1 : Fin 3) = 0 := rfl
theorem ix_3_2 (t : Fin grid0.N) : (pcfg0.win (adm ch) 3).index t (2 : Fin 3) = 0 := rfl
theorem ix_4_0 (t : Fin grid0.N) : (pcfg0.win (adm ch) 4).index t (0 : Fin 3) = (ex ch.T0 ch.rng t).val := row_val ch t
theorem ix_4_1 (t : Fin grid0.N) : (pcfg0.win (adm ch) 4).index t (1 : Fin 3) = 0 := rfl
theorem ix_4_2 (t : Fin grid0.N) : (pcfg0.win (adm ch) 4).index t (2 : Fin 3) = 0 := rfl

theorem blk0 (c : Dev nD) (t : Fin grid0.N) (r : Fin 256) (k : Fin 1024) :
    iblk ch m ρ c (0 : Fin 6) t (ix2 r k) = m ((c : Thread nD τ).loc main_arg2) (ix2 ⟨t.val * 256 + r.val, by have : t.val < 544 := t.isLt; omega⟩ k) := by
  have e0 := ix_0_0 ch t
  have e1 := ix_0_1 ch t
  unfold iblk
  show m ((c : Thread nD τ).loc main_arg2) ((((cfgA ch).win (0 : Fin 6)).blk t).view.emb (ix2 r k)) = _
  generalize m ((c : Thread nD τ).loc main_arg2) = A
  blk_ext [e0, e1]

theorem blk1 (c : Dev nD) (t : Fin grid0.N) (a : Fin 1024) (b : Fin 2048) :
    iblk ch m ρ c (1 : Fin 6) t (ix3 0 a b) = m ((c : Thread nD τ).loc main_arg3) (ix3 (ex ch.T0 ch.rng t) a b) := by
  have e0 := ix_1_0 ch t
  have e1 := ix_1_1 ch t
  have e2 := ix_1_2 ch t
  unfold iblk
  show m ((c : Thread nD τ).loc main_arg3) ((((cfgA ch).win (1 : Fin 6)).blk t).view.emb (ix3 0 a b)) = _
  generalize m ((c : Thread nD τ).loc main_arg3) = A
  blk_ext [e0, e1, e2]

theorem blk2 (c : Dev nD) (t : Fin grid0.N) (b : Fin 2048) :
    iblk ch m ρ c (2 : Fin 6) t (ix3 0 0 b) = m ((c : Thread nD τ).loc main_arg4) (ix3 (ex ch.T0 ch.rng t) 0 b) := by
  have e0 := ix_2_0 ch t
  have e1 := ix_2_1 ch t
  have e2 := ix_2_2 ch t
  unfold iblk
  show m ((c : Thread nD τ).loc main_arg4) ((((cfgA ch).win (2 : Fin 6)).blk t).view.emb (ix3 0 0 b)) = _
  generalize m ((c : Thread nD τ).loc main_arg4) = A
  blk_ext [e0, e1, e2]

theorem blk3 (c : Dev nD) (t : Fin grid0.N) (a : Fin 1024) (b : Fin 1024) :
    iblk ch m ρ c (3 : Fin 6) t (ix3 0 a b) = m ((c : Thread nD τ).loc main_arg5) (ix3 (ex ch.T0 ch.rng t) a b) := by
  have e0 := ix_3_0 ch t
  have e1 := ix_3_1 ch t
  have e2 := ix_3_2 ch t
  unfold iblk
  show m ((c : Thread nD τ).loc main_arg5) ((((cfgA ch).win (3 : Fin 6)).blk t).view.emb (ix3 0 a b)) = _
  generalize m ((c : Thread nD τ).loc main_arg5) = A
  blk_ext [e0, e1, e2]

theorem blk4 (c : Dev nD) (t : Fin grid0.N) (b : Fin 1024) :
    iblk ch m ρ c (4 : Fin 6) t (ix3 0 0 b) = m ((c : Thread nD τ).loc main_arg6) (ix3 (ex ch.T0 ch.rng t) 0 b) := by
  have e0 := ix_4_0 ch t
  have e1 := ix_4_1 ch t
  have e2 := ix_4_2 ch t
  unfold iblk
  show m ((c : Thread nD τ).loc main_arg6) ((((cfgA ch).win (4 : Fin 6)).blk t).view.emb (ix3 0 0 b)) = _
  generalize m ((c : Thread nD τ).loc main_arg6) = A
  blk_ext [e0, e1, e2]

theorem crd_of (b : Nat) (h : b < 544) : ∃ i : grid0.Coords, (BitVec.ofNat 32 (i 0).val).toNat = b :=
  ⟨grid0.coords ⟨b, h⟩, crd_word ⟨b, h⟩⟩

theorem covers5 : ((cfgA ch).win (5 : Fin 6)).Covers :=
  ((cfgA ch).win (5 : Fin 6)).covers_of_indexMap_surj rfl (show ∀ a : Fin 2, 0 < S256x1024.size a by decide) fun β => by
    have h0 : (β (0 : Fin 2)).val < 544 := lt_of_lt_of_eq (β (0 : Fin 2)).isLt (show (139264 + 256 - 1) / 256 = 544 by decide)
    have h1 : (β (1 : Fin 2)).val < 1 := lt_of_lt_of_eq (β (1 : Fin 2)).isLt (show (1024 + 1024 - 1) / 1024 = 1 by decide)
    obtain ⟨i, hi⟩ := crd_of _ h0
    refine ⟨i, fun (a : Fin 2) => ?_⟩
    fin_cases a
    · exact hi
    · exact (Nat.lt_one_iff.mp h1).symm

/-- The word of the second table. -/
theorem word1_eq (T1 : S1.Idx → Elt Ideal .i32) : word1 T1 = T1 (ix1 0) :=
  congrArg T1 ((eq_ix1 _).trans (congrArg ix1 (Subsingleton.elim (α := Fin 1) _ _)))

theorem cond1_eq (t : Fin grid0.N) (v : BitVec 32) : k0_cond1 (grid0.coords t) v = IntOp.cmpi .slt (BitVec.ofNat 32 t.val) v := by
  unfold k0_cond1
  simp only [Scalar.cmpi, Scalar.extui, crd_val]
  generalize IntOp.cmpi CmpIPredicate.slt (BitVec.ofNat 32 t.val) v = w
  revert w
  decide

section Point
open Cert.ExpertsReferenceIdeal.Read
variable (c : Dev nD) (T1 : IVec S1 32)

/-- What a grid point stores. -/
theorem step_apply (t : Fin grid0.N) (ht : t.val < 544) (r : Fin 256) (j : Fin 1024) :
    step0 ch m ρ c t (ix2 r j) = val_main_v64 (F := Ideal) ch.T0 ch.T1 (m ((c : Thread nD τ).loc main_arg2)) (m ((c : Thread nD τ).loc main_arg3))
      (m ((c : Thread nD τ).loc main_arg4)) (m ((c : Thread nD τ).loc main_arg5)) (m ((c : Thread nD τ).loc main_arg6)) (ix2 ⟨t.val * 256 + r.val, by omega⟩ j) := by
  have hr := res_apply ch.T0 ch.T1 (m ((c : Thread nD τ).loc main_arg2)) (m ((c : Thread nD τ).loc main_arg3))
      (m ((c : Thread nD τ).loc main_arg4)) (m ((c : Thread nD τ).loc main_arg5)) (m ((c : Thread nD τ).loc main_arg6)) ⟨t.val, ht⟩ r j
  refine Eq.trans ?_ hr.symm
  have hc : k0_cond1 (crd ch t) (word1 ch.T1) = IntOp.cmpi .slt (BitVec.ofNat 32 t.val) (ch.T1 (ix1 0)) := by
    rw [word1_eq]; exact cond1_eq t _
  by_cases h1 : k0_cond1 (crd ch t) (word1 ch.T1) = 1#1
  · rw [step0_G ch m ρ c t h1, outG_eq, pay1_eq, outK_apply, ← hc, h1]
    refine Eq.trans ?_ (show _ = Scalar.select 1#1 _ _ from rfl)
    rw [y_apply _ _ _ _ _ _ ch.rng, blk4]
    refine congrArg₂ (· + ·) (Finset.sum_congr rfl fun k _ => ?_) rfl
    rw [blk3, hidK_apply, hid_apply, preK_apply, preK_apply, pre_apply _ _ _ _ ch.rng, pre_apply _ _ _ _ ch.rng]
    simp only [blk0, blk1, blk2]
    rfl
  · rw [step0_Z ch m ρ c t h1, outZ_eq, pay2_apply, ← hc, (by revert h1; generalize k0_cond1 _ _ = w; revert w; decide : k0_cond1 (crd ch t) (word1 ch.T1) = 0#1)]
    rfl

/-- The result array. -/
theorem final_5 : (dats ch m ρ 0 c).arrAt (5 : Fin 6) (cfgA ch).N = val_main_v64 (F := Ideal) ch.T0 ch.T1 (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats ch m ρ 0 c).arrAt_eq_of_covers (5 : Fin 6) _ (covers5 ch) (fun t hf y => ?_) (Memref.isWhole_whole _)
  have ht : t.val < 544 := t.isLt
  have e0 := ix_5_0 ch t
  have e1 := ix_5_1 ch t
  blk_simp; rw [after0_5]
  obtain ⟨r, l, hy⟩ : ∃ (r : Fin 256) (l : Fin 1024), y = ix2 r l := ⟨y 0, y 1, eq_ix2 y⟩
  rw [hy]
  refine (step_apply ch m ρ c t ht r l).trans ?_
  generalize val_main_v64 (F := Ideal) ch.T0 ch.T1 (m ((c : Thread nD τ).loc main_arg2)) (m ((c : Thread nD τ).loc main_arg3))
      (m ((c : Thread nD τ).loc main_arg4)) (m ((c : Thread nD τ).loc main_arg5)) (m ((c : Thread nD τ).loc main_arg6)) = X
  blk_ext [e0, e1]
end Point

end Cert.Exp

end
-- ==== Proof.ProjRun.lean ====
module

public import proofs.«01_k».proof.Proof.Gen.InProjIdeal.Skeleton
public import proofs.«01_k».proof.Proof.Gen.InProjIdeal.Frame
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Exec
public import Idealize.ShloMosaic.Lib.Affine
public import Idealize.ShloMosaic.Lib.Tactic

/-! The body of the input projection run on symbolic blocks, once at the first column block of a row block and once at
    the later ones. -/

@[expose] public section

set_option maxRecDepth 16384
set_option Elab.async false

noncomputable section

namespace Cert.InProjIdeal.Hand

open Cert.InProjIdeal Cert.InProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 8000000 in
/-- The first column block of a row block: all three results are written, and the rounded rows are kept. -/
noncomputable def runA (c : Dev nD) (i : grid0.Coords) (arg2 : Memref sig .tc .vmem S512x1024 .f32) (harg2 : arg2.IsWhole) (arg3 : Memref sig .tc .vmem S1024x1536 .bf16) (harg3 : arg3.IsWhole) (arg4 : Memref sig .tc .vmem S768x1024 .bf16) (harg4 : arg4.IsWhole) (arg5 : Memref sig .tc .vmem S1024x1536 .bf16) (harg5 : arg5.IsWhole) (arg6 : Memref sig .tc .vmem S512x1536 .bf16) (harg6 : arg6.IsWhole) (arg7 : Memref sig .tc .vmem S768x512 .bf16) (harg7 : arg7.IsWhole) (arg8 : Memref sig .tc .vmem S12x512x128 .f32) (harg8 : arg8.IsWhole) (arg9 : Memref sig .tc .vmem S512x1024 .bf16) (harg9 : arg9.IsWhole)
    (x0 : Vec F S512x1024 .f32) (x1 : Vec F S1024x1536 .bf16) (x2 : Vec F S768x1024 .bf16) (x3 : Vec F S1024x1536 .bf16)
    (h1 : k0_cond1 i = 1#1) :
    { out : List (View.Piece (Elt F) S512x1536 .bf16) × List (View.Piece (Elt F) S768x512 .bf16) × List (View.Piece (Elt F) S12x512x128 .f32) × List (View.Piece (Elt F) S512x1024 .bf16) //
      ∀ (K : PUnit → sProp 𝕄),
        iprop((arg2.view.loc (c : Thread nD τ) ↦[arg2.view.set]{fullShare} arg2.view.rep x0) ∗ (arg3.view.loc (c : Thread nD τ) ↦[arg3.view.set]{fullShare} arg3.view.rep x1) ∗ (arg4.view.loc (c : Thread nD τ) ↦[arg4.view.set]{fullShare} arg4.view.rep x2) ∗ (arg5.view.loc (c : Thread nD τ) ↦[arg5.view.set]{fullShare} arg5.view.rep x3)
          ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
          ∗ (iprop((arg2.view.loc (c : Thread nD τ) ↦[arg2.view.set]{fullShare} arg2.view.rep x0) ∗ (arg3.view.loc (c : Thread nD τ) ↦[arg3.view.set]{fullShare} arg3.view.rep x1) ∗ (arg4.view.loc (c : Thread nD τ) ↦[arg4.view.set]{fullShare} arg4.view.rep x2) ∗ (arg5.view.loc (c : Thread nD τ) ↦[arg5.view.set]{fullShare} arg5.view.rep x3)
              ∗ (∃ f, arg6.view.loc (c : Thread nD τ) ↦[arg6.view.set]{fullShare} arg6.view.writes (Elt F) f out.1) ∗ (∃ f, arg7.view.loc (c : Thread nD τ) ↦[arg7.view.set]{fullShare} arg7.view.writes (Elt F) f out.2.1) ∗ (∃ f, arg8.view.loc (c : Thread nD τ) ↦[arg8.view.set]{fullShare} arg8.view.writes (Elt F) f out.2.2.1) ∗ (∃ f, arg9.view.loc (c : Thread nD τ) ↦[arg9.view.set]{fullShare} arg9.view.writes (Elt F) f out.2.2.2)) -∗ K ⟨⟩))
          ⊢ wp frame (wpE (defs₀ (F := F)) Variants.none c none) Set.univ (cc0_in_proj i arg2 harg2 arg3 harg3 arg4 harg4 arg5 harg5 arg6 harg6 arg7 harg7 arg8 harg8 arg9 harg9) K } :=
  ⟨(_, _, _, _), fun K => by
    unfold owns
    simp only [cc0_in_proj_eq_skeleton]; unfold cc0_in_proj_skel
    simp only [k0_part1_eq_skeleton, k0_part2_eq_skeleton]
    iintro ⟨H0, H1, H2, H3, ⟨%d4, %f4, -, H4⟩, ⟨%d5, %f5, -, H5⟩, ⟨%d6, %f6, -, H6⟩, ⟨%d7, %f7, -, H7⟩, Hk⟩
    sl_exec! (disch := exact h1)
    sl_step
    iapply Hk
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7⟩

set_option backward.proofsInPublic true in
set_option maxHeartbeats 8000000 in
/-- A later column block: the block of the first result is written from the kept rows, and nothing else is touched. -/
noncomputable def runB (c : Dev nD) (i : grid0.Coords) (arg2 : Memref sig .tc .vmem S512x1024 .f32) (harg2 : arg2.IsWhole) (arg3 : Memref sig .tc .vmem S1024x1536 .bf16) (harg3 : arg3.IsWhole) (arg4 : Memref sig .tc .vmem S768x1024 .bf16) (harg4 : arg4.IsWhole) (arg5 : Memref sig .tc .vmem S1024x1536 .bf16) (harg5 : arg5.IsWhole) (arg6 : Memref sig .tc .vmem S512x1536 .bf16) (harg6 : arg6.IsWhole) (arg7 : Memref sig .tc .vmem S768x512 .bf16) (harg7 : arg7.IsWhole) (arg8 : Memref sig .tc .vmem S12x512x128 .f32) (harg8 : arg8.IsWhole) (arg9 : Memref sig .tc .vmem S512x1024 .bf16) (harg9 : arg9.IsWhole)
    (xb : Vec F S512x1024 .bf16) (x1 : Vec F S1024x1536 .bf16)
    (h1 : ¬ k0_cond1 i = 1#1) :
    { out : List (View.Piece (Elt F) S512x1536 .bf16) //
      ∀ (K : PUnit → sProp 𝕄),
        iprop((arg3.view.loc (c : Thread nD τ) ↦[arg3.view.set]{fullShare} arg3.view.rep x1) ∗ (arg9.view.loc (c : Thread nD τ) ↦[arg9.view.set]{fullShare} arg9.view.rep xb)
          ∗ (∃ d, owns (c : Thread nD τ) arg6 fullShare d)
          ∗ (iprop((arg3.view.loc (c : Thread nD τ) ↦[arg3.view.set]{fullShare} arg3.view.rep x1) ∗ (arg9.view.loc (c : Thread nD τ) ↦[arg9.view.set]{fullShare} arg9.view.rep xb)
              ∗ (∃ f, arg6.view.loc (c : Thread nD τ) ↦[arg6.view.set]{fullShare} arg6.view.writes (Elt F) f out)) -∗ K ⟨⟩))
          ⊢ wp frame (wpE (defs₀ (F := F)) Variants.none c none) Set.univ (cc0_in_proj i arg2 harg2 arg3 harg3 arg4 harg4 arg5 harg5 arg6 harg6 arg7 harg7 arg8 harg8 arg9 harg9) K } :=
  ⟨_, fun K => by
    unfold owns
    simp only [cc0_in_proj_eq_skeleton]; unfold cc0_in_proj_skel
    iintro ⟨H1, H7, ⟨%d4, %f4, -, H4⟩, Hk⟩
    sl_exec! (disch := exact h1)
    sl_step
    iapply Hk
    isplitl [H1]; · iexact H1
    isplitl [H7]; · iexact H7
    iexists _; iexact H4⟩

/-- The twelve planes stored into the third result's block. -/
def pieces6 (x0 : Vec F S512x1024 .f32) (x3 : Vec F S1024x1536 .bf16) : List (View.Piece (Elt F) S12x512x128 .f32) :=
  [⟨Rect.unit (s := S12x512x128) ![11, 0, 0] S1x512x128.size inb_S12x512x128_S1x512x128_11_0_0, k0_pay18 (k0_pay5 x0 x3)⟩,
    ⟨Rect.unit (s := S12x512x128) ![10, 0, 0] S1x512x128.size inb_S12x512x128_S1x512x128_10_0_0, k0_pay17 (k0_pay5 x0 x3)⟩,
    ⟨Rect.unit (s := S12x512x128) ![9, 0, 0] S1x512x128.size inb_S12x512x128_S1x512x128_9_0_0, k0_pay16 (k0_pay5 x0 x3)⟩,
    ⟨Rect.unit (s := S12x512x128) ![8, 0, 0] S1x512x128.size inb_S12x512x128_S1x512x128_8_0_0, k0_pay15 (k0_pay5 x0 x3)⟩,
    ⟨Rect.unit (s := S12x512x128) ![7, 0, 0] S1x512x128.size inb_S12x512x128_S1x512x128_7_0_0, k0_pay14 (k0_pay5 x0 x3)⟩,
    ⟨Rect.unit (s := S12x512x128) ![6, 0, 0] S1x512x128.size inb_S12x512x128_S1x512x128_6_0_0, k0_pay13 (k0_pay5 x0 x3)⟩,
    ⟨Rect.unit (s := S12x512x128) ![5, 0, 0] S1x512x128.size inb_S12x512x128_S1x512x128_5_0_0, k0_pay12 (k0_pay5 x0 x3)⟩,
    ⟨Rect.unit (s := S12x512x128) ![4, 0, 0] S1x512x128.size inb_S12x512x128_S1x512x128_4_0_0, k0_pay11 (k0_pay10 x0 x3)⟩,
    ⟨Rect.unit (s := S12x512x128) ![3, 0, 0] S1x512x128.size inb_S12x512x128_S1x512x128_3_0_0, k0_pay9 x0 x3⟩,
    ⟨Rect.unit (s := S12x512x128) ![2, 0, 0] S1x512x128.size inb_S12x512x128_S1x512x128_2_0_0, k0_pay8 x0 x3⟩,
    ⟨Rect.unit (s := S12x512x128) ![1, 0, 0] S1x512x128.size inb_S12x512x128_S1x512x128_1_0_0, k0_pay7 x0 x3⟩,
    ⟨Rect.unit (s := S12x512x128) ![0, 0, 0] S1x512x128.size inb_S12x512x128_S1x512x128_0_0_0, k0_pay6 x0 x3⟩]

/-- The planes fill the block. -/
theorem cover6 (x0 : Vec F S512x1024 .f32) (x3 : Vec F S1024x1536 .bf16) (y : S12x512x128.Idx) : ∃ pc ∈ pieces6 x0 x3, y ∈ pc.1.set :=
  View.cover_of_tiledL (pieces6 x0 x3) S1x512x128.size (by sl_kernel_rfl) y

/-- One staging buffer of the third result, through which its contents are stated. -/
abbrev VO6 : View sig .tc .vmem S12x512x128 .f32 := (Memref.whole cc0_stg6_0 : Memref sig .tc .vmem S12x512x128 .f32).view

/-- What the first column block leaves in the third result's block. -/
def out6 (x0 : Vec F S512x1024 .f32) (x3 : Vec F S1024x1536 .bf16) : Vec F S12x512x128 .f32 :=
  VO6.read (Elt F) (VO6.writes (Elt F) VO6.junk (pieces6 x0 x3))

section
variable (c : Dev nD) (i : grid0.Coords) (arg2 : Memref sig .tc .vmem S512x1024 .f32) (harg2 : arg2.IsWhole) (arg3 : Memref sig .tc .vmem S1024x1536 .bf16) (harg3 : arg3.IsWhole) (arg4 : Memref sig .tc .vmem S768x1024 .bf16) (harg4 : arg4.IsWhole) (arg5 : Memref sig .tc .vmem S1024x1536 .bf16) (harg5 : arg5.IsWhole) (arg6 : Memref sig .tc .vmem S512x1536 .bf16) (harg6 : arg6.IsWhole) (arg7 : Memref sig .tc .vmem S768x512 .bf16) (harg7 : arg7.IsWhole) (arg8 : Memref sig .tc .vmem S12x512x128 .f32) (harg8 : arg8.IsWhole) (arg9 : Memref sig .tc .vmem S512x1024 .bf16) (harg9 : arg9.IsWhole)
    (x0 : Vec F S512x1024 .f32) (x1 : Vec F S1024x1536 .bf16) (x2 : Vec F S768x1024 .bf16) (x3 : Vec F S1024x1536 .bf16) (xb : Vec F S512x1024 .bf16)

theorem readA4 (h1 : k0_cond1 i = 1#1) (f) :
    arg6.view.read (Elt F) (arg6.view.writes (Elt F) f (runA c i arg2 harg2 arg3 harg3 arg4 harg4 arg5 harg5 arg6 harg6 arg7 harg7 arg8 harg8 arg9 harg9 x0 x1 x2 x3 h1).1.1) = k0_pay1 (k0_pay3 x0) x1 := by
  show arg6.view.read (Elt F) (arg6.view.writes (Elt F) f (runA.sl.H4_1 arg2 arg3 arg9 x0 x1)) = _
  unfold runA.sl.H4_1
  rw [View.read_writes_full, View.readAt_rep_full]
  congr 1
  unfold runA.sl.v3 runA.sl.H7_1
  rw [View.readCov_full, View.readAt_rep_full]

theorem readA5 (h1 : k0_cond1 i = 1#1) (f) :
    arg7.view.read (Elt F) (arg7.view.writes (Elt F) f (runA c i arg2 harg2 arg3 harg3 arg4 harg4 arg5 harg5 arg6 harg6 arg7 harg7 arg8 harg8 arg9 harg9 x0 x1 x2 x3 h1).1.2.1) = k0_pay4 x0 x2 := by
  show arg7.view.read (Elt F) (arg7.view.writes (Elt F) f (runA.sl.H5_1 arg2 arg4 x0 x2)) = _
  unfold runA.sl.H5_1
  rw [View.read_writes_full, View.readAt_rep_full, View.readAt_rep_full]

theorem readA6 (h1 : k0_cond1 i = 1#1) (f) :
    arg8.view.read (Elt F) (arg8.view.writes (Elt F) f (runA c i arg2 harg2 arg3 harg3 arg4 harg4 arg5 harg5 arg6 harg6 arg7 harg7 arg8 harg8 arg9 harg9 x0 x1 x2 x3 h1).1.2.2.1) = out6 x0 x3 := by
  show arg8.view.read (Elt F) (arg8.view.writes (Elt F) f (runA.sl.H6_12 arg2 arg5 x0 x3)) = _
  have e : runA.sl.H6_12 arg2 arg5 x0 x3 = pieces6 x0 x3 := by
    unfold runA.sl.H6_12 runA.sl.r_2 runA.sl.r_1 runA.sl.r
    rw [View.readAt_rep_full arg2.view x0, View.readAt_rep_full arg5.view x3]
    rfl
  rw [e]
  exact View.read_writes_of_cover _ _ _ _ _ (cover6 x0 x3)

theorem readA9 (h1 : k0_cond1 i = 1#1) (f) :
    arg9.view.read (Elt F) (arg9.view.writes (Elt F) f (runA c i arg2 harg2 arg3 harg3 arg4 harg4 arg5 harg5 arg6 harg6 arg7 harg7 arg8 harg8 arg9 harg9 x0 x1 x2 x3 h1).1.2.2.2) = k0_pay3 x0 := by
  show arg9.view.read (Elt F) (arg9.view.writes (Elt F) f (runA.sl.H7_1 arg2 x0)) = _
  unfold runA.sl.H7_1
  rw [View.read_writes_full, View.readAt_rep_full]

theorem readB4 (h1 : ¬ k0_cond1 i = 1#1) (f) :
    arg6.view.read (Elt F) (arg6.view.writes (Elt F) f (runB c i arg2 harg2 arg3 harg3 arg4 harg4 arg5 harg5 arg6 harg6 arg7 harg7 arg8 harg8 arg9 harg9 xb x1 h1).1) = k0_pay1 xb x1 := by
  show arg6.view.read (Elt F) (arg6.view.writes (Elt F) f (runB.sl.H4_1 arg3 arg9 xb x1)) = _
  unfold runB.sl.H4_1
  rw [View.read_writes_full, View.readAt_rep_full, View.readAt_rep_full]

end

end Cert.InProjIdeal.Hand

end
-- ==== Proof.ProjFrame.lean ====
module

public import proofs.«01_k».proof.Proof.ProjRun
public import Idealize.ShloMosaic.Lib.Pipeline.Quiescent
public import Idealize.ShloMosaic.Lib.WordCmp
public import Idealize.ShloMosaic.Adequacy

/-! The pipeline of the input projection: what each buffer holds after each point, the body at a point, the launch, and
    the frame. -/

@[expose] public section

set_option maxRecDepth 16384
set_option Elab.async false

noncomputable section

namespace Cert.InProjIdeal.Hand

open Cert.InProjIdeal Cert.InProjIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first column block of a row block is at the points divisible by six. -/
theorem first_iff : ∀ t : Fin cfg0.N, k0_cond1 (grid0.coords t) = 1#1 ↔ t.val % 6 = 0 :=
  (fun t => by
    have ht : t.val < 384 := Nat.lt_of_lt_of_eq t.isLt N_0
    have e0 : (grid0.coords t 0).val = t.val / 6 % 64 := Pipeline.Grid.coords_val t 0 (by decide) rfl
    have e1 : (grid0.coords t 1).val = t.val / 1 % 6 := Pipeline.Grid.coords_val t 1 (by decide) rfl
    simp only [k0_cond1, e0, e1]
    word_cmp
   : ∀ t : Fin grid0.N, k0_cond1 (grid0.coords t) = 1#1 ↔ t.val % 6 = 0)

theorem live (t : Fin cfg0.N) (h : t.val % 6 = 0) : (!(k0_cond1 (grid0.coords t) == 1#1)) = false := by
  rw [(first_iff t).mpr h]; rfl

theorem idles (t : Fin cfg0.N) (h : ¬ t.val % 6 = 0) : (!(k0_cond1 (grid0.coords t) == 1#1)) = true := by
  have : ¬ k0_cond1 (grid0.coords t) = 1#1 := fun e => h ((first_iff t).mp e)
  simp [this]

theorem live5 (t : Fin cfg0.N) (h : t.val % 6 = 0) : cfg0.idle 5 (cfg0.grid.coords t) = false := live t h
theorem live6 (t : Fin cfg0.N) (h : t.val % 6 = 0) : cfg0.idle 6 (cfg0.grid.coords t) = false := live t h
theorem idle5 (t : Fin cfg0.N) (h : ¬ t.val % 6 = 0) : cfg0.idle 5 (cfg0.grid.coords t) = true := idles t h
theorem idle6 (t : Fin cfg0.N) (h : ¬ t.val % 6 = 0) : cfg0.idle 6 (cfg0.grid.coords t) = true := idles t h

theorem flush_eq (b : Bool) (n : ℕ) (h : b = true ↔ n % 6 = 5) : b = decide (n % 6 = 5) := by
  cases b <;> simp_all

theorem step_eq (n : ℕ) (i : Bool) (hl : n % 6 = 0 → i = false) (hi : ¬ n % 6 = 0 → i = true) :
    decide ((n + 1) % 6 = 0) = (decide (n % 6 = 5) || (i && decide (n % 6 = 0))) := by
  by_cases h : n % 6 = 0
  · rw [hl h, decide_eq_false (by omega : ¬ (n + 1) % 6 = 0), decide_eq_false (by omega : ¬ n % 6 = 5)]; rfl
  · rw [hi h, decide_eq_false h]
    by_cases h5 : n % 6 = 5
    · rw [decide_eq_true h5, decide_eq_true (by omega : (n + 1) % 6 = 0)]; rfl
    · rw [decide_eq_false h5, decide_eq_false (by omega : ¬ (n + 1) % 6 = 0)]; rfl

theorem fresh5 (t : Fin cfg0.N) : cfg0.fresh 5 t.val = decide (t.val % 6 = 0) :=
  Pipeline.Cfg.fresh_tab cfg0 5 (fun n => decide (n % 6 = 0)) rfl (fun t => by
    rw [flush_eq _ t.val (flush0_5 t)]; exact step_eq t.val _ (live5 t) (idle5 t)) t.val (Nat.le_of_lt t.isLt)
theorem fresh6 (t : Fin cfg0.N) : cfg0.fresh 6 t.val = decide (t.val % 6 = 0) :=
  Pipeline.Cfg.fresh_tab cfg0 6 (fun n => decide (n % 6 = 0)) rfl (fun t => by
    rw [flush_eq _ t.val (flush0_6 t)]; exact step_eq t.val _ (live6 t) (idle6 t)) t.val (Nat.le_of_lt t.isLt)

/-! ## The memrefs and the blocks -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1536 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x512x128 .f32 := win0_6.stage (cfg0.slots t 6)
abbrev hs0_6 (t : Fin cfg0.N) : (ms0_6 t).IsWhole := hstage0_6 ((cfg0.slots t 6).cast nbuf0_6)
/-- The buffer that keeps the rounded rows from one point to the next. -/
abbrev scM : Memref sig .tc .vmem S512x1024 .bf16 := Memref.whole cc0_scratch0

abbrev blk0 (c : Dev nD) (t : Fin cfg0.N) : Vec F S512x1024 .f32 := iblk m c 0 t
abbrev blk1 (c : Dev nD) (t : Fin cfg0.N) : Vec F S1024x1536 .bf16 := iblk m c 1 t
abbrev blk2 (c : Dev nD) (t : Fin cfg0.N) : Vec F S768x1024 .bf16 := iblk m c 2 t
abbrev blk3 (c : Dev nD) (t : Fin cfg0.N) : Vec F S1024x1536 .bf16 := iblk m c 3 t

/-! ## The proof data -/

theorem restP_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the kept rows are anything; after a point they are that point's rows, rounded. -/
def Phi (c : Dev nD) : ℕ → sProp 𝕄
  | 0 => Pipeline.ΦA spec0 c
  | n + 1 => if h : n < cfg0.N then iprop(owns (c : Thread nD τ) scM fullShare (k0_pay3 (blk0 m c ⟨n, h⟩)) ∗ (∃ r, prngReg c r)) else Pipeline.ΦA spec0 c

theorem Phi_succ (c : Dev nD) (t : Fin cfg0.N) :
    Phi m c (t.val + 1) = iprop(owns (c : Thread nD τ) scM fullShare (k0_pay3 (blk0 m c t)) ∗ (∃ r, prngReg c r)) := dif_pos t.isLt

theorem Phi_any (c : Dev nD) : ∀ n, Phi m c n ⊢ (Pipeline.ΦA spec0 c : sProp 𝕄)
  | 0 => .rfl
  | n + 1 => by
    rw [restP_eq]
    by_cases h : n < cfg0.N
    · rw [Phi_succ m c ⟨n, h⟩]
      iintro ⟨H, Hg⟩
      isplitl [H]
      · iexists _; iexact H
      iexact Hg
    · rw [show Phi m c (n + 1) = Pipeline.ΦA spec0 c from dif_neg h, restP_eq]

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (k0_pay3 (blk0 m c t)) (blk1 m c t)
    | ⟨5, _⟩ => k0_pay4 (blk0 m c t) (blk2 m c t)
    | ⟨6, _⟩ => out6 (blk0 m c t) (blk3 m c t)
  Φ k := Phi m c k.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blk0 m c t := by dsimp only [dats]
theorem before0_0 (c : Dev nD) (t : Fin cfg0.N) (d) : (dats m 0 c).before 0 t d = blk0 m c t :=
  before0_0_of m (dats m 0 c) (A_eq m c 0) (after0_0 m c) t d
theorem after0_1 (c : Dev nD) (t : Fin cfg0.N) : (dats m 0 c).after 1 t = blk1 m c t := by dsimp only [dats]
theorem before0_1 (c : Dev nD) (t : Fin cfg0.N) (d) : (dats m 0 c).before 1 t d = blk1 m c t :=
  before0_1_of m (dats m 0 c) (A_eq m c 1) (after0_1 m c) t d
theorem after0_2 (c : Dev nD) (t : Fin cfg0.N) : (dats m 0 c).after 2 t = blk2 m c t := by dsimp only [dats]
theorem before0_2 (c : Dev nD) (t : Fin cfg0.N) (d) : (dats m 0 c).before 2 t d = blk2 m c t :=
  before0_2_of m (dats m 0 c) (A_eq m c 2) (after0_2 m c) t d
theorem after0_3 (c : Dev nD) (t : Fin cfg0.N) : (dats m 0 c).after 3 t = blk3 m c t := by dsimp only [dats]
theorem before0_3 (c : Dev nD) (t : Fin cfg0.N) (d) : (dats m 0 c).before 3 t d = blk3 m c t :=
  before0_3_of m (dats m 0 c) (A_eq m c 3) (after0_3 m c) t d
theorem after0_4 (c : Dev nD) (t : Fin cfg0.N) : (dats m 0 c).after 4 t = k0_pay1 (k0_pay3 (blk0 m c t)) (blk1 m c t) := by dsimp only [dats]
theorem after0_5 (c : Dev nD) (t : Fin cfg0.N) : (dats m 0 c).after 5 t = k0_pay4 (blk0 m c t) (blk2 m c t) := by dsimp only [dats]
theorem after0_6 (c : Dev nD) (t : Fin cfg0.N) : (dats m 0 c).after 6 t = out6 (blk0 m c t) (blk3 m c t) := by dsimp only [dats]

/-! ## Blocks that do not move from a point to the next -/

/-- The point before. -/
abbrev prev (t : Fin cfg0.N) : Fin cfg0.N := ⟨t.val - 1, Nat.lt_of_le_of_lt (Nat.sub_le _ _) t.isLt⟩

theorem blk0_prev (c : Dev nD) (t : Fin cfg0.N) (h : ¬ t.val % 6 = 0) : blk0 m c (prev t) = blk0 m c t := by
  have e := before0_0 m c t (blk0 m c t)
  unfold Dat.before at e
  rw [if_neg (fun h' => h ((fetch0_0 t).mp h')), if_neg (by omega)] at e
  rw [← e]
  exact (after0_0 m c (prev t)).symm
theorem blk2_prev (c : Dev nD) (t : Fin cfg0.N) (h : ¬ t.val % 6 = 0) : blk2 m c (prev t) = blk2 m c t := by
  have ht : t.val < 384 := Nat.lt_of_lt_of_eq t.isLt N_0
  have e := before0_2 m c t (blk2 m c t)
  unfold Dat.before at e
  rw [if_neg (fun h' => h (by have := (fetch0_2 t).mp h'; omega)), if_neg (by omega)] at e
  rw [← e]
  exact (after0_2 m c (prev t)).symm
theorem blk3_prev (c : Dev nD) (t : Fin cfg0.N) (h : ¬ t.val % 6 = 0) : blk3 m c (prev t) = blk3 m c t := by
  have ht : t.val < 384 := Nat.lt_of_lt_of_eq t.isLt N_0
  have e := before0_3 m c t (blk3 m c t)
  unfold Dat.before at e
  rw [if_neg (fun h' => h (by have := (fetch0_3 t).mp h'; omega)), if_neg (by omega)] at e
  rw [← e]
  exact (after0_3 m c (prev t)).symm

theorem carry5 (c : Dev nD) (t : Fin cfg0.N) (h : ¬ t.val % 6 = 0) : (dats m 0 c).after 5 t = (dats m 0 c).after 5 (prev t) := by
  rw [after0_5, after0_5, blk0_prev m c t h, blk2_prev m c t h]
theorem carry6 (c : Dev nD) (t : Fin cfg0.N) (h : ¬ t.val % 6 = 0) : (dats m 0 c).after 6 t = (dats m 0 c).after 6 (prev t) := by
  rw [after0_6, after0_6, blk0_prev m c t h, blk3_prev m c t h]

theorem before0_5 (c : Dev nD) (t : Fin cfg0.N) (h : ¬ t.val % 6 = 0) (d) : (dats m 0 c).before 5 t d = (dats m 0 c).after 5 t := by
  rw [(dats m 0 c).before_out_traj 5 rfl (fun _ _ => rfl)
    (fun t _ _ hf => carry5 m c t (fun h => by rw [fresh5, decide_eq_true h] at hf; exact absurd hf (by decide))) t.val t rfl d,
    fresh5, decide_eq_false h]
  exact (carry5 m c t h).symm
theorem before0_6 (c : Dev nD) (t : Fin cfg0.N) (h : ¬ t.val % 6 = 0) (d) : (dats m 0 c).before 6 t d = (dats m 0 c).after 6 t := by
  rw [(dats m 0 c).before_out_traj 6 rfl (fun _ _ => rfl)
    (fun t _ _ hf => carry6 m c t (fun h => by rw [fresh6, decide_eq_true h] at hf; exact absurd hf (by decide))) t.val t rfl d,
    fresh6, decide_eq_false h]
  exact (carry6 m c t h).symm

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A buffer the point does not touch, holding what it should already, is left as the pipeline wants it. -/
theorem leaves_held (c : Dev nD) (w : Fin cfg0.W) (t : Fin cfg0.N) (hi : cfg0.idle w (cfg0.grid.coords t) = true)
    (hb : ∀ d, (dats m 0 c).before w t d = (dats m 0 c).after w t) (d) :
    owns (c : Thread nD τ) ((cfg0.win w).stage (cfg0.slots t w)) fullShare ((dats m 0 c).before w t d) ⊢ (dats m 0 c).leavesExact w t := by
  unfold Dat.leavesExact; rw [hi]
  cases hf : (cfg0.win w).flush t
  · iintro H; iexists d; iexact H
  · rw [hb]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = Phi m c (t.val + 1) from rfl, show (dats m 0 c).Φ t.castSucc = Phi m c t.val from rfl, Phi_succ]
  rw [leaves_live m c 0 t rfl, leaves_live m c 1 t rfl, leaves_live m c 2 t rfl, leaves_live m c 3 t rfl, leaves_live m c 4 t rfl,
    after0_0, after0_1, after0_2, after0_3, after0_4]
  by_cases h0 : t.val % 6 = 0
  · rw [leaves_live m c 5 t (live5 t h0), leaves_live m c 6 t (live6 t h0), after0_5, after0_6]
    iintro ⟨HP, Ho, ⟨%d0, H0⟩, ⟨%d1, H1⟩, ⟨%d2, H2⟩, ⟨%d3, H3⟩, ⟨%d4, H4⟩, ⟨%d5, H5⟩, ⟨%d6, H6⟩⟩
    ihave HP' := ((Phi_any m c t.val).trans (BIBase.Entails.of_eq (restP_eq c))) $$ HP
    icases HP' with ⟨HS, Hg⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (blk0 m c t) (blk1 m c t) (blk2 m c t) (blk3 m c t) ((first_iff t).mpr h0)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexists _; iexact H4
    isplitl [H5]; · iexists _; iexact H5
    isplitl [H6]; · iexists _; iexact H6
    isplitl [HS]; · iexact HS
    iintro ⟨H0, H1, H2, H3, ⟨%e4, H4⟩, ⟨%e5, H5⟩, ⟨%e6, H6⟩, ⟨%e7, H7⟩⟩
    isplitl [H7 Hg]
    · isplitl [H7]
      · unfold owns; iexists _; isplitr; swap
        · iexact H7
        · ipureintro; exact readA9 ..
      iexact Hg
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · unfold owns; iexists _; isplitr; swap
      · iexact H4
      · ipureintro; exact readA4 ..
    isplitl [H5]
    · unfold owns; iexists _; isplitr; swap
      · iexact H5
      · ipureintro; exact readA5 ..
    unfold owns; iexists _; isplitr; swap
    · iexact H6
    · ipureintro; exact readA6 ..
  · obtain ⟨n, hn⟩ : ∃ n, t.val = n + 1 := ⟨t.val - 1, by omega⟩
    have hp : Phi m c t.val = iprop(owns (c : Thread nD τ) scM fullShare (k0_pay3 (blk0 m c t)) ∗ (∃ r, prngReg c r)) := by
      rw [← blk0_prev m c t h0]
      have e : t.val = (prev t).val + 1 := by show t.val = t.val - 1 + 1; omega
      rw [e]; exact Phi_succ m c (prev t)
    rw [hp]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (k0_pay3 (blk0 m c t)) (blk1 m c t) (fun h => h0 ((first_iff t).mp h))).2 _)
    isplitl [H1]; · iapply rep_of_owns; iexact H1
    isplitl [HS]; · iapply rep_of_owns; iexact HS
    isplitl [H4]; · iexists _; iexact H4
    iintro ⟨H1, HS, ⟨%e4, H4⟩⟩
    isplitl [HS Hg]
    · isplitl [HS]
      · iapply owns_of_rep; iexact HS
      iexact Hg
    isplitl [Ho]; · iexact Ho
    isplitl [H0]
    · iexact H0
    isplitl [H1]
    · iapply owns_of_rep; iexact H1
    isplitl [H2]
    · iexact H2
    isplitl [H3]
    · iexact H3
    isplitl [H4]
    · unfold owns; iexists _; isplitr; swap
      · iexact H4
      · ipureintro; exact readB4 ..
    isplitl [H5]
    · iapply (leaves_held m c 5 t (idle5 t h0) (before0_5 m c t h0) d5); iexact H5
    iapply (leaves_held m c 6 t (idle6 t h0) (before0_6 m c t h0) d6); iexact H6

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch and the frame -/

theorem Phi_first (c : Dev nD) : (Pipeline.ΦA spec0 c : sProp 𝕄) ⊢ (dats m 0 c).Φ 0 := .rfl

theorem Phi_last (c : Dev nD) : (dats m 0 c).Φ (Fin.last cfg0.N) ⊢ (Pipeline.ΦA spec0 c : sProp 𝕄) := by
  dsimp only [dats]
  exact Phi_any m c _

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_first m) (hout := Phi_last m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InProjIdeal.Hand

end
-- ==== Proof.ProjBody.lean ====
/- What the in-projection's body stores and its reference computes, read at an index: rows of sums over the 1024 features. -/
module

public import proofs.«01_k».proof.Proof.ProjFrame
public import proofs.«01_k».proof.Proof.Gen.InProjReferenceIdeal.Read
public import Idealize.ShloMosaic.Lib.Pointwise
public import Idealize.ShloMosaic.Lib.Writes
public import Idealize.ShloMosaic.Lib.Pipeline.ValueKit

@[expose] public section

set_option maxRecDepth 16384

noncomputable section

open Idealize.ShloMosaic Idealize.ShloMosaic.TcCoe Idealize.SL.Sem
open scoped BigOperators

namespace Cert.Proj

section Body
open Cert.InProjIdeal Cert.InProjIdeal.Gen Cert.InProjIdeal.Hand

variable (x0 : FVec Ideal S512x1024 .f32) (x1 : FVec Ideal S1024x1536 .bf16) (x2 : FVec Ideal S768x1024 .bf16) (x3 : FVec Ideal S1024x1536 .bf16)

theorem p_apply (r : Fin 512) (n : Fin 1536) : k0_pay1 (F := Ideal) (k0_pay3 (F := Ideal) x0) x1 (ix2 r n) = ∑ k : Fin 1024, x0 (ix2 r k) * x1 (ix2 k n) := by
  pointwise [k0_pay1, k0_pay3, k0_pay2]

theorem u_apply (f : Fin 768) (r : Fin 512) : k0_pay4 (F := Ideal) x0 x2 (ix2 f r) = ∑ k : Fin 1024, x2 (ix2 f k) * x0 (ix2 r k) := by
  pointwise [k0_pay4, k0_pay2]

theorem d_apply (r : Fin 512) (n : Fin 1536) : k0_pay5 (F := Ideal) x0 x3 (ix2 r n) = ∑ k : Fin 1024, x0 (ix2 r k) * x3 (ix2 k n) := by
  pointwise [k0_pay5, k0_pay2]

theorem lane_lt (a b : ℕ) (ha : a < 12) (hb : b < 128) : a * 128 + b < 1536 := by omega

/-- The planes of a 512 by 1536 array: plane `c` holds its columns from `128 c`. -/
def planes (y : FVec Ideal S512x1536 .f32) (z : S12x512x128.Idx) : EReal :=
  y (ix2 (z 1 : Fin 512) ⟨(z 0).val * 128 + (z 2).val, lane_lt _ _ (z 0).isLt (z 2).isLt⟩)

theorem plane_emb (o : ℕ) (ho : o < 12) (inb) (r : Fin 512) (l : Fin 128) :
    (Rect.unit (s := S12x512x128) ![o, 0, 0] S1x512x128.size inb).emb (ix3 (0 : Fin 1) r l) = ix3 (⟨o, ho⟩ : Fin 12) r l := by
  funext a
  refine Fin.ext ?_
  match a with
  | ⟨0, _⟩ => exact Nat.add_eq_left.mpr (Nat.mul_zero _)
  | ⟨1, _⟩ => exact (Nat.zero_add _).trans (Nat.one_mul _)
  | ⟨2, _⟩ => exact (Nat.zero_add _).trans (Nat.one_mul _)

theorem plane (y : FVec Ideal S512x1536 .f32) (o : ℕ) (ho : o < 12) (inb) (p : FVec Ideal S1x512x128 .f32)
    (hp : ∀ (r : Fin 512) (l : Fin 128), p (ix3 0 r l) = y (ix2 r ⟨o * 128 + l.val, lane_lt _ _ ho l.isLt⟩)) (x : S1x512x128.Idx) :
    p x = planes y ((Rect.unit (s := S12x512x128) ![o, 0, 0] S1x512x128.size inb).emb x) := by
  obtain ⟨r, l, hx⟩ : ∃ (r : Fin 512) (l : Fin 128), x = ix3 (0 : Fin 1) r l :=
    ⟨x 1, x 2, (eq_ix3 x).trans (congrArg (fun a : Fin 1 => ix3 a (x 1 : Fin 512) (x 2 : Fin 128)) (Subsingleton.elim _ _))⟩
  rw [hx, hp]
  exact (congrArg (planes y) (plane_emb o ho inb r l)).symm

theorem planes_apply (y : FVec Ideal S512x1536 .f32) (c : Fin 12) (r : Fin 512) (l : Fin 128) :
    planes y (ix3 c r l) = y (ix2 r ⟨c.val * 128 + l.val, by omega⟩) := rfl

section Planes
variable (y : FVec Ideal S512x1536 .f32) (r : Fin 512) (l : Fin 128)

theorem pl0 : k0_pay6 (F := Ideal) x0 x3 (ix3 0 r l) = k0_pay5 (F := Ideal) x0 x3 (ix2 r ⟨0 * 128 + l.val, by omega⟩) := by
  unfold k0_pay6
  generalize k0_pay5 (F := Ideal) x0 x3 = y
  pointwise []

theorem pl1 : k0_pay7 (F := Ideal) x0 x3 (ix3 0 r l) = k0_pay5 (F := Ideal) x0 x3 (ix2 r ⟨1 * 128 + l.val, by omega⟩) := by
  unfold k0_pay7
  generalize k0_pay5 (F := Ideal) x0 x3 = y
  pointwise []

theorem pl2 : k0_pay8 (F := Ideal) x0 x3 (ix3 0 r l) = k0_pay5 (F := Ideal) x0 x3 (ix2 r ⟨2 * 128 + l.val, by omega⟩) := by
  unfold k0_pay8
  generalize k0_pay5 (F := Ideal) x0 x3 = y
  pointwise []

theorem pl3 : k0_pay9 (F := Ideal) x0 x3 (ix3 0 r l) = k0_pay5 (F := Ideal) x0 x3 (ix2 r ⟨3 * 128 + l.val, by omega⟩) := by
  unfold k0_pay9
  generalize k0_pay5 (F := Ideal) x0 x3 = y
  pointwise []

theorem pl4 : k0_pay11 (F := Ideal) (k0_pay10 (F := Ideal) x0 x3) (ix3 0 r l) = k0_pay5 (F := Ideal) x0 x3 (ix2 r ⟨4 * 128 + l.val, by omega⟩) := by
  unfold k0_pay10
  generalize k0_pay5 (F := Ideal) x0 x3 = y
  pointwise [k0_pay11]

theorem pl5 : k0_pay12 (F := Ideal) y (ix3 0 r l) = y (ix2 r ⟨5 * 128 + l.val, by omega⟩) := by
  pointwise [k0_pay12]

theorem pl6 : k0_pay13 (F := Ideal) y (ix3 0 r l) = y (ix2 r ⟨6 * 128 + l.val, by omega⟩) := by
  pointwise [k0_pay13]

theorem pl7 : k0_pay14 (F := Ideal) y (ix3 0 r l) = y (ix2 r ⟨7 * 128 + l.val, by omega⟩) := by
  pointwise [k0_pay14]

theorem pl8 : k0_pay15 (F := Ideal) y (ix3 0 r l) = y (ix2 r ⟨8 * 128 + l.val, by omega⟩) := by
  pointwise [k0_pay15]

theorem pl9 : k0_pay16 (F := Ideal) y (ix3 0 r l) = y (ix2 r ⟨9 * 128 + l.val, by omega⟩) := by
  pointwise [k0_pay16]

theorem pl10 : k0_pay17 (F := Ideal) y (ix3 0 r l) = y (ix2 r ⟨10 * 128 + l.val, by omega⟩) := by
  pointwise [k0_pay17]

theorem pl11 : k0_pay18 (F := Ideal) y (ix3 0 r l) = y (ix2 r ⟨11 * 128 + l.val, by omega⟩) := by
  pointwise [k0_pay18]

end Planes

theorem pieces_at : ∀ p ∈ pieces6 (F := Ideal) x0 x3, ∀ x : p.1.shape.Idx, p.2 x = planes (k0_pay5 (F := Ideal) x0 x3) (p.1.emb x) := by
  intro p hp
  unfold pieces6 at hp
  rcases List.mem_cons.mp hp with rfl | hp
  · exact plane (k0_pay5 x0 x3) 11 (by decide) inb_S12x512x128_S1x512x128_11_0_0 _ (pl11 (k0_pay5 x0 x3))
  rcases List.mem_cons.mp hp with rfl | hp
  · exact plane (k0_pay5 x0 x3) 10 (by decide) inb_S12x512x128_S1x512x128_10_0_0 _ (pl10 (k0_pay5 x0 x3))
  rcases List.mem_cons.mp hp with rfl | hp
  · exact plane (k0_pay5 x0 x3) 9 (by decide) inb_S12x512x128_S1x512x128_9_0_0 _ (pl9 (k0_pay5 x0 x3))
  rcases List.mem_cons.mp hp with rfl | hp
  · exact plane (k0_pay5 x0 x3) 8 (by decide) inb_S12x512x128_S1x512x128_8_0_0 _ (pl8 (k0_pay5 x0 x3))
  rcases List.mem_cons.mp hp with rfl | hp
  · exact plane (k0_pay5 x0 x3) 7 (by decide) inb_S12x512x128_S1x512x128_7_0_0 _ (pl7 (k0_pay5 x0 x3))
  rcases List.mem_cons.mp hp with rfl | hp
  · exact plane (k0_pay5 x0 x3) 6 (by decide) inb_S12x512x128_S1x512x128_6_0_0 _ (pl6 (k0_pay5 x0 x3))
  rcases List.mem_cons.mp hp with rfl | hp
  · exact plane (k0_pay5 x0 x3) 5 (by decide) inb_S12x512x128_S1x512x128_5_0_0 _ (pl5 (k0_pay5 x0 x3))
  rcases List.mem_cons.mp hp with rfl | hp
  · exact plane (k0_pay5 x0 x3) 4 (by decide) inb_S12x512x128_S1x512x128_4_0_0 _ (pl4 x0 x3)
  rcases List.mem_cons.mp hp with rfl | hp
  · exact plane (k0_pay5 x0 x3) 3 (by decide) inb_S12x512x128_S1x512x128_3_0_0 _ (pl3 x0 x3)
  rcases List.mem_cons.mp hp with rfl | hp
  · exact plane (k0_pay5 x0 x3) 2 (by decide) inb_S12x512x128_S1x512x128_2_0_0 _ (pl2 x0 x3)
  rcases List.mem_cons.mp hp with rfl | hp
  · exact plane (k0_pay5 x0 x3) 1 (by decide) inb_S12x512x128_S1x512x128_1_0_0 _ (pl1 x0 x3)
  rcases List.mem_cons.mp hp with rfl | hp
  · exact plane (k0_pay5 x0 x3) 0 (by decide) inb_S12x512x128_S1x512x128_0_0_0 _ (pl0 x0 x3)
  exact absurd hp List.not_mem_nil

theorem out6_apply (c : Fin 12) (r : Fin 512) (l : Fin 128) :
    out6 (F := Ideal) x0 x3 (ix3 c r l) = ∑ k : Fin 1024, x0 (ix2 r k) * x3 (ix2 k ⟨c.val * 128 + l.val, by omega⟩) := by
  have h := View.read_writes_apply_of_pieces (Val := Elt Ideal) VO6 (VO6.junk (Val := Elt Ideal)) (planes (k0_pay5 (F := Ideal) x0 x3)) (pieces6 (F := Ideal) x0 x3) (pieces_at x0 x3) (ix3 c r l)
    (cover6 (F := Ideal) x0 x3 (ix3 c r l))
  unfold out6
  rw [h, planes_apply, d_apply]

end Body

section Reference
open Cert.InProjReferenceIdeal Cert.InProjReferenceIdeal.Gen Cert.InProjReferenceIdeal.Read

variable (a0 : FVec Ideal S32768x1024 .f32) (a1 : FVec Ideal S1024x9216 .bf16) (a2 : FVec Ideal S768x1024 .bf16) (a3 : FVec Ideal S1024x1536 .bf16)

theorem proj_apply (r : Fin 32768) (n : Fin 9216) : val_main_v4 (F := Ideal) a0 a1 (ix2 r n) = ∑ k : Fin 1024, a0 (ix2 r k) * a1 (ix2 k n) := by
  pointwise [val_main_v4, val_main_v3, val_main_v2, val_main_v1, val_main_v0]

theorem ut_apply (f : Fin 768) (r : Fin 32768) : val_main_v9 (F := Ideal) a0 a2 (ix2 f r) = ∑ k : Fin 1024, a0 (ix2 r k) * a2 (ix2 f k) := by
  pointwise [val_main_v9, val_main_v8, val_main_v7, val_main_v6, val_main_v5, val_main_v1, val_main_v0]

theorem pd_apply (c : Fin 12) (r : Fin 32768) (l : Fin 128) :
    val_main_v13 (F := Ideal) a0 a3 (ix3 c r l) = ∑ k : Fin 1024, a0 (ix2 r k) * a3 (ix2 k ⟨c.val * 128 + l.val, by omega⟩) := by
  have e : val_main_v13 (F := Ideal) a0 a3 (ix3 c r l) = val_main_v11 (F := Ideal) a0 a3 (ix2 r ⟨c.val * 128 + l.val, by omega⟩) := by
    unfold val_main_v13 val_main_v12
    generalize val_main_v11 (F := Ideal) a0 a3 = y
    pointwise []
  rw [e]
  pointwise [val_main_v11, val_main_v10, val_main_v1, val_main_v0]

end Reference

end Cert.Proj

end
-- ==== Proof.ProjValue.lean ====
/- The three result arrays of the in-projection after the kernel's run are the reference's. -/
module

public import proofs.«01_k».proof.Proof.ProjBody
public import Idealize.ShloMosaic.Lib.Pipeline.Value
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open scoped BigOperators

namespace Cert.Proj

open Cert.InProjIdeal Cert.InProjIdeal.Gen Cert.InProjIdeal.Hand
open Cert.InProjReferenceIdeal.Read

variable (m : (ℓ : Loc nD τ sig) → Buf (Elt Ideal) ℓ)

/-- Where each window's block lies at a grid point. -/
theorem idx_val : ∀ t : Fin cfg0.N, win0_0.index t = ![t.val / 6, 0]
    ∧ win0_1.index t = ![0, t.val % 6]
    ∧ win0_2.index t = ![0, 0]
    ∧ win0_3.index t = ![0, 0]
    ∧ win0_4.index t = ![t.val / 6, t.val % 6]
    ∧ win0_5.index t = ![0, t.val / 6]
    ∧ win0_6.index t = ![0, t.val / 6, 0] :=
  (by decide +kernel : ∀ t : Fin grid0.N, _)

abbrev A0 (c : Dev nD) : FVec Ideal S32768x1024 .f32 := m ((c : Thread nD τ).loc main_arg0)
abbrev A1 (c : Dev nD) : FVec Ideal S1024x9216 .bf16 := m ((c : Thread nD τ).loc main_arg1)
abbrev A2 (c : Dev nD) : FVec Ideal S768x1024 .bf16 := m ((c : Thread nD τ).loc main_arg2)
abbrev A3 (c : Dev nD) : FVec Ideal S1024x1536 .bf16 := m ((c : Thread nD τ).loc main_arg3)

theorem rd0 (c : Dev nD) (t : Fin cfg0.N) (ht : t.val < 384) (r : Fin 512) (k : Fin 1024) :
    blk0 m c t (ix2 r k) = A0 m c (ix2 ⟨t.val / 6 * 512 + r.val, by omega⟩ k) := by
  have e0 := idx_val t
  unfold blk0 iblk
  show A0 m c (((cfg0.win 0).blk t).view.emb (ix2 r k)) = _
  generalize A0 m c = A
  blk_ext [e0]

theorem rd1 (c : Dev nD) (t : Fin cfg0.N) (ht : t.val < 384) (k : Fin 1024) (n : Fin 1536) :
    blk1 m c t (ix2 k n) = A1 m c (ix2 k ⟨t.val % 6 * 1536 + n.val, by omega⟩) := by
  have e0 := idx_val t
  unfold blk1 iblk
  show A1 m c (((cfg0.win 1).blk t).view.emb (ix2 k n)) = _
  generalize A1 m c = A
  blk_ext [e0]

theorem rd2 (c : Dev nD) (t : Fin cfg0.N) (f : Fin 768) (k : Fin 1024) : blk2 m c t (ix2 f k) = A2 m c (ix2 f k) := by
  have e0 := idx_val t
  unfold blk2 iblk
  show A2 m c (((cfg0.win 2).blk t).view.emb (ix2 f k)) = _
  generalize A2 m c = A
  blk_ext [e0]

theorem rd3 (c : Dev nD) (t : Fin cfg0.N) (k : Fin 1024) (n : Fin 1536) : blk3 m c t (ix2 k n) = A3 m c (ix2 k n) := by
  have e0 := idx_val t
  unfold blk3 iblk
  show A3 m c (((cfg0.win 3).blk t).view.emb (ix2 k n)) = _
  generalize A3 m c = A
  blk_ext [e0]

/-! ## What a grid point stores -/

theorem st4 (c : Dev nD) (t : Fin cfg0.N) (ht : t.val < 384) (r : Fin 512) (n : Fin 1536) :
    k0_pay1 (k0_pay3 (blk0 m c t)) (blk1 m c t) (ix2 r n)
      = val_main_v4 (F := Ideal) (A0 m c) (A1 m c) (ix2 ⟨t.val / 6 * 512 + r.val, by omega⟩ ⟨t.val % 6 * 1536 + n.val, by omega⟩) := by
  rw [p_apply, proj_apply]
  refine Finset.sum_congr rfl fun k _ => ?_
  rw [rd0 m c t ht, rd1 m c t ht]

theorem st5 (c : Dev nD) (t : Fin cfg0.N) (ht : t.val < 384) (f : Fin 768) (r : Fin 512) :
    k0_pay4 (blk0 m c t) (blk2 m c t) (ix2 f r) = val_main_v9 (F := Ideal) (A0 m c) (A2 m c) (ix2 f ⟨t.val / 6 * 512 + r.val, by omega⟩) := by
  rw [u_apply, ut_apply]
  refine Finset.sum_congr rfl fun k _ => ?_
  rw [rd0 m c t ht, rd2, mul_comm]

theorem st6 (c : Dev nD) (t : Fin cfg0.N) (ht : t.val < 384) (p : Fin 12) (r : Fin 512) (l : Fin 128) :
    out6 (blk0 m c t) (blk3 m c t) (ix3 p r l) = val_main_v13 (F := Ideal) (A0 m c) (A3 m c) (ix3 p ⟨t.val / 6 * 512 + r.val, by omega⟩ l) := by
  rw [out6_apply, pd_apply]
  refine Finset.sum_congr rfl fun k _ => ?_
  rw [rd0 m c t ht, rd3]

/-! ## The blocks fill the results -/

theorem crd_tab : ∀ (a : Fin 64) (b : Fin 6), (BitVec.ofNat 32 (grid0.coords ⟨a.val * 6 + b.val, by have : grid0.N = 384 := N_0; omega⟩ 0).val).toNat = a.val
    ∧ (BitVec.ofNat 32 (grid0.coords ⟨a.val * 6 + b.val, by have : grid0.N = 384 := N_0; omega⟩ 1).val).toNat = b.val := by decide +kernel

theorem crd_of (a b : Nat) (ha : a < 64) (hb : b < 6) : ∃ i : grid0.Coords, (BitVec.ofNat 32 (i 0).val).toNat = a ∧ (BitVec.ofNat 32 (i 1).val).toNat = b :=
  ⟨_, crd_tab ⟨a, ha⟩ ⟨b, hb⟩⟩

theorem covers4 : (cfg0.win 4).Covers :=
  (cfg0.win 4).covers_of_indexMap_surj rfl (show ∀ a : Fin 2, 0 < S512x1536.size a by decide) fun β => by
    have h0 : (β (0 : Fin 2)).val < 64 := lt_of_lt_of_eq (β (0 : Fin 2)).isLt (show (32768 + 512 - 1) / 512 = 64 by decide)
    have h1 : (β (1 : Fin 2)).val < 6 := lt_of_lt_of_eq (β (1 : Fin 2)).isLt (show (9216 + 1536 - 1) / 1536 = 6 by decide)
    obtain ⟨i, hi, hj⟩ := crd_of _ _ h0 h1
    refine ⟨i, fun (a : Fin 2) => ?_⟩
    fin_cases a
    · exact hi
    · exact hj

theorem covers5 : (cfg0.win 5).Covers :=
  (cfg0.win 5).covers_of_indexMap_surj rfl (show ∀ a : Fin 2, 0 < S768x512.size a by decide) fun β => by
    have h0 : (β (0 : Fin 2)).val < 1 := lt_of_lt_of_eq (β (0 : Fin 2)).isLt (show (768 + 768 - 1) / 768 = 1 by decide)
    have h1 : (β (1 : Fin 2)).val < 64 := lt_of_lt_of_eq (β (1 : Fin 2)).isLt (show (32768 + 512 - 1) / 512 = 64 by decide)
    obtain ⟨i, hi, -⟩ := crd_of _ 0 h1 (by decide)
    refine ⟨i, fun (a : Fin 2) => ?_⟩
    fin_cases a
    · exact (Nat.lt_one_iff.mp h0).symm
    · exact hi

theorem covers6 : (cfg0.win 6).Covers :=
  (cfg0.win 6).covers_of_indexMap_surj rfl (show ∀ a : Fin 3, 0 < S12x512x128.size a by decide) fun β => by
    have h0 : (β (0 : Fin 3)).val < 1 := lt_of_lt_of_eq (β (0 : Fin 3)).isLt (show (12 + 12 - 1) / 12 = 1 by decide)
    have h1 : (β (1 : Fin 3)).val < 64 := lt_of_lt_of_eq (β (1 : Fin 3)).isLt (show (32768 + 512 - 1) / 512 = 64 by decide)
    have h2 : (β (2 : Fin 3)).val < 1 := lt_of_lt_of_eq (β (2 : Fin 3)).isLt (show (128 + 128 - 1) / 128 = 1 by decide)
    obtain ⟨i, hi, -⟩ := crd_of _ 0 h1 (by decide)
    refine ⟨i, fun (a : Fin 3) => ?_⟩
    fin_cases a
    · exact (Nat.lt_one_iff.mp h0).symm
    · exact hi
    · exact (Nat.lt_one_iff.mp h2).symm

/-! ## The results -/

/-- The branches' projections. -/
theorem final_4 (c : Dev nD) : (dats m 0 c).arrAt 4 (cfgs 0).N = val_main_v4 (F := Ideal) (A0 m c) (A1 m c) := by
  refine (dats m 0 c).arrAt_eq_of_covers 4 _ covers4 fun t hf y => ?_
  have ht : t.val < 384 := Nat.lt_of_lt_of_eq t.isLt N_0
  have e0 := idx_val t
  blk_simp; rw [after0_4]
  obtain ⟨r, n, hy⟩ : ∃ (r : Fin 512) (n : Fin 1536), y = ix2 r n := ⟨y 0, y 1, eq_ix2 y⟩
  rw [hy]
  refine (st4 m c t ht r n).trans ?_
  generalize val_main_v4 (F := Ideal) (A0 m c) (A1 m c) = X
  blk_ext [e0]

/-- The state space's inputs, transposed. -/
theorem final_5 (c : Dev nD) : (dats m 0 c).arrAt 5 (cfgs 0).N = val_main_v9 (F := Ideal) (A0 m c) (A2 m c) := by
  refine (dats m 0 c).arrAt_eq_of_covers 5 _ covers5 fun t hf y => ?_
  have ht : t.val < 384 := Nat.lt_of_lt_of_eq t.isLt N_0
  have e0 := idx_val t
  blk_simp; rw [after0_5]
  obtain ⟨f, r, hy⟩ : ∃ (f : Fin 768) (r : Fin 512), y = ix2 f r := ⟨y 0, y 1, eq_ix2 y⟩
  rw [hy]
  refine (st5 m c t ht f r).trans ?_
  generalize val_main_v9 (F := Ideal) (A0 m c) (A2 m c) = X
  blk_ext [e0]

/-- The retention's inputs, in planes. -/
theorem final_6 (c : Dev nD) : (dats m 0 c).arrAt 6 (cfgs 0).N = val_main_v13 (F := Ideal) (A0 m c) (A3 m c) := by
  refine (dats m 0 c).arrAt_eq_of_covers 6 _ covers6 fun t hf y => ?_
  have ht : t.val < 384 := Nat.lt_of_lt_of_eq t.isLt N_0
  have e0 := idx_val t
  blk_simp; rw [after0_6]
  obtain ⟨p, r, l, hy⟩ : ∃ (p : Fin 12) (r : Fin 512) (l : Fin 128), y = ix3 p r l := ⟨y 0, y 1, y 2, eq_ix3 y⟩
  rw [hy]
  refine (st6 m c t ht p r l).trans ?_
  generalize val_main_v13 (F := Ideal) (A0 m c) (A3 m c) = X
  blk_ext [e0]

/-- The run: the results at their computed contents, the arguments unchanged. -/
theorem run_blocks (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = (dats m 0 c).arrAt 4 (cfgs 0).N
      ∧ r.2.mem ((c.tc : Thread nD τ).loc main_v0_1) = (dats m 0 c).arrAt 5 (cfgs 0).N
      ∧ r.2.mem ((c.tc : Thread nD τ).loc main_v0_2) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, h.2 c⟩)
    (θ_run_and (run_main m ρ) (frame_of m ρ (dats m) (A_eq m) (run_main m ρ)))

end Cert.Proj

end
-- ==== Proof.MergeRun.lean ====
module

public import proofs.«01_k».proof.Proof.Gen.MergeIdeal.Skeleton
public import proofs.«01_k».proof.Proof.Gen.MergeIdeal.Frame.Runs
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Exec
public import Idealize.ShloMosaic.Lib.Affine
public import Idealize.ShloMosaic.Lib.Tactic

/-! The body of the branch merge run on symbolic blocks: what it leaves in the block of its first result, and that it gives
    the other buffers back. -/

@[expose] public section

set_option maxRecDepth 16384
set_option Elab.async false

noncomputable section

namespace Cert.MergeIdeal.Hand

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Slab `k` of a block of two slabs. -/
def slab0 (x : Vec F S2x256x128 .f32) : Vec F S1x256x128 .f32 := fun y => x ((Rect.unit (s := S2x256x128) ![0, 0, 0] S1x256x128.size inb_S2x256x128_S1x256x128_0_0_0).toLoadRect.idx y)
def slab1 (x : Vec F S2x256x128 .f32) : Vec F S1x256x128 .f32 := fun y => x ((Rect.unit (s := S2x256x128) ![1, 0, 0] S1x256x128.size inb_S2x256x128_S1x256x128_1_0_0).toLoadRect.idx y)

/-- The four column blocks of the gates. -/
def gate0 (x : Vec F S256x4096 .bf16) : Vec F S256x1024 .bf16 := fun y => x ((Rect.unit (s := S256x4096) ![0, 0] S256x1024.size inb_S256x4096_S256x1024_0_0).toLoadRect.idx y)
def gate1 (x : Vec F S256x4096 .bf16) : Vec F S256x1024 .bf16 := fun y => x ((Rect.unit (s := S256x4096) ![0, 1024] S256x1024.size inb_S256x4096_S256x1024_0_1024).toLoadRect.idx y)
def gate2 (x : Vec F S256x4096 .bf16) : Vec F S256x1024 .bf16 := fun y => x ((Rect.unit (s := S256x4096) ![0, 2048] S256x1024.size inb_S256x4096_S256x1024_0_2048).toLoadRect.idx y)
def gate3 (x : Vec F S256x4096 .bf16) : Vec F S256x1024 .bf16 := fun y => x ((Rect.unit (s := S256x4096) ![0, 3072] S256x1024.size inb_S256x4096_S256x1024_0_3072).toLoadRect.idx y)

/-- The first branch's contribution: the three groups weighted and merged, multiplied out and gated. -/
def yaOf (x1 : Vec F S256x256 .f32) (x2 x3 : Vec F S2x256x128 .f32) (x4 : Vec F S256x256 .f32) (x5 x6 : Vec F S2x256x128 .f32) (x10 : Vec F S256x4096 .bf16) (x13 : Vec F S768x1024 .bf16) : Vec F S256x1024 .f32 :=
  k0_pay10 (k0_pay4 (slab0 x5) (slab1 x5)) (k0_pay5 (slab0 x6) (slab1 x6)) x1 (k0_pay6 (slab0 x2) (slab1 x2)) (k0_pay7 (slab0 x3) (slab1 x3))
    (k0_pay8 x4 (slab0 x5) (slab1 x5) (slab0 x6) (slab1 x6)) (k0_pay9 x4 (slab0 x5) (slab1 x5) (slab0 x6) (slab1 x6)) x13 (gate0 x10)

/-- The block of the first result: the normalised sum of the residual and the projected branches. -/
def x1of (x0 : Vec F S256x1024 .f32) (x1 : Vec F S256x256 .f32) (x2 : Vec F S2x256x128 .f32) (x3 : Vec F S2x256x128 .f32) (x4 : Vec F S256x256 .f32) (x5 : Vec F S2x256x128 .f32) (x6 : Vec F S2x256x128 .f32) (x7 : Vec F S768x256 .bf16) (x8 : Vec F S256x768 .bf16) (x9 : Vec F S256x1024 .bf16) (x10 : Vec F S256x4096 .bf16) (x11 : Vec F S768x768 .bf16) (x12 : Vec F S768x1 .f32) (x13 : Vec F S768x1024 .bf16) (x14 : Vec F S768x1024 .bf16) (x15 : Vec F S768x1024 .bf16) (x16 : Vec F S1024x1024 .bf16) (x17 : Vec F S1024x1024 .bf16) (x18 : Vec F S1x1024 .f32) (x19 : Vec F S1x1024 .f32) : Vec F S256x1024 .f32 :=
  k0_pay14 x18 x19
    (k0_pay12 x8 x9 (yaOf x1 x2 x3 x4 x5 x6 x10 x13) (k0_pay11 x7 x11 x12 x14) (gate1 x10) x15 (gate2 x10) x16 (gate3 x10) x0 x17)
    (k0_pay13 x8 x9 (yaOf x1 x2 x3 x4 x5 x6 x10 x13) (k0_pay11 x7 x11 x12 x14) (gate1 x10) x15 (gate2 x10) x16 (gate3 x10) x0 x17)

set_option backward.proofsInPublic true in
set_option maxHeartbeats 16000000 in
/-- At the first point the counts are set to zero first. -/
theorem runA (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S2x256x128 .f32) (harg3 : arg3.IsWhole) (arg4 : Memref sig .tc .vmem S2x256x128 .f32) (harg4 : arg4.IsWhole) (arg5 : Memref sig .tc .vmem S256x256 .f32) (harg5 : arg5.IsWhole) (arg6 : Memref sig .tc .vmem S2x256x128 .f32) (harg6 : arg6.IsWhole) (arg7 : Memref sig .tc .vmem S2x256x128 .f32) (harg7 : arg7.IsWhole) (arg8 : Memref sig .tc .vmem S768x256 .bf16) (harg8 : arg8.IsWhole) (arg9 : Memref sig .tc .vmem S256x768 .bf16) (harg9 : arg9.IsWhole) (arg10 : Memref sig .tc .vmem S256x1024 .bf16) (harg10 : arg10.IsWhole) (arg11 : Memref sig .tc .vmem S256x4096 .bf16) (harg11 : arg11.IsWhole) (arg12 : Memref sig .tc .vmem S768x768 .bf16) (harg12 : arg12.IsWhole) (arg13 : Memref sig .tc .vmem S768x1 .f32) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S1024x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S8x128 .f32) (harg25 : arg25.IsWhole) (arg26 : Memref sig .tc .vmem S8x128 .f32) (harg26 : arg26.IsWhole)
    (x0 : Vec F S256x1024 .f32) (x1 : Vec F S256x256 .f32) (x2 : Vec F S2x256x128 .f32) (x3 : Vec F S2x256x128 .f32) (x4 : Vec F S256x256 .f32) (x5 : Vec F S2x256x128 .f32) (x6 : Vec F S2x256x128 .f32) (x7 : Vec F S768x256 .bf16) (x8 : Vec F S256x768 .bf16) (x9 : Vec F S256x1024 .bf16) (x10 : Vec F S256x4096 .bf16) (x11 : Vec F S768x768 .bf16) (x12 : Vec F S768x1 .f32) (x13 : Vec F S768x1024 .bf16) (x14 : Vec F S768x1024 .bf16) (x15 : Vec F S768x1024 .bf16) (x16 : Vec F S1024x1024 .bf16) (x17 : Vec F S1024x1024 .bf16) (x18 : Vec F S1x1024 .f32) (x19 : Vec F S1x1024 .f32) (x20 : Vec F S1024x128 .f32) (x21 : Vec F S1x128 .f32)
    (h1 : cond0_0 i) (K : PUnit → sProp 𝕄) :
    iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (arg13.view.loc (c : Thread nD τ) ↦[arg13.view.set]{fullShare} arg13.view.rep x12) ∗ (arg14.view.loc (c : Thread nD τ) ↦[arg14.view.set]{fullShare} arg14.view.rep x13) ∗ (arg15.view.loc (c : Thread nD τ) ↦[arg15.view.set]{fullShare} arg15.view.rep x14) ∗ (arg16.view.loc (c : Thread nD τ) ↦[arg16.view.set]{fullShare} arg16.view.rep x15) ∗ (arg17.view.loc (c : Thread nD τ) ↦[arg17.view.set]{fullShare} arg17.view.rep x16) ∗ (arg18.view.loc (c : Thread nD τ) ↦[arg18.view.set]{fullShare} arg18.view.rep x17) ∗ (arg19.view.loc (c : Thread nD τ) ↦[arg19.view.set]{fullShare} arg19.view.rep x18) ∗ (arg20.view.loc (c : Thread nD τ) ↦[arg20.view.set]{fullShare} arg20.view.rep x19) ∗ (arg21.view.loc (c : Thread nD τ) ↦[arg21.view.set]{fullShare} arg21.view.rep x20) ∗ (arg22.view.loc (c : Thread nD τ) ↦[arg22.view.set]{fullShare} arg22.view.rep x21)
      ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (arg13.view.loc (c : Thread nD τ) ↦[arg13.view.set]{fullShare} arg13.view.rep x12) ∗ (arg14.view.loc (c : Thread nD τ) ↦[arg14.view.set]{fullShare} arg14.view.rep x13) ∗ (arg15.view.loc (c : Thread nD τ) ↦[arg15.view.set]{fullShare} arg15.view.rep x14) ∗ (arg16.view.loc (c : Thread nD τ) ↦[arg16.view.set]{fullShare} arg16.view.rep x15) ∗ (arg17.view.loc (c : Thread nD τ) ↦[arg17.view.set]{fullShare} arg17.view.rep x16) ∗ (arg18.view.loc (c : Thread nD τ) ↦[arg18.view.set]{fullShare} arg18.view.rep x17) ∗ (arg19.view.loc (c : Thread nD τ) ↦[arg19.view.set]{fullShare} arg19.view.rep x18) ∗ (arg20.view.loc (c : Thread nD τ) ↦[arg20.view.set]{fullShare} arg20.view.rep x19) ∗ (arg21.view.loc (c : Thread nD τ) ↦[arg21.view.set]{fullShare} arg21.view.rep x20) ∗ (arg22.view.loc (c : Thread nD τ) ↦[arg22.view.set]{fullShare} arg22.view.rep x21)
          ∗ owns (c : Thread nD τ) arg23 fullShare (x1of x0 x1 x2 x3 x4 x5 x6 x7 x8 x9 x10 x11 x12 x13 x14 x15 x16 x17 x18 x19) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) Set.univ (cc0_branch_merge_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    unfold owns
    simp only [cc0_branch_merge_router_eq_skeleton]; unfold cc0_branch_merge_router_skel
    simp only [k0_part1_eq_skeleton, k0_part2_eq_skeleton, k0_part3_eq_skeleton, k0_part4_eq_skeleton, k0_part5_eq_skeleton, k0_part6_eq_skeleton, k0_part7_eq_skeleton]
    iintro ⟨H0, H1, H2, H3, H4, H5, H6, H7, H8, H9, H10, H11, H12, H13, H14, H15, H16, H17, H18, H19, H20, H21, ⟨%d22, %f22, -, H22⟩, ⟨%d23, %f23, -, H23⟩, ⟨%d24, %f24, -, H24⟩, ⟨%d25, %f25, -, H25⟩, Hk⟩
    sl_exec! (disch := exact h1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]
    · iexists _; isplitr; swap
      · iexact H22
      · ipureintro
        unfold runA.sl.H22_1
        rw [View.read_writes_full]
        unfold x1of yaOf
        try unfold runA.sl.r_14
        try unfold runA.sl.r_13
        try unfold runA.sl.r_12
        try unfold runA.sl.r_11
        try unfold runA.sl.r_10
        try unfold runA.sl.r_9
        try unfold runA.sl.r_8
        try unfold runA.sl.r_7
        try unfold runA.sl.r_6
        try unfold runA.sl.r_5
        try unfold runA.sl.r_4
        try unfold runA.sl.r_3
        try unfold runA.sl.r_2
        try unfold runA.sl.r_1
        try unfold runA.sl.r
        have e0 : View.readAt (Elt F) arg5.view (Rect.unit (s := S256x256) ![0, 0] ![256, 256] inb_S256x256_S256x256_0_0).toLoadRect (arg5.view.rep x4) = x4 := View.readAt_rep_full ..
        have e1 : View.readAt (Elt F) arg2.view (Rect.unit (s := S256x256) ![0, 0] ![256, 256] inb_S256x256_S256x256_0_0).toLoadRect (arg2.view.rep x1) = x1 := View.readAt_rep_full ..
        have e2 : View.readAt (Elt F) arg8.view (Rect.unit (s := S768x256) ![0, 0] ![768, 256] inb_S768x256_S768x256_0_0).toLoadRect (arg8.view.rep x7) = x7 := View.readAt_rep_full ..
        have e3 : View.readAt (Elt F) arg12.view (Rect.unit (s := S768x768) ![0, 0] ![768, 768] inb_S768x768_S768x768_0_0).toLoadRect (arg12.view.rep x11) = x11 := View.readAt_rep_full ..
        have e4 : View.readAt (Elt F) arg13.view (Rect.unit (s := S768x1) ![0, 0] ![768, 1] inb_S768x1_S768x1_0_0).toLoadRect (arg13.view.rep x12) = x12 := View.readAt_rep_full ..
        have e5 : View.readAt (Elt F) arg9.view (Rect.unit (s := S256x768) ![0, 0] ![256, 768] inb_S256x768_S256x768_0_0).toLoadRect (arg9.view.rep x8) = x8 := View.readAt_rep_full ..
        have e6 : View.readAt (Elt F) arg10.view (Rect.unit (s := S256x1024) ![0, 0] ![256, 1024] inb_S256x1024_S256x1024_0_0).toLoadRect (arg10.view.rep x9) = x9 := View.readAt_rep_full ..
        have e7 : View.readAt (Elt F) arg14.view (Rect.unit (s := S768x1024) ![0, 0] ![768, 1024] inb_S768x1024_S768x1024_0_0).toLoadRect (arg14.view.rep x13) = x13 := View.readAt_rep_full ..
        have e8 : View.readAt (Elt F) arg15.view (Rect.unit (s := S768x1024) ![0, 0] ![768, 1024] inb_S768x1024_S768x1024_0_0).toLoadRect (arg15.view.rep x14) = x14 := View.readAt_rep_full ..
        have e9 : View.readAt (Elt F) arg16.view (Rect.unit (s := S768x1024) ![0, 0] ![768, 1024] inb_S768x1024_S768x1024_0_0).toLoadRect (arg16.view.rep x15) = x15 := View.readAt_rep_full ..
        have e10 : View.readAt (Elt F) arg17.view (Rect.unit (s := S1024x1024) ![0, 0] ![1024, 1024] inb_S1024x1024_S1024x1024_0_0).toLoadRect (arg17.view.rep x16) = x16 := View.readAt_rep_full ..
        have e11 : View.readAt (Elt F) arg1.view (Rect.unit (s := S256x1024) ![0, 0] ![256, 1024] inb_S256x1024_S256x1024_0_0).toLoadRect (arg1.view.rep x0) = x0 := View.readAt_rep_full ..
        have e12 : View.readAt (Elt F) arg18.view (Rect.unit (s := S1024x1024) ![0, 0] ![1024, 1024] inb_S1024x1024_S1024x1024_0_0).toLoadRect (arg18.view.rep x17) = x17 := View.readAt_rep_full ..
        have e13 : View.readAt (Elt F) arg19.view (Rect.unit (s := S1x1024) ![0, 0] ![1, 1024] inb_S1x1024_S1x1024_0_0).toLoadRect (arg19.view.rep x18) = x18 := View.readAt_rep_full ..
        have e14 : View.readAt (Elt F) arg20.view (Rect.unit (s := S1x1024) ![0, 0] ![1, 1024] inb_S1x1024_S1x1024_0_0).toLoadRect (arg20.view.rep x19) = x19 := View.readAt_rep_full ..
        have e15 : View.readAt (Elt F) arg3.view (Rect.unit (s := S2x256x128) ![0, 0, 0] ![1, 256, 128] inb_S2x256x128_S1x256x128_0_0_0).toLoadRect (arg3.view.rep x2) = slab0 x2 := View.readAt_rep ..
        have e16 : View.readAt (Elt F) arg3.view (Rect.unit (s := S2x256x128) ![1, 0, 0] ![1, 256, 128] inb_S2x256x128_S1x256x128_1_0_0).toLoadRect (arg3.view.rep x2) = slab1 x2 := View.readAt_rep ..
        have e17 : View.readAt (Elt F) arg4.view (Rect.unit (s := S2x256x128) ![0, 0, 0] ![1, 256, 128] inb_S2x256x128_S1x256x128_0_0_0).toLoadRect (arg4.view.rep x3) = slab0 x3 := View.readAt_rep ..
        have e18 : View.readAt (Elt F) arg4.view (Rect.unit (s := S2x256x128) ![1, 0, 0] ![1, 256, 128] inb_S2x256x128_S1x256x128_1_0_0).toLoadRect (arg4.view.rep x3) = slab1 x3 := View.readAt_rep ..
        have e19 : View.readAt (Elt F) arg6.view (Rect.unit (s := S2x256x128) ![0, 0, 0] ![1, 256, 128] inb_S2x256x128_S1x256x128_0_0_0).toLoadRect (arg6.view.rep x5) = slab0 x5 := View.readAt_rep ..
        have e20 : View.readAt (Elt F) arg6.view (Rect.unit (s := S2x256x128) ![1, 0, 0] ![1, 256, 128] inb_S2x256x128_S1x256x128_1_0_0).toLoadRect (arg6.view.rep x5) = slab1 x5 := View.readAt_rep ..
        have e21 : View.readAt (Elt F) arg7.view (Rect.unit (s := S2x256x128) ![0, 0, 0] ![1, 256, 128] inb_S2x256x128_S1x256x128_0_0_0).toLoadRect (arg7.view.rep x6) = slab0 x6 := View.readAt_rep ..
        have e22 : View.readAt (Elt F) arg7.view (Rect.unit (s := S2x256x128) ![1, 0, 0] ![1, 256, 128] inb_S2x256x128_S1x256x128_1_0_0).toLoadRect (arg7.view.rep x6) = slab1 x6 := View.readAt_rep ..
        have e23 : View.readAt (Elt F) arg11.view (Rect.unit (s := S256x4096) ![0, 0] ![256, 1024] inb_S256x4096_S256x1024_0_0).toLoadRect (arg11.view.rep x10) = gate0 x10 := View.readAt_rep ..
        have e24 : View.readAt (Elt F) arg11.view (Rect.unit (s := S256x4096) ![0, 1024] ![256, 1024] inb_S256x4096_S256x1024_0_1024).toLoadRect (arg11.view.rep x10) = gate1 x10 := View.readAt_rep ..
        have e25 : View.readAt (Elt F) arg11.view (Rect.unit (s := S256x4096) ![0, 2048] ![256, 1024] inb_S256x4096_S256x1024_0_2048).toLoadRect (arg11.view.rep x10) = gate2 x10 := View.readAt_rep ..
        have e26 : View.readAt (Elt F) arg11.view (Rect.unit (s := S256x4096) ![0, 3072] ![256, 1024] inb_S256x4096_S256x1024_0_3072).toLoadRect (arg11.view.rep x10) = gate3 x10 := View.readAt_rep ..
        simp only [e0, e1, e2, e3, e4, e5, e6, e7, e8, e9, e10, e11, e12, e13, e14, e15, e16, e17, e18, e19, e20, e21, e22, e23, e24, e25, e26]
    isplitl [H23]
    · iexists _; iexists _; isplitr; swap; · iexact H23
      · ipureintro; rfl
    isplitl [H24]
    · iexists _; iexists _; isplitr; swap; · iexact H24
      · ipureintro; rfl
    iexists _; iexists _; isplitr; swap
    · iexact H25
    · ipureintro; rfl

set_option backward.proofsInPublic true in
set_option maxHeartbeats 16000000 in
/-- At a later point the counts are carried on. -/
theorem runB (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S2x256x128 .f32) (harg3 : arg3.IsWhole) (arg4 : Memref sig .tc .vmem S2x256x128 .f32) (harg4 : arg4.IsWhole) (arg5 : Memref sig .tc .vmem S256x256 .f32) (harg5 : arg5.IsWhole) (arg6 : Memref sig .tc .vmem S2x256x128 .f32) (harg6 : arg6.IsWhole) (arg7 : Memref sig .tc .vmem S2x256x128 .f32) (harg7 : arg7.IsWhole) (arg8 : Memref sig .tc .vmem S768x256 .bf16) (harg8 : arg8.IsWhole) (arg9 : Memref sig .tc .vmem S256x768 .bf16) (harg9 : arg9.IsWhole) (arg10 : Memref sig .tc .vmem S256x1024 .bf16) (harg10 : arg10.IsWhole) (arg11 : Memref sig .tc .vmem S256x4096 .bf16) (harg11 : arg11.IsWhole) (arg12 : Memref sig .tc .vmem S768x768 .bf16) (harg12 : arg12.IsWhole) (arg13 : Memref sig .tc .vmem S768x1 .f32) (harg13 : arg13.IsWhole) (arg14 : Memref sig .tc .vmem S768x1024 .bf16) (harg14 : arg14.IsWhole) (arg15 : Memref sig .tc .vmem S768x1024 .bf16) (harg15 : arg15.IsWhole) (arg16 : Memref sig .tc .vmem S768x1024 .bf16) (harg16 : arg16.IsWhole) (arg17 : Memref sig .tc .vmem S1024x1024 .bf16) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x128 .f32) (harg21 : arg21.IsWhole) (arg22 : Memref sig .tc .vmem S1x128 .f32) (harg22 : arg22.IsWhole) (arg23 : Memref sig .tc .vmem S256x1024 .f32) (harg23 : arg23.IsWhole) (arg24 : Memref sig .tc .vmem S256x128 .f32) (harg24 : arg24.IsWhole) (arg25 : Memref sig .tc .vmem S8x128 .f32) (harg25 : arg25.IsWhole) (arg26 : Memref sig .tc .vmem S8x128 .f32) (harg26 : arg26.IsWhole)
    (x0 : Vec F S256x1024 .f32) (x1 : Vec F S256x256 .f32) (x2 : Vec F S2x256x128 .f32) (x3 : Vec F S2x256x128 .f32) (x4 : Vec F S256x256 .f32) (x5 : Vec F S2x256x128 .f32) (x6 : Vec F S2x256x128 .f32) (x7 : Vec F S768x256 .bf16) (x8 : Vec F S256x768 .bf16) (x9 : Vec F S256x1024 .bf16) (x10 : Vec F S256x4096 .bf16) (x11 : Vec F S768x768 .bf16) (x12 : Vec F S768x1 .f32) (x13 : Vec F S768x1024 .bf16) (x14 : Vec F S768x1024 .bf16) (x15 : Vec F S768x1024 .bf16) (x16 : Vec F S1024x1024 .bf16) (x17 : Vec F S1024x1024 .bf16) (x18 : Vec F S1x1024 .f32) (x19 : Vec F S1x1024 .f32) (x20 : Vec F S1024x128 .f32) (x21 : Vec F S1x128 .f32)
    (h1 : ¬ cond0_0 i) (K : PUnit → sProp 𝕄) :
    iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (arg13.view.loc (c : Thread nD τ) ↦[arg13.view.set]{fullShare} arg13.view.rep x12) ∗ (arg14.view.loc (c : Thread nD τ) ↦[arg14.view.set]{fullShare} arg14.view.rep x13) ∗ (arg15.view.loc (c : Thread nD τ) ↦[arg15.view.set]{fullShare} arg15.view.rep x14) ∗ (arg16.view.loc (c : Thread nD τ) ↦[arg16.view.set]{fullShare} arg16.view.rep x15) ∗ (arg17.view.loc (c : Thread nD τ) ↦[arg17.view.set]{fullShare} arg17.view.rep x16) ∗ (arg18.view.loc (c : Thread nD τ) ↦[arg18.view.set]{fullShare} arg18.view.rep x17) ∗ (arg19.view.loc (c : Thread nD τ) ↦[arg19.view.set]{fullShare} arg19.view.rep x18) ∗ (arg20.view.loc (c : Thread nD τ) ↦[arg20.view.set]{fullShare} arg20.view.rep x19) ∗ (arg21.view.loc (c : Thread nD τ) ↦[arg21.view.set]{fullShare} arg21.view.rep x20) ∗ (arg22.view.loc (c : Thread nD τ) ↦[arg22.view.set]{fullShare} arg22.view.rep x21)
      ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (arg6.view.loc (c : Thread nD τ) ↦[arg6.view.set]{fullShare} arg6.view.rep x5) ∗ (arg7.view.loc (c : Thread nD τ) ↦[arg7.view.set]{fullShare} arg7.view.rep x6) ∗ (arg8.view.loc (c : Thread nD τ) ↦[arg8.view.set]{fullShare} arg8.view.rep x7) ∗ (arg9.view.loc (c : Thread nD τ) ↦[arg9.view.set]{fullShare} arg9.view.rep x8) ∗ (arg10.view.loc (c : Thread nD τ) ↦[arg10.view.set]{fullShare} arg10.view.rep x9) ∗ (arg11.view.loc (c : Thread nD τ) ↦[arg11.view.set]{fullShare} arg11.view.rep x10) ∗ (arg12.view.loc (c : Thread nD τ) ↦[arg12.view.set]{fullShare} arg12.view.rep x11) ∗ (arg13.view.loc (c : Thread nD τ) ↦[arg13.view.set]{fullShare} arg13.view.rep x12) ∗ (arg14.view.loc (c : Thread nD τ) ↦[arg14.view.set]{fullShare} arg14.view.rep x13) ∗ (arg15.view.loc (c : Thread nD τ) ↦[arg15.view.set]{fullShare} arg15.view.rep x14) ∗ (arg16.view.loc (c : Thread nD τ) ↦[arg16.view.set]{fullShare} arg16.view.rep x15) ∗ (arg17.view.loc (c : Thread nD τ) ↦[arg17.view.set]{fullShare} arg17.view.rep x16) ∗ (arg18.view.loc (c : Thread nD τ) ↦[arg18.view.set]{fullShare} arg18.view.rep x17) ∗ (arg19.view.loc (c : Thread nD τ) ↦[arg19.view.set]{fullShare} arg19.view.rep x18) ∗ (arg20.view.loc (c : Thread nD τ) ↦[arg20.view.set]{fullShare} arg20.view.rep x19) ∗ (arg21.view.loc (c : Thread nD τ) ↦[arg21.view.set]{fullShare} arg21.view.rep x20) ∗ (arg22.view.loc (c : Thread nD τ) ↦[arg22.view.set]{fullShare} arg22.view.rep x21)
          ∗ owns (c : Thread nD τ) arg23 fullShare (x1of x0 x1 x2 x3 x4 x5 x6 x7 x8 x9 x10 x11 x12 x13 x14 x15 x16 x17 x18 x19) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) Set.univ (cc0_branch_merge_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    unfold owns
    simp only [cc0_branch_merge_router_eq_skeleton]; unfold cc0_branch_merge_router_skel
    simp only [k0_part1_eq_skeleton, k0_part2_eq_skeleton, k0_part3_eq_skeleton, k0_part4_eq_skeleton, k0_part5_eq_skeleton, k0_part6_eq_skeleton, k0_part7_eq_skeleton]
    iintro ⟨H0, H1, H2, H3, H4, H5, H6, H7, H8, H9, H10, H11, H12, H13, H14, H15, H16, H17, H18, H19, H20, H21, ⟨%d22, %f22, -, H22⟩, ⟨%d23, %f23, -, H23⟩, ⟨%d24, %f24, -, H24⟩, ⟨%d25, %f25, -, H25⟩, Hk⟩
    sl_exec! (disch := exact h1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]
    · iexists _; isplitr; swap
      · iexact H22
      · ipureintro
        unfold runB.sl.H22_1
        rw [View.read_writes_full]
        unfold x1of yaOf
        try unfold runB.sl.r_14
        try unfold runB.sl.r_13
        try unfold runB.sl.r_12
        try unfold runB.sl.r_11
        try unfold runB.sl.r_10
        try unfold runB.sl.r_9
        try unfold runB.sl.r_8
        try unfold runB.sl.r_7
        try unfold runB.sl.r_6
        try unfold runB.sl.r_5
        try unfold runB.sl.r_4
        try unfold runB.sl.r_3
        try unfold runB.sl.r_2
        try unfold runB.sl.r_1
        try unfold runB.sl.r
        have e0 : View.readAt (Elt F) arg5.view (Rect.unit (s := S256x256) ![0, 0] ![256, 256] inb_S256x256_S256x256_0_0).toLoadRect (arg5.view.rep x4) = x4 := View.readAt_rep_full ..
        have e1 : View.readAt (Elt F) arg2.view (Rect.unit (s := S256x256) ![0, 0] ![256, 256] inb_S256x256_S256x256_0_0).toLoadRect (arg2.view.rep x1) = x1 := View.readAt_rep_full ..
        have e2 : View.readAt (Elt F) arg8.view (Rect.unit (s := S768x256) ![0, 0] ![768, 256] inb_S768x256_S768x256_0_0).toLoadRect (arg8.view.rep x7) = x7 := View.readAt_rep_full ..
        have e3 : View.readAt (Elt F) arg12.view (Rect.unit (s := S768x768) ![0, 0] ![768, 768] inb_S768x768_S768x768_0_0).toLoadRect (arg12.view.rep x11) = x11 := View.readAt_rep_full ..
        have e4 : View.readAt (Elt F) arg13.view (Rect.unit (s := S768x1) ![0, 0] ![768, 1] inb_S768x1_S768x1_0_0).toLoadRect (arg13.view.rep x12) = x12 := View.readAt_rep_full ..
        have e5 : View.readAt (Elt F) arg9.view (Rect.unit (s := S256x768) ![0, 0] ![256, 768] inb_S256x768_S256x768_0_0).toLoadRect (arg9.view.rep x8) = x8 := View.readAt_rep_full ..
        have e6 : View.readAt (Elt F) arg10.view (Rect.unit (s := S256x1024) ![0, 0] ![256, 1024] inb_S256x1024_S256x1024_0_0).toLoadRect (arg10.view.rep x9) = x9 := View.readAt_rep_full ..
        have e7 : View.readAt (Elt F) arg14.view (Rect.unit (s := S768x1024) ![0, 0] ![768, 1024] inb_S768x1024_S768x1024_0_0).toLoadRect (arg14.view.rep x13) = x13 := View.readAt_rep_full ..
        have e8 : View.readAt (Elt F) arg15.view (Rect.unit (s := S768x1024) ![0, 0] ![768, 1024] inb_S768x1024_S768x1024_0_0).toLoadRect (arg15.view.rep x14) = x14 := View.readAt_rep_full ..
        have e9 : View.readAt (Elt F) arg16.view (Rect.unit (s := S768x1024) ![0, 0] ![768, 1024] inb_S768x1024_S768x1024_0_0).toLoadRect (arg16.view.rep x15) = x15 := View.readAt_rep_full ..
        have e10 : View.readAt (Elt F) arg17.view (Rect.unit (s := S1024x1024) ![0, 0] ![1024, 1024] inb_S1024x1024_S1024x1024_0_0).toLoadRect (arg17.view.rep x16) = x16 := View.readAt_rep_full ..
        have e11 : View.readAt (Elt F) arg1.view (Rect.unit (s := S256x1024) ![0, 0] ![256, 1024] inb_S256x1024_S256x1024_0_0).toLoadRect (arg1.view.rep x0) = x0 := View.readAt_rep_full ..
        have e12 : View.readAt (Elt F) arg18.view (Rect.unit (s := S1024x1024) ![0, 0] ![1024, 1024] inb_S1024x1024_S1024x1024_0_0).toLoadRect (arg18.view.rep x17) = x17 := View.readAt_rep_full ..
        have e13 : View.readAt (Elt F) arg19.view (Rect.unit (s := S1x1024) ![0, 0] ![1, 1024] inb_S1x1024_S1x1024_0_0).toLoadRect (arg19.view.rep x18) = x18 := View.readAt_rep_full ..
        have e14 : View.readAt (Elt F) arg20.view (Rect.unit (s := S1x1024) ![0, 0] ![1, 1024] inb_S1x1024_S1x1024_0_0).toLoadRect (arg20.view.rep x19) = x19 := View.readAt_rep_full ..
        have e15 : View.readAt (Elt F) arg3.view (Rect.unit (s := S2x256x128) ![0, 0, 0] ![1, 256, 128] inb_S2x256x128_S1x256x128_0_0_0).toLoadRect (arg3.view.rep x2) = slab0 x2 := View.readAt_rep ..
        have e16 : View.readAt (Elt F) arg3.view (Rect.unit (s := S2x256x128) ![1, 0, 0] ![1, 256, 128] inb_S2x256x128_S1x256x128_1_0_0).toLoadRect (arg3.view.rep x2) = slab1 x2 := View.readAt_rep ..
        have e17 : View.readAt (Elt F) arg4.view (Rect.unit (s := S2x256x128) ![0, 0, 0] ![1, 256, 128] inb_S2x256x128_S1x256x128_0_0_0).toLoadRect (arg4.view.rep x3) = slab0 x3 := View.readAt_rep ..
        have e18 : View.readAt (Elt F) arg4.view (Rect.unit (s := S2x256x128) ![1, 0, 0] ![1, 256, 128] inb_S2x256x128_S1x256x128_1_0_0).toLoadRect (arg4.view.rep x3) = slab1 x3 := View.readAt_rep ..
        have e19 : View.readAt (Elt F) arg6.view (Rect.unit (s := S2x256x128) ![0, 0, 0] ![1, 256, 128] inb_S2x256x128_S1x256x128_0_0_0).toLoadRect (arg6.view.rep x5) = slab0 x5 := View.readAt_rep ..
        have e20 : View.readAt (Elt F) arg6.view (Rect.unit (s := S2x256x128) ![1, 0, 0] ![1, 256, 128] inb_S2x256x128_S1x256x128_1_0_0).toLoadRect (arg6.view.rep x5) = slab1 x5 := View.readAt_rep ..
        have e21 : View.readAt (Elt F) arg7.view (Rect.unit (s := S2x256x128) ![0, 0, 0] ![1, 256, 128] inb_S2x256x128_S1x256x128_0_0_0).toLoadRect (arg7.view.rep x6) = slab0 x6 := View.readAt_rep ..
        have e22 : View.readAt (Elt F) arg7.view (Rect.unit (s := S2x256x128) ![1, 0, 0] ![1, 256, 128] inb_S2x256x128_S1x256x128_1_0_0).toLoadRect (arg7.view.rep x6) = slab1 x6 := View.readAt_rep ..
        have e23 : View.readAt (Elt F) arg11.view (Rect.unit (s := S256x4096) ![0, 0] ![256, 1024] inb_S256x4096_S256x1024_0_0).toLoadRect (arg11.view.rep x10) = gate0 x10 := View.readAt_rep ..
        have e24 : View.readAt (Elt F) arg11.view (Rect.unit (s := S256x4096) ![0, 1024] ![256, 1024] inb_S256x4096_S256x1024_0_1024).toLoadRect (arg11.view.rep x10) = gate1 x10 := View.readAt_rep ..
        have e25 : View.readAt (Elt F) arg11.view (Rect.unit (s := S256x4096) ![0, 2048] ![256, 1024] inb_S256x4096_S256x1024_0_2048).toLoadRect (arg11.view.rep x10) = gate2 x10 := View.readAt_rep ..
        have e26 : View.readAt (Elt F) arg11.view (Rect.unit (s := S256x4096) ![0, 3072] ![256, 1024] inb_S256x4096_S256x1024_0_3072).toLoadRect (arg11.view.rep x10) = gate3 x10 := View.readAt_rep ..
        simp only [e0, e1, e2, e3, e4, e5, e6, e7, e8, e9, e10, e11, e12, e13, e14, e15, e16, e17, e18, e19, e20, e21, e22, e23, e24, e25, e26]
    isplitl [H23]
    · iexists _; iexists _; isplitr; swap; · iexact H23
      · ipureintro; rfl
    isplitl [H24]
    · iexists _; iexists _; isplitr; swap; · iexact H24
      · ipureintro; rfl
    iexists _; iexists _; isplitr; swap
    · iexact H25
    · ipureintro; rfl

end Cert.MergeIdeal.Hand

end
-- ==== Proof.MergeFrame.lean ====
module

public import proofs.«01_k».proof.Proof.MergeRun
public import Idealize.ShloMosaic.Lib.Pipeline.Quiescent
public import Idealize.ShloMosaic.Lib.WordCmp
public import Idealize.ShloMosaic.Adequacy

/-! The pipeline of the branch merge: what each buffer holds after each point, the body at a point, the launch, and
    the frame. The route and the counts are left unnamed; the first result is named. -/

@[expose] public section

set_option maxRecDepth 16384
set_option Elab.async false

noncomputable section

namespace Cert.MergeIdeal.Hand

open Cert.MergeIdeal Cert.MergeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

abbrev blk0 (c : Dev nD) (t : Fin cfg0.N) : Vec F S256x1024 .f32 := iblk m c 0 t
abbrev blk1 (c : Dev nD) (t : Fin cfg0.N) : Vec F S256x256 .f32 := iblk m c 1 t
abbrev blk2 (c : Dev nD) (t : Fin cfg0.N) : Vec F S2x256x128 .f32 := iblk m c 2 t
abbrev blk3 (c : Dev nD) (t : Fin cfg0.N) : Vec F S2x256x128 .f32 := iblk m c 3 t
abbrev blk4 (c : Dev nD) (t : Fin cfg0.N) : Vec F S256x256 .f32 := iblk m c 4 t
abbrev blk5 (c : Dev nD) (t : Fin cfg0.N) : Vec F S2x256x128 .f32 := iblk m c 5 t
abbrev blk6 (c : Dev nD) (t : Fin cfg0.N) : Vec F S2x256x128 .f32 := iblk m c 6 t
abbrev blk7 (c : Dev nD) (t : Fin cfg0.N) : Vec F S768x256 .bf16 := iblk m c 7 t
abbrev blk8 (c : Dev nD) (t : Fin cfg0.N) : Vec F S256x768 .bf16 := iblk m c 8 t
abbrev blk9 (c : Dev nD) (t : Fin cfg0.N) : Vec F S256x1024 .bf16 := iblk m c 9 t
abbrev blk10 (c : Dev nD) (t : Fin cfg0.N) : Vec F S256x4096 .bf16 := X0_10 m c t
abbrev blk11 (c : Dev nD) (t : Fin cfg0.N) : Vec F S768x768 .bf16 := iblk m c 11 t
abbrev blk12 (c : Dev nD) (t : Fin cfg0.N) : Vec F S768x1 .f32 := iblk m c 12 t
abbrev blk13 (c : Dev nD) (t : Fin cfg0.N) : Vec F S768x1024 .bf16 := iblk m c 13 t
abbrev blk14 (c : Dev nD) (t : Fin cfg0.N) : Vec F S768x1024 .bf16 := iblk m c 14 t
abbrev blk15 (c : Dev nD) (t : Fin cfg0.N) : Vec F S768x1024 .bf16 := iblk m c 15 t
abbrev blk16 (c : Dev nD) (t : Fin cfg0.N) : Vec F S1024x1024 .bf16 := iblk m c 16 t
abbrev blk17 (c : Dev nD) (t : Fin cfg0.N) : Vec F S1024x1024 .bf16 := iblk m c 17 t
abbrev blk18 (c : Dev nD) (t : Fin cfg0.N) : Vec F S1x1024 .f32 := iblk m c 18 t
abbrev blk19 (c : Dev nD) (t : Fin cfg0.N) : Vec F S1x1024 .f32 := iblk m c 19 t
abbrev blk20 (c : Dev nD) (t : Fin cfg0.N) : Vec F S1024x128 .f32 := iblk m c 20 t
abbrev blk21 (c : Dev nD) (t : Fin cfg0.N) : Vec F S1x128 .f32 := iblk m c 21 t

/-- The block of the first result that point `t` stores. -/
abbrev res22 (c : Dev nD) (t : Fin cfg0.N) : Vec F S256x1024 .f32 := x1of (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t)

/-- The windows whose contents nothing reads afterwards: the route and the counts. -/
def fgt : Fin cfg0.W → Bool
  | ⟨23, _⟩ => true
  | ⟨24, _⟩ => true
  | _ => false

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => res22 m c t
    | ⟨23, _⟩ => fun _ => Classical.choice inferInstance
    | ⟨24, _⟩ => fun _ => Classical.choice inferInstance
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blk0 m c t := by dsimp only [dats]
theorem before0_0 (c : Dev nD) (t : Fin cfg0.N) (d) : (dats m 0 c).before 0 t d = blk0 m c t :=
  before0_0_of m (dats m 0 c) (A_eq m c 0) (after0_0 m c) t d
theorem after0_1 (c : Dev nD) (t : Fin cfg0.N) : (dats m 0 c).after 1 t = blk1 m c t := by dsimp only [dats]
theorem before0_1 (c : Dev nD) (t : Fin cfg0.N) (d) : (dats m 0 c).before 1 t d = blk1 m c t :=
  before0_1_of m (dats m 0 c) (A_eq m c 1) (after0_1 m c) t d
theorem after0_2 (c : Dev nD) (t : Fin cfg0.N) : (dats m 0 c).after 2 t = blk2 m c t := by dsimp only [dats]
theorem before0_2 (c : Dev nD) (t : Fin cfg0.N) (d) : (dats m 0 c).before 2 t d = blk2 m c t :=
  before0_2_of m (dats m 0 c) (A_eq m c 2) (after0_2 m c) t d
theorem after0_3 (c : Dev nD) (t : Fin cfg0.N) : (dats m 0 c).after 3 t = blk3 m c t := by dsimp only [dats]
theorem before0_3 (c : Dev nD) (t : Fin cfg0.N) (d) : (dats m 0 c).before 3 t d = blk3 m c t :=
  before0_3_of m (dats m 0 c) (A_eq m c 3) (after0_3 m c) t d
theorem after0_4 (c : Dev nD) (t : Fin cfg0.N) : (dats m 0 c).after 4 t = blk4 m c t := by dsimp only [dats]
theorem before0_4 (c : Dev nD) (t : Fin cfg0.N) (d) : (dats m 0 c).before 4 t d = blk4 m c t :=
  before0_4_of m (dats m 0 c) (A_eq m c 4) (after0_4 m c) t d
theorem after0_5 (c : Dev nD) (t : Fin cfg0.N) : (dats m 0 c).after 5 t = blk5 m c t := by dsimp only [dats]
theorem before0_5 (c : Dev nD) (t : Fin cfg0.N) (d) : (dats m 0 c).before 5 t d = blk5 m c t :=
  before0_5_of m (dats m 0 c) (A_eq m c 5) (after0_5 m c) t d
theorem after0_6 (c : Dev nD) (t : Fin cfg0.N) : (dats m 0 c).after 6 t = blk6 m c t := by dsimp only [dats]
theorem before0_6 (c : Dev nD) (t : Fin cfg0.N) (d) : (dats m 0 c).before 6 t d = blk6 m c t :=
  before0_6_of m (dats m 0 c) (A_eq m c 6) (after0_6 m c) t d
theorem after0_7 (c : Dev nD) (t : Fin cfg0.N) : (dats m 0 c).after 7 t = blk7 m c t := by dsimp only [dats]
theorem before0_7 (c : Dev nD) (t : Fin cfg0.N) (d) : (dats m 0 c).before 7 t d = blk7 m c t :=
  before0_7_of m (dats m 0 c) (A_eq m c 7) (after0_7 m c) t d
theorem after0_8 (c : Dev nD) (t : Fin cfg0.N) : (dats m 0 c).after 8 t = blk8 m c t := by dsimp only [dats]
theorem before0_8 (c : Dev nD) (t : Fin cfg0.N) (d) : (dats m 0 c).before 8 t d = blk8 m c t :=
  before0_8_of m (dats m 0 c) (A_eq m c 8) (after0_8 m c) t d
theorem after0_9 (c : Dev nD) (t : Fin cfg0.N) : (dats m 0 c).after 9 t = blk9 m c t := by dsimp only [dats]
theorem before0_9 (c : Dev nD) (t : Fin cfg0.N) (d) : (dats m 0 c).before 9 t d = blk9 m c t :=
  before0_9_of m (dats m 0 c) (A_eq m c 9) (after0_9 m c) t d
theorem after0_10 (c : Dev nD) (t : Fin cfg0.N) : (dats m 0 c).after 10 t = blk10 m c t := by dsimp only [dats]
theorem before0_10 (c : Dev nD) (t : Fin cfg0.N) (d) : (dats m 0 c).before 10 t d = blk10 m c t :=
  before0_10_of m (dats m 0 c) (A_eq m c 10) (after0_10 m c) t d
theorem after0_11 (c : Dev nD) (t : Fin cfg0.N) : (dats m 0 c).after 11 t = blk11 m c t := by dsimp only [dats]
theorem before0_11 (c : Dev nD) (t : Fin cfg0.N) (d) : (dats m 0 c).before 11 t d = blk11 m c t :=
  before0_11_of m (dats m 0 c) (A_eq m c 11) (after0_11 m c) t d
theorem after0_12 (c : Dev nD) (t : Fin cfg0.N) : (dats m 0 c).after 12 t = blk12 m c t := by dsimp only [dats]
theorem before0_12 (c : Dev nD) (t : Fin cfg0.N) (d) : (dats m 0 c).before 12 t d = blk12 m c t :=
  before0_12_of m (dats m 0 c) (A_eq m c 12) (after0_12 m c) t d
theorem after0_13 (c : Dev nD) (t : Fin cfg0.N) : (dats m 0 c).after 13 t = blk13 m c t := by dsimp only [dats]
theorem before0_13 (c : Dev nD) (t : Fin cfg0.N) (d) : (dats m 0 c).before 13 t d = blk13 m c t :=
  before0_13_of m (dats m 0 c) (A_eq m c 13) (after0_13 m c) t d
theorem after0_14 (c : Dev nD) (t : Fin cfg0.N) : (dats m 0 c).after 14 t = blk14 m c t := by dsimp only [dats]
theorem before0_14 (c : Dev nD) (t : Fin cfg0.N) (d) : (dats m 0 c).before 14 t d = blk14 m c t :=
  before0_14_of m (dats m 0 c) (A_eq m c 14) (after0_14 m c) t d
theorem after0_15 (c : Dev nD) (t : Fin cfg0.N) : (dats m 0 c).after 15 t = blk15 m c t := by dsimp only [dats]
theorem before0_15 (c : Dev nD) (t : Fin cfg0.N) (d) : (dats m 0 c).before 15 t d = blk15 m c t :=
  before0_15_of m (dats m 0 c) (A_eq m c 15) (after0_15 m c) t d
theorem after0_16 (c : Dev nD) (t : Fin cfg0.N) : (dats m 0 c).after 16 t = blk16 m c t := by dsimp only [dats]
theorem before0_16 (c : Dev nD) (t : Fin cfg0.N) (d) : (dats m 0 c).before 16 t d = blk16 m c t :=
  before0_16_of m (dats m 0 c) (A_eq m c 16) (after0_16 m c) t d
theorem after0_17 (c : Dev nD) (t : Fin cfg0.N) : (dats m 0 c).after 17 t = blk17 m c t := by dsimp only [dats]
theorem before0_17 (c : Dev nD) (t : Fin cfg0.N) (d) : (dats m 0 c).before 17 t d = blk17 m c t :=
  before0_17_of m (dats m 0 c) (A_eq m c 17) (after0_17 m c) t d
theorem after0_18 (c : Dev nD) (t : Fin cfg0.N) : (dats m 0 c).after 18 t = blk18 m c t := by dsimp only [dats]
theorem before0_18 (c : Dev nD) (t : Fin cfg0.N) (d) : (dats m 0 c).before 18 t d = blk18 m c t :=
  before0_18_of m (dats m 0 c) (A_eq m c 18) (after0_18 m c) t d
theorem after0_19 (c : Dev nD) (t : Fin cfg0.N) : (dats m 0 c).after 19 t = blk19 m c t := by dsimp only [dats]
theorem before0_19 (c : Dev nD) (t : Fin cfg0.N) (d) : (dats m 0 c).before 19 t d = blk19 m c t :=
  before0_19_of m (dats m 0 c) (A_eq m c 19) (after0_19 m c) t d
theorem after0_20 (c : Dev nD) (t : Fin cfg0.N) : (dats m 0 c).after 20 t = blk20 m c t := by dsimp only [dats]
theorem before0_20 (c : Dev nD) (t : Fin cfg0.N) (d) : (dats m 0 c).before 20 t d = blk20 m c t :=
  before0_20_of m (dats m 0 c) (A_eq m c 20) (after0_20 m c) t d
theorem after0_21 (c : Dev nD) (t : Fin cfg0.N) : (dats m 0 c).after 21 t = blk21 m c t := by dsimp only [dats]
theorem before0_21 (c : Dev nD) (t : Fin cfg0.N) (d) : (dats m 0 c).before 21 t d = blk21 m c t :=
  before0_21_of m (dats m 0 c) (A_eq m c 21) (after0_21 m c) t d
theorem after0_22 (c : Dev nD) (t : Fin cfg0.N) : (dats m 0 c).after 22 t = res22 m c t := by dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ X, owns (c : Thread nD τ) (ms0_23 t) fullShare X)
    ∗ (∃ X, owns (c : Thread nD τ) (ms0_24 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ (∃ X, owns (c : Thread nD τ) (ms0_23 t) fullShare X)
    ∗ (∃ X, owns (c : Thread nD τ) (ms0_24 t) fullShare X))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [after0_0, after0_1, after0_2, after0_3, after0_4, after0_5, after0_6, after0_7, after0_8, after0_9, after0_10, after0_11, after0_12, after0_13, after0_14, after0_15, after0_16, after0_17, after0_18, after0_19, after0_20, after0_21, after0_22]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  by_cases h0 : cond0_0 (grid0.coords t)
  · skip
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) h0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iapply rep_of_owns; iexact H12
    isplitl [H13]; · iapply rep_of_owns; iexact H13
    isplitl [H14]; · iapply rep_of_owns; iexact H14
    isplitl [H15]; · iapply rep_of_owns; iexact H15
    isplitl [H16]; · iapply rep_of_owns; iexact H16
    isplitl [H17]; · iapply rep_of_owns; iexact H17
    isplitl [H18]; · iapply rep_of_owns; iexact H18
    isplitl [H19]; · iapply rep_of_owns; iexact H19
    isplitl [H20]; · iapply rep_of_owns; iexact H20
    isplitl [H21]; · iapply rep_of_owns; iexact H21
    isplitl [H22]; · iexists _; iexact H22
    isplitl [H23]; · iexists _; iexact H23
    isplitl [H24]; · iexists _; iexact H24
    isplitl [HS]; · iexists _; iexact HS
    iintro ⟨H0, H1, H2, H3, H4, H5, H6, H7, H8, H9, H10, H11, H12, H13, H14, H15, H16, H17, H18, H19, H20, H21, H22, ⟨%e23, H23⟩, ⟨%e24, H24⟩, ⟨%e25, HS⟩⟩
    isplitl [HS Hg]
    · isplitl [HS]
      · iexists _; iexact HS
      iexact Hg
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · iapply owns_of_rep; iexact H8
    isplitl [H9]
    · iapply owns_of_rep; iexact H9
    isplitl [H10]
    · iapply owns_of_rep; iexact H10
    isplitl [H11]
    · iapply owns_of_rep; iexact H11
    isplitl [H12]
    · iapply owns_of_rep; iexact H12
    isplitl [H13]
    · iapply owns_of_rep; iexact H13
    isplitl [H14]
    · iapply owns_of_rep; iexact H14
    isplitl [H15]
    · iapply owns_of_rep; iexact H15
    isplitl [H16]
    · iapply owns_of_rep; iexact H16
    isplitl [H17]
    · iapply owns_of_rep; iexact H17
    isplitl [H18]
    · iapply owns_of_rep; iexact H18
    isplitl [H19]
    · iapply owns_of_rep; iexact H19
    isplitl [H20]
    · iapply owns_of_rep; iexact H20
    isplitl [H21]
    · iapply owns_of_rep; iexact H21
    isplitl [H22]; · iexact H22
    isplitl [H23]; · iexists _; iexact H23
    iexists _; iexact H24
  · skip
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) h0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iapply rep_of_owns; iexact H12
    isplitl [H13]; · iapply rep_of_owns; iexact H13
    isplitl [H14]; · iapply rep_of_owns; iexact H14
    isplitl [H15]; · iapply rep_of_owns; iexact H15
    isplitl [H16]; · iapply rep_of_owns; iexact H16
    isplitl [H17]; · iapply rep_of_owns; iexact H17
    isplitl [H18]; · iapply rep_of_owns; iexact H18
    isplitl [H19]; · iapply rep_of_owns; iexact H19
    isplitl [H20]; · iapply rep_of_owns; iexact H20
    isplitl [H21]; · iapply rep_of_owns; iexact H21
    isplitl [H22]; · iexists _; iexact H22
    isplitl [H23]; · iexists _; iexact H23
    isplitl [H24]; · iexists _; iexact H24
    isplitl [HS]; · iexists _; iexact HS
    iintro ⟨H0, H1, H2, H3, H4, H5, H6, H7, H8, H9, H10, H11, H12, H13, H14, H15, H16, H17, H18, H19, H20, H21, H22, ⟨%e23, H23⟩, ⟨%e24, H24⟩, ⟨%e25, HS⟩⟩
    isplitl [HS Hg]
    · isplitl [HS]
      · iexists _; iexact HS
      iexact Hg
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    isplitl [H7]
    · iapply owns_of_rep; iexact H7
    isplitl [H8]
    · iapply owns_of_rep; iexact H8
    isplitl [H9]
    · iapply owns_of_rep; iexact H9
    isplitl [H10]
    · iapply owns_of_rep; iexact H10
    isplitl [H11]
    · iapply owns_of_rep; iexact H11
    isplitl [H12]
    · iapply owns_of_rep; iexact H12
    isplitl [H13]
    · iapply owns_of_rep; iexact H13
    isplitl [H14]
    · iapply owns_of_rep; iexact H14
    isplitl [H15]
    · iapply owns_of_rep; iexact H15
    isplitl [H16]
    · iapply owns_of_rep; iexact H16
    isplitl [H17]
    · iapply owns_of_rep; iexact H17
    isplitl [H18]
    · iapply owns_of_rep; iexact H18
    isplitl [H19]
    · iapply owns_of_rep; iexact H19
    isplitl [H20]
    · iapply owns_of_rep; iexact H20
    isplitl [H21]
    · iapply owns_of_rep; iexact H21
    isplitl [H22]; · iexact H22
    isplitl [H23]; · iexists _; iexact H23
    iexists _; iexact H24

theorem body_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ fgt := fun t => by
  rw [bigSep_W0, bigSep_W0, body_row]
  exact triple_restated (sound_body m c t) rfl .rfl fun _ => .rfl

/-! ## The launch and the frame -/

/-- Every array of the pipeline but the two unnamed ones ends at what the proof data say. -/
abbrev Named : PUnit × MemSt nD τ sig (Elt F) → Prop :=
  Pipeline.RDat.FramePost cfg0 (fun c => (dats m 0 c).toRForget fgt) (V m)

set_option backward.isDefEq.respectTransparency.types false in
set_option maxHeartbeats 4000000 in
theorem run_main_quiescent : θ_run defs (onTc (τ := τ) (main (F := F))) (s₀ m ρ) (fun r => Named m r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

theorem run_main : θ_run defs (onTc (τ := τ) (main (F := F))) (s₀ m ρ) (Named m) :=
  (θ_run defs _ _).mono (fun _ h => h.1) (run_main_quiescent m ρ)

theorem named_in (r : PUnit × MemSt nD τ sig (Elt F)) (h : Named m r) (c : Dev nD) (w : Fin cfg0.W) (hw : fgt w = false) (hin : (cfg0.win w).isOut = false) :
    r.2.mem ((cfg0.spec w).arr.view.loc (c.tc : Thread nD τ)) = V m c (Pipeline.arrRef spec0 w) :=
  ((Pipeline.Dat.toRForget_arrAt_iff (dats m 0 c) hw _ _).mp ((h c).1 w)).trans (((dats m 0 c).arrAt_in w hin _).trans (A_eq m c w))

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(named_in m r h c 0 rfl rfl).trans (V_main_arg0 m c), (named_in m r h c 1 rfl rfl).trans (V_main_arg1 m c), (named_in m r h c 2 rfl rfl).trans (V_main_arg2 m c), (named_in m r h c 3 rfl rfl).trans (V_main_arg3 m c), (named_in m r h c 4 rfl rfl).trans (V_main_arg4 m c), (named_in m r h c 5 rfl rfl).trans (V_main_arg5 m c), (named_in m r h c 6 rfl rfl).trans (V_main_arg6 m c), (named_in m r h c 7 rfl rfl).trans (V_main_arg7 m c), (named_in m r h c 8 rfl rfl).trans (V_main_arg8 m c), (named_in m r h c 9 rfl rfl).trans (V_main_arg9 m c), (named_in m r h c 10 rfl rfl).trans (V_main_arg10 m c), (named_in m r h c 11 rfl rfl).trans (V_main_arg11 m c), (named_in m r h c 12 rfl rfl).trans (V_main_arg12 m c), (named_in m r h c 13 rfl rfl).trans (V_main_arg13 m c), (named_in m r h c 14 rfl rfl).trans (V_main_arg14 m c), (named_in m r h c 15 rfl rfl).trans (V_main_arg15 m c), (named_in m r h c 16 rfl rfl).trans (V_main_arg16 m c), (named_in m r h c 17 rfl rfl).trans (V_main_arg17 m c), (named_in m r h c 18 rfl rfl).trans (V_main_arg18 m c), (named_in m r h c 19 rfl rfl).trans (V_main_arg19 m c), (named_in m r h c 20 rfl rfl).trans (V_main_arg20 m c), (named_in m r h c 21 rfl rfl).trans (V_main_arg21 m c)⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.MergeIdeal.Hand

end
-- ==== Proof.MergeRef.lean ====
/- The merge's reference read at an index, stage by stage. -/
module

public import proofs.«01_k».proof.Proof.Gen.MergeReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Mrg

open Cert.MergeReferenceIdeal Cert.MergeReferenceIdeal.Gen Cert.MergeReferenceIdeal.Read

/-- The logistic function as the reference writes it. -/
def sgm (x : EReal) : EReal := Ideal.div (Ideal.ofBits .f32 0x3F800000#32) (Ideal.ofBits .f32 0x3F800000#32 + Ideal.exp (-x))

/-- The softmax weight of `a` among `a`, `b`, `c` shifted by `m`, in the kernel's order, for the numerator `e`. -/
def wgt (e a b c m : EReal) : EReal := Ideal.div (Ideal.exp (e - m)) (Ideal.exp (a - m) + Ideal.exp (b - m) + Ideal.exp (c - m))

variable (x0 : FVec Ideal S32768x1024 .f32) (x1 : FVec Ideal S32768x256 .f32) (x2 x3 : FVec Ideal S2x32768x128 .f32) (x4 : FVec Ideal S32768x256 .f32)
  (x5 x6 : FVec Ideal S2x32768x128 .f32) (x7 : FVec Ideal S768x32768 .bf16) (x8 : FVec Ideal S32768x768 .bf16) (x9 : FVec Ideal S32768x1024 .bf16)
  (x10 : FVec Ideal S32768x9216 .bf16) (x11 : FVec Ideal S768x768 .bf16) (x12 : FVec Ideal S768x1 .f32) (x13 x14 x15 : FVec Ideal S768x1024 .bf16)
  (x16 x17 : FVec Ideal S1024x1024 .bf16) (x18 x19 : FVec Ideal S1x1024 .f32)

theorem v1_apply (r : Fin 32768) (j : Fin 256) : val_main_v1 (F := Ideal) x2 (ix2 r j) = x2 (ix3 ⟨j.val / 128, by omega⟩ r ⟨j.val % 128, by omega⟩) := by
  rw [val_main_v1_apply, val_main_v0_apply]
  refine congrArg x2 (funext fun a => Fin.ext ?_)
  have h0 : r.val < 32768 := r.isLt
  have h1 : j.val < 256 := j.isLt
  match a with
  | ⟨0, _⟩ => show (r.val * 256 + j.val) / 128 % 2 = j.val / 128; omega
  | ⟨1, _⟩ => show (r.val * 256 + j.val) / 256 = r.val; omega
  | ⟨2, _⟩ => show (r.val * 256 + j.val) % 128 = j.val % 128; omega

theorem v3_eq : val_main_v3 (F := Ideal) x3 = val_main_v1 (F := Ideal) x3 := rfl
theorem v5_eq : val_main_v5 (F := Ideal) x5 = val_main_v1 (F := Ideal) x5 := rfl
theorem v7_eq : val_main_v7 (F := Ideal) x6 = val_main_v1 (F := Ideal) x6 := rfl

/-- The largest of the three log-sums. -/
theorem v9_apply (r : Fin 32768) (j : Fin 256) : val_main_v9 (F := Ideal) x4 x5 x6 (ix2 r j)
    = max (max (x4 (ix2 r j)) (val_main_v1 (F := Ideal) x5 (ix2 r j))) (val_main_v1 (F := Ideal) x6 (ix2 r j)) := by
  rfl

theorem v21_apply (r : Fin 32768) (j : Fin 256) : val_main_v21 (F := Ideal) x1 x4 x5 x6 (ix2 r j)
    = x1 (ix2 r j) * wgt (x4 (ix2 r j)) (x4 (ix2 r j)) (val_main_v1 (F := Ideal) x5 (ix2 r j)) (val_main_v1 (F := Ideal) x6 (ix2 r j)) (val_main_v9 (F := Ideal) x4 x5 x6 (ix2 r j)) := by
  rfl
theorem v25_apply (r : Fin 32768) (j : Fin 256) : val_main_v25 (F := Ideal) x2 x4 x5 x6 (ix2 r j)
    = val_main_v1 (F := Ideal) x2 (ix2 r j) * wgt (val_main_v1 (F := Ideal) x5 (ix2 r j)) (x4 (ix2 r j)) (val_main_v1 (F := Ideal) x5 (ix2 r j)) (val_main_v1 (F := Ideal) x6 (ix2 r j)) (val_main_v9 (F := Ideal) x4 x5 x6 (ix2 r j)) := by
  rfl
theorem v29_apply (r : Fin 32768) (j : Fin 256) : val_main_v29 (F := Ideal) x3 x4 x5 x6 (ix2 r j)
    = val_main_v1 (F := Ideal) x3 (ix2 r j) * wgt (val_main_v1 (F := Ideal) x6 (ix2 r j)) (x4 (ix2 r j)) (val_main_v1 (F := Ideal) x5 (ix2 r j)) (val_main_v1 (F := Ideal) x6 (ix2 r j)) (val_main_v9 (F := Ideal) x4 x5 x6 (ix2 r j)) := by
  rfl

/-- The gates. -/
theorem v56_apply (r : Fin 32768) (n : Fin 4096) : val_main_v56 (F := Ideal) x10 (ix2 r n) = sgm (x10 (ix2 r ⟨n.val, by omega⟩)) := by
  pointwise [sgm, val_main_v56, val_main_v55, val_main_cst_2, val_main_v54, val_main_v53, val_main_cst_1, val_main_v52, val_main_v51, val_main_v50, val_main_v49]

/-- The gated unit's output. -/
theorem v47_apply (r : Fin 32768) (f : Fin 768) : val_main_v47 (F := Ideal) x7 x11 x12 (ix2 r f)
    = x7 (ix2 f r) * sgm ((∑ k : Fin 768, x11 (ix2 f k) * x7 (ix2 k r)) + x12 (ix2 f 0)) := by
  have e : val_main_v40 (F := Ideal) x7 x11 x12 (ix2 r f) = (∑ k : Fin 768, x11 (ix2 f k) * x7 (ix2 k r)) + x12 (ix2 f 0) := by
    have e1 : val_main_v36 (F := Ideal) x7 x11 (ix2 r f) = ∑ k : Fin 768, x7 (ix2 k r) * x11 (ix2 f k) := by
      pointwise [val_main_v36, val_main_v35, val_main_v34, val_main_v33, val_main_v32]
    have e2 : val_main_v39 (F := Ideal) x12 (ix2 r f) = x12 (ix2 f 0) := by
      pointwise [val_main_v39, val_main_v38, val_main_v37]
    rw [val_main_v40_apply, e1, e2]
    refine congrArg (· + x12 (ix2 f 0)) (Finset.sum_congr rfl fun k _ => mul_comm _ _)
  have e3 : val_main_v33 (F := Ideal) x7 (ix2 r f) = x7 (ix2 f r) := by
    pointwise [val_main_v33, val_main_v32]
  rw [val_main_v47_apply, e3, ← e]
  unfold val_main_v46 val_main_v44 val_main_v42 val_main_v41
  generalize val_main_v40 (F := Ideal) x7 x11 x12 = X
  pointwise [sgm, val_main_v45, val_main_cst_0, val_main_v43, val_main_cst]

theorem v61_apply (r : Fin 32768) (n : Fin 1024) : val_main_v61 (F := Ideal) x1 x2 x3 x4 x5 x6 x10 x13 (ix2 r n)
    = sgm (x10 (ix2 r ⟨n.val, by omega⟩)) * ∑ k : Fin 768, val_main_v30 (F := Ideal) x1 x2 x3 x4 x5 x6 (ix2 r k) * x13 (ix2 k n) := by
  have e1 : val_main_v57 (F := Ideal) x10 (ix2 r n) = val_main_v56 (F := Ideal) x10 (ix2 r ⟨n.val, by omega⟩) := by
    unfold val_main_v57; generalize val_main_v56 (F := Ideal) x10 = X; pointwise []
  have e2 : val_main_v60 (F := Ideal) x1 x2 x3 x4 x5 x6 x13 (ix2 r n) = ∑ k : Fin 768, val_main_v30 (F := Ideal) x1 x2 x3 x4 x5 x6 (ix2 r k) * x13 (ix2 k n) := by
    unfold val_main_v60 val_main_v58 val_main_v31; generalize val_main_v30 (F := Ideal) x1 x2 x3 x4 x5 x6 = X; pointwise [val_main_v59]
  rw [val_main_v61_apply, e1, e2, v56_apply]; rfl

theorem v66_apply (r : Fin 32768) (n : Fin 1024) : val_main_v66 (F := Ideal) x7 x10 x11 x12 x14 (ix2 r n)
    = sgm (x10 (ix2 r ⟨1024 + n.val, by omega⟩)) * ∑ k : Fin 768, val_main_v47 (F := Ideal) x7 x11 x12 (ix2 r k) * x14 (ix2 k n) := by
  have e1 : val_main_v62 (F := Ideal) x10 (ix2 r n) = val_main_v56 (F := Ideal) x10 (ix2 r ⟨1024 + n.val, by omega⟩) := by
    unfold val_main_v62; generalize val_main_v56 (F := Ideal) x10 = X; pointwise []
  have e2 : val_main_v65 (F := Ideal) x7 x11 x12 x14 (ix2 r n) = ∑ k : Fin 768, val_main_v47 (F := Ideal) x7 x11 x12 (ix2 r k) * x14 (ix2 k n) := by
    unfold val_main_v65 val_main_v63 val_main_v48; generalize val_main_v47 (F := Ideal) x7 x11 x12 = X; pointwise [val_main_v64]
  rw [val_main_v66_apply, e1, e2, v56_apply]; rfl

theorem v72_apply (r : Fin 32768) (n : Fin 1024) : val_main_v72 (F := Ideal) x8 x10 x15 (ix2 r n)
    = sgm (x10 (ix2 r ⟨2048 + n.val, by omega⟩)) * ∑ k : Fin 768, x8 (ix2 r k) * x15 (ix2 k n) := by
  have e1 : val_main_v68 (F := Ideal) x10 (ix2 r n) = val_main_v56 (F := Ideal) x10 (ix2 r ⟨2048 + n.val, by omega⟩) := by
    unfold val_main_v68; generalize val_main_v56 (F := Ideal) x10 = X; pointwise []
  have e2 : val_main_v71 (F := Ideal) x8 x15 (ix2 r n) = ∑ k : Fin 768, x8 (ix2 r k) * x15 (ix2 k n) := by
    pointwise [val_main_v71, val_main_v69, val_main_v70]
  rw [val_main_v72_apply, e1, e2, v56_apply]; rfl

theorem v78_apply (r : Fin 32768) (n : Fin 1024) : val_main_v78 (F := Ideal) x9 x10 x16 (ix2 r n)
    = sgm (x10 (ix2 r ⟨3072 + n.val, by omega⟩)) * ∑ k : Fin 1024, x9 (ix2 r k) * x16 (ix2 k n) := by
  have e1 : val_main_v74 (F := Ideal) x10 (ix2 r n) = val_main_v56 (F := Ideal) x10 (ix2 r ⟨3072 + n.val, by omega⟩) := by
    unfold val_main_v74; generalize val_main_v56 (F := Ideal) x10 = X; pointwise []
  have e2 : val_main_v77 (F := Ideal) x9 x16 (ix2 r n) = ∑ k : Fin 1024, x9 (ix2 r k) * x16 (ix2 k n) := by
    pointwise [val_main_v77, val_main_v75, val_main_v76]
  rw [val_main_v78_apply, e1, e2, v56_apply]; rfl

/-- The residual and the projected branches. -/
theorem v86_apply (r : Fin 32768) (n : Fin 1024) : val_main_v86 (F := Ideal) x0 x1 x2 x3 x4 x5 x6 x7 x8 x9 x10 x11 x12 x13 x14 x15 x16 x17 (ix2 r n)
    = Ideal.ofBits .f32 0x3FD744FD#32 * x0 (ix2 r n) + ∑ k : Fin 1024, val_main_v79 (F := Ideal) x1 x2 x3 x4 x5 x6 x7 x8 x9 x10 x11 x12 x13 x14 x15 x16 (ix2 r k) * x17 (ix2 k n) := by
  unfold val_main_v86 val_main_v85 val_main_v83 val_main_v82
  generalize val_main_v79 (F := Ideal) x1 x2 x3 x4 x5 x6 x7 x8 x9 x10 x11 x12 x13 x14 x15 x16 = X
  pointwise [val_main_v84, val_main_v81, val_main_v80, val_main_cst_3]

/-- The row less its mean. -/
def ctr (h : Fin 1024 → EReal) (n : Fin 1024) : EReal := h n - Ideal.div (∑ k : Fin 1024, h k) (Ideal.ofBits .f32 0x44800000#32)

/-- The normalised row. -/
def nrm (h g b : Fin 1024 → EReal) (n : Fin 1024) : EReal :=
  ctr h n * Ideal.rsqrt (Ideal.div (∑ k : Fin 1024, ctr h k * ctr h k) (Ideal.ofBits .f32 0x44800000#32) + Ideal.ofBits .f32 0x3727C5AC#32) * g n + b n

theorem v92_apply (r : Fin 32768) (n : Fin 1024) : val_main_v92 (F := Ideal) x0 x1 x2 x3 x4 x5 x6 x7 x8 x9 x10 x11 x12 x13 x14 x15 x16 x17 (ix2 r n) = ctr (fun k => val_main_v86 (F := Ideal) x0 x1 x2 x3 x4 x5 x6 x7 x8 x9 x10 x11 x12 x13 x14 x15 x16 x17 (ix2 r k)) n := by
  unfold val_main_v92 val_main_v91 val_main_v90 val_main_v88 val_main_v87
  generalize val_main_v86 (F := Ideal) x0 x1 x2 x3 x4 x5 x6 x7 x8 x9 x10 x11 x12 x13 x14 x15 x16 x17 = X
  pointwise [ctr, val_main_v89, val_main_cst_5, val_main_cst_4]

theorem v99_eq : val_main_v99 (F := Ideal) x0 x1 x2 x3 x4 x5 x6 x7 x8 x9 x10 x11 x12 x13 x14 x15 x16 x17 = val_main_v92 (F := Ideal) x0 x1 x2 x3 x4 x5 x6 x7 x8 x9 x10 x11 x12 x13 x14 x15 x16 x17 := rfl

theorem v108_apply (r : Fin 32768) (n : Fin 1024) : val_main_v108 (F := Ideal) x0 x1 x2 x3 x4 x5 x6 x7 x8 x9 x10 x11 x12 x13 x14 x15 x16 x17 x18 x19 (ix2 r n)
    = nrm (fun k => val_main_v86 (F := Ideal) x0 x1 x2 x3 x4 x5 x6 x7 x8 x9 x10 x11 x12 x13 x14 x15 x16 x17 (ix2 r k)) (fun k => x18 (ix2 0 k)) (fun k => x19 (ix2 0 k)) n := by
  have e : ∀ k, ctr (fun k => val_main_v86 (F := Ideal) x0 x1 x2 x3 x4 x5 x6 x7 x8 x9 x10 x11 x12 x13 x14 x15 x16 x17 (ix2 r k)) k = val_main_v92 (F := Ideal) x0 x1 x2 x3 x4 x5 x6 x7 x8 x9 x10 x11 x12 x13 x14 x15 x16 x17 (ix2 r k) := fun k => (v92_apply x0 x1 x2 x3 x4 x5 x6 x7 x8 x9 x10 x11 x12 x13 x14 x15 x16 x17 r k).symm
  unfold nrm
  simp only [e]
  unfold val_main_v108 val_main_v106 val_main_v104 val_main_v103 val_main_v102 val_main_v101 val_main_v97 val_main_v95 val_main_v94 val_main_v93
  rw [v99_eq]
  generalize val_main_v92 (F := Ideal) x0 x1 x2 x3 x4 x5 x6 x7 x8 x9 x10 x11 x12 x13 x14 x15 x16 x17 = X
  pointwise [val_main_v107, val_main_v105, val_main_v100, val_main_cst_8, val_main_v96, val_main_cst_7, val_main_cst_6]

end Cert.Mrg

end
-- ==== Proof.MergeBody.lean ====
/- What the merge's body stores, read at an index, stage by stage. -/
module

public import proofs.«01_k».proof.Proof.MergeRun
public import proofs.«01_k».proof.Proof.MergeRef

@[expose] public section

set_option maxRecDepth 16384

noncomputable section

open Idealize.ShloMosaic Idealize.ShloMosaic.TcCoe Idealize.SL.Sem
open scoped BigOperators

namespace Cert.Mrg

open Cert.MergeIdeal Cert.MergeIdeal.Gen Cert.MergeIdeal.Hand

theorem slab0_apply (x : FVec Ideal S2x256x128 .f32) (r : Fin 256) (l : Fin 128) : slab0 (F := Ideal) x (ix3 0 r l) = x (ix3 0 r l) := by
  unfold slab0
  refine congrArg x (funext fun a => Fin.ext ?_)
  match a with
  | ⟨0, _⟩ => rfl
  | ⟨1, _⟩ => show 0 + 1 * r.val = r.val; omega
  | ⟨2, _⟩ => show 0 + 1 * l.val = l.val; omega
theorem slab1_apply (x : FVec Ideal S2x256x128 .f32) (r : Fin 256) (l : Fin 128) : slab1 (F := Ideal) x (ix3 0 r l) = x (ix3 1 r l) := by
  unfold slab1
  refine congrArg x (funext fun a => Fin.ext ?_)
  match a with
  | ⟨0, _⟩ => rfl
  | ⟨1, _⟩ => show 0 + 1 * r.val = r.val; omega
  | ⟨2, _⟩ => show 0 + 1 * l.val = l.val; omega
theorem gate0_apply (x : FVec Ideal S256x4096 .bf16) (r : Fin 256) (n : Fin 1024) : gate0 (F := Ideal) x (ix2 r n) = x (ix2 r ⟨0 + n.val, by omega⟩) := by
  unfold gate0
  refine congrArg x (funext fun a => Fin.ext ?_)
  match a with
  | ⟨0, _⟩ => show 0 + 1 * r.val = r.val; omega
  | ⟨1, _⟩ => show 0 + 1 * n.val = 0 + n.val; omega
theorem gate1_apply (x : FVec Ideal S256x4096 .bf16) (r : Fin 256) (n : Fin 1024) : gate1 (F := Ideal) x (ix2 r n) = x (ix2 r ⟨1024 + n.val, by omega⟩) := by
  unfold gate1
  refine congrArg x (funext fun a => Fin.ext ?_)
  match a with
  | ⟨0, _⟩ => show 0 + 1 * r.val = r.val; omega
  | ⟨1, _⟩ => show 1024 + 1 * n.val = 1024 + n.val; omega
theorem gate2_apply (x : FVec Ideal S256x4096 .bf16) (r : Fin 256) (n : Fin 1024) : gate2 (F := Ideal) x (ix2 r n) = x (ix2 r ⟨2048 + n.val, by omega⟩) := by
  unfold gate2
  refine congrArg x (funext fun a => Fin.ext ?_)
  match a with
  | ⟨0, _⟩ => show 0 + 1 * r.val = r.val; omega
  | ⟨1, _⟩ => show 2048 + 1 * n.val = 2048 + n.val; omega
theorem gate3_apply (x : FVec Ideal S256x4096 .bf16) (r : Fin 256) (n : Fin 1024) : gate3 (F := Ideal) x (ix2 r n) = x (ix2 r ⟨3072 + n.val, by omega⟩) := by
  unfold gate3
  refine congrArg x (funext fun a => Fin.ext ?_)
  match a with
  | ⟨0, _⟩ => show 0 + 1 * r.val = r.val; omega
  | ⟨1, _⟩ => show 3072 + 1 * n.val = 3072 + n.val; omega

theorem cat_apply (x : FVec Ideal S2x256x128 .f32) (r : Fin 256) (j : Fin 256) :
    k0_pay4 (F := Ideal) (slab0 x) (slab1 x) (ix2 r j) = x (ix3 ⟨j.val / 128, by omega⟩ r ⟨j.val % 128, by omega⟩) := by
  have e : k0_pay4 (F := Ideal) (slab0 x) (slab1 x) (ix2 r j)
      = if h : j.val < 128 then slab0 (F := Ideal) x (ix3 0 r ⟨j.val, h⟩) else slab1 (F := Ideal) x (ix3 0 r ⟨j.val - 128, by omega⟩) := by
    generalize slab0 (F := Ideal) x = a
    generalize slab1 (F := Ideal) x = b
    pointwise [k0_pay4]
  have h1 : j.val < 256 := j.isLt
  rw [e]
  split
  · rw [slab0_apply]
    refine congrArg x (funext fun a => Fin.ext ?_)
    match a with
    | ⟨0, _⟩ => show 0 = j.val / 128; omega
    | ⟨1, _⟩ => rfl
    | ⟨2, _⟩ => show j.val = j.val % 128; omega
  · rw [slab1_apply]
    refine congrArg x (funext fun a => Fin.ext ?_)
    match a with
    | ⟨0, _⟩ => show 1 = j.val / 128; omega
    | ⟨1, _⟩ => rfl
    | ⟨2, _⟩ => show j.val - 128 = j.val % 128; omega

theorem pay5_eq (a b : Vec Ideal S1x256x128 .f32) : k0_pay5 (F := Ideal) a b = k0_pay4 a b := rfl
theorem pay6_eq (a b : Vec Ideal S1x256x128 .f32) : k0_pay6 (F := Ideal) a b = k0_pay4 a b := rfl
theorem pay7_eq (a b : Vec Ideal S1x256x128 .f32) : k0_pay7 (F := Ideal) a b = k0_pay4 a b := rfl

section Merge
variable (v8 v13 v14 v19 v24 v26 v27 : FVec Ideal S256x256 .f32) (v57 : FVec Ideal S768x1024 .bf16) (v59 : FVec Ideal S256x1024 .bf16)

/-- The three exponentials' sum. -/
def den : FVec Ideal S256x256 .f32 := addf (addf (exp v27) (exp (subf v8 v26))) (exp (subf v13 v26))

/-- The groups' outputs at their weights, side by side. -/
def wcat : FVec Ideal S256x768 .f32 :=
  concatenate S256x768 1 [⟨S256x256, mulf v14 (divf (exp v27) (den v8 v13 v26 v27))⟩, ⟨S256x256, mulf v19 (divf (exp (subf v8 v26)) (den v8 v13 v26 v27))⟩,
    ⟨S256x256, mulf v24 (divf (exp (subf v13 v26)) (den v8 v13 v26 v27))⟩] concatenates_S256x256_S256x256_S256x256_S256x768_d1

theorem pay10_apply (r : Fin 256) (n : Fin 1024) : k0_pay10 (F := Ideal) v8 v13 v14 v19 v24 v26 v27 v57 v59 (ix2 r n)
    = sgm (v59 (ix2 r n)) * ∑ k : Fin 768, wcat v8 v13 v14 v19 v24 v26 v27 (ix2 r k) * v57 (ix2 k n) := by
  have e : k0_pay10 (F := Ideal) v8 v13 v14 v19 v24 v26 v27 v57 v59
      = addf (broadcast S256x1024 (Scalar.ofBits .f32 0x00000000#32)) (mulf (logistic (extf .f32 v59 bitsLt_bf16_f32))
        (matmul dot_S256x768_S768x1024_S256x1024_1_0_0_1_n_n none (truncf .bf16 (wcat v8 v13 v14 v19 v24 v26 v27) bitsLt_bf16_f32) v57 (constant S256x1024 .f32 0x00000000#32))) := rfl
  rw [e]
  generalize wcat v8 v13 v14 v19 v24 v26 v27 = X
  pointwise [sgm, Ideal.logistic]
end Merge

section Glu
variable (v43 : FVec Ideal S768x256 .bf16) (v44 : FVec Ideal S768x768 .bf16) (v46 : FVec Ideal S768x1 .f32) (v64 : FVec Ideal S768x1024 .bf16)

/-- The gated unit's output, transposed. -/
def glu : FVec Ideal S768x256 .f32 :=
  mulf (extf .f32 v43 bitsLt_bf16_f32) (logistic (addf (matmul dot_S768x768_S768x256_S768x256_1_0_0_1_n_n none v44 v43 (constant S768x256 .f32 0x00000000#32))
    (broadcastTo S768x256 v46 broadcasts_S768x1_S768x256)))

theorem glu_apply (f : Fin 768) (r : Fin 256) : glu v43 v44 v46 (ix2 f r) = v43 (ix2 f r) * sgm ((∑ k : Fin 768, v44 (ix2 f k) * v43 (ix2 k r)) + v46 (ix2 f 0)) := by
  pointwise [glu, sgm, Ideal.logistic]

theorem pay11_apply (r : Fin 256) (n : Fin 1024) : k0_pay11 (F := Ideal) v43 v44 v46 v64 (ix2 r n) = ∑ k : Fin 768, glu v43 v44 v46 (ix2 k r) * v64 (ix2 k n) := by
  have e : k0_pay11 (F := Ideal) v43 v44 v46 v64 = matmul dot_S256x768_S768x1024_S256x1024_1_0_0_1_n_n none
      (truncf .bf16 (transpose S256x768 [1, 0] (glu v43 v44 v46) transposes_S768x256_p1_0_S256x768) bitsLt_bf16_f32) v64 (constant S256x1024 .f32 0x00000000#32) := rfl
  rw [e]
  generalize glu v43 v44 v46 = X
  pointwise []
end Glu

section Norm
variable (v55 : FVec Ideal S256x768 .bf16) (v56 : FVec Ideal S256x1024 .bf16) (v63 v65 : FVec Ideal S256x1024 .f32) (v66 : FVec Ideal S256x1024 .bf16)
  (v71 : FVec Ideal S768x1024 .bf16) (v73 : FVec Ideal S256x1024 .bf16) (v78 : FVec Ideal S1024x1024 .bf16) (v80 : FVec Ideal S256x1024 .bf16)
  (v85 : FVec Ideal S256x1024 .f32) (v89 : FVec Ideal S1024x1024 .bf16) (v92 v93 : FVec Ideal S1x1024 .f32)

/-- The four branches at their gates, added up. -/
def mrg : FVec Ideal S256x1024 .f32 :=
  addf (addf (addf v63 (mulf (logistic (extf .f32 v66 bitsLt_bf16_f32)) v65))
    (mulf (logistic (extf .f32 v73 bitsLt_bf16_f32)) (matmul dot_S256x768_S768x1024_S256x1024_1_0_0_1_n_n none v55 v71 (constant S256x1024 .f32 0x00000000#32))))
    (mulf (logistic (extf .f32 v80 bitsLt_bf16_f32)) (matmul dot_S256x1024_S1024x1024_S256x1024_1_0_0_1_n_n none v56 v78 (constant S256x1024 .f32 0x00000000#32)))

/-- The residual and the projected branches. -/
def hK (g : FVec Ideal S256x1024 .f32) : FVec Ideal S256x1024 .f32 :=
  addf (mulf (broadcast S256x1024 (Scalar.ofBits .f32 0x3FD744FD#32)) v85)
    (matmul dot_S256x1024_S1024x1024_S256x1024_1_0_0_1_n_n none (truncf .bf16 g bitsLt_bf16_f32) v89 (constant S256x1024 .f32 0x00000000#32))

/-- The rows less their means. -/
def ctrK (h : FVec Ideal S256x1024 .f32) : FVec Ideal S256x1024 .f32 :=
  subf h (broadcastTo S256x1024 (divf (shapeCast S256x1 (multiReduction .add [1] S256 h 0x00000000#32 reduces_S256x1024_S256 (.inl rfl) rfl) shapeCasts_S256_S256x1)
    (broadcast S256x1 (Scalar.ofBits .f32 0x44800000#32))) broadcasts_S256x1_S256x1024)

theorem pay12_eq : k0_pay12 (F := Ideal) v55 v56 v63 v65 v66 v71 v73 v78 v80 v85 v89 = ctrK (hK v85 v89 (mrg v55 v56 v63 v65 v66 v71 v73 v78 v80)) := rfl

theorem mrg_apply (r : Fin 256) (n : Fin 1024) : mrg v55 v56 v63 v65 v66 v71 v73 v78 v80 (ix2 r n)
    = v63 (ix2 r n) + sgm (v66 (ix2 r n)) * v65 (ix2 r n) + sgm (v73 (ix2 r n)) * (∑ k : Fin 768, v55 (ix2 r k) * v71 (ix2 k n))
      + sgm (v80 (ix2 r n)) * (∑ k : Fin 1024, v56 (ix2 r k) * v78 (ix2 k n)) := by
  pointwise [mrg, sgm, Ideal.logistic]

theorem hK_apply (g : FVec Ideal S256x1024 .f32) (r : Fin 256) (n : Fin 1024) : hK v85 v89 g (ix2 r n)
    = Ideal.ofBits .f32 0x3FD744FD#32 * v85 (ix2 r n) + ∑ k : Fin 1024, g (ix2 r k) * v89 (ix2 k n) := by
  pointwise [hK]

theorem ctrK_apply (h : FVec Ideal S256x1024 .f32) (r : Fin 256) (n : Fin 1024) : ctrK h (ix2 r n) = ctr (fun k => h (ix2 r k)) n := by
  pointwise [ctrK, ctr]

theorem pay13_apply (r : Fin 256) : k0_pay13 (F := Ideal) v55 v56 v63 v65 v66 v71 v73 v78 v80 v85 v89 (ix2 r 0)
    = ∑ k : Fin 1024, k0_pay12 (F := Ideal) v55 v56 v63 v65 v66 v71 v73 v78 v80 v85 v89 (ix2 r k) * k0_pay12 (F := Ideal) v55 v56 v63 v65 v66 v71 v73 v78 v80 v85 v89 (ix2 r k) := by
  unfold k0_pay13
  generalize k0_pay12 (F := Ideal) v55 v56 v63 v65 v66 v71 v73 v78 v80 v85 v89 = X
  pointwise []

theorem pay14_apply (v99 : FVec Ideal S256x1024 .f32) (v102 : FVec Ideal S256x1 .f32) (r : Fin 256) (n : Fin 1024) : k0_pay14 (F := Ideal) v92 v93 v99 v102 (ix2 r n)
    = v99 (ix2 r n) * Ideal.rsqrt (Ideal.div (v102 (ix2 r 0)) (Ideal.ofBits .f32 0x44800000#32) + Ideal.ofBits .f32 0x3727C5AC#32) * v92 (ix2 0 n) + v93 (ix2 0 n) := by
  pointwise [k0_pay14]

/-- The normalisation of the kernel's rows. -/
theorem norm_apply (r : Fin 256) (n : Fin 1024) :
    k0_pay14 (F := Ideal) v92 v93 (k0_pay12 v55 v56 v63 v65 v66 v71 v73 v78 v80 v85 v89) (k0_pay13 v55 v56 v63 v65 v66 v71 v73 v78 v80 v85 v89) (ix2 r n)
      = nrm (fun k => hK v85 v89 (mrg v55 v56 v63 v65 v66 v71 v73 v78 v80) (ix2 r k)) (fun k => v92 (ix2 0 k)) (fun k => v93 (ix2 0 k)) n := by
  rw [pay14_apply, pay13_apply, pay12_eq]
  simp only [ctrK_apply]
  rfl
end Norm

end Cert.Mrg

end
-- ==== Proof.MergeMatch.lean ====
/- A block of rows: what the merge's body stores of it is the reference's, row by row. -/
module

public import proofs.«01_k».proof.Proof.MergeBody

@[expose] public section

set_option maxRecDepth 16384

noncomputable section

open Idealize.ShloMosaic Idealize.ShloMosaic.TcCoe Idealize.SL.Sem
open scoped BigOperators

namespace Cert.Mrg

open Cert.MergeIdeal Cert.MergeIdeal.Gen Cert.MergeIdeal.Hand
open Cert.MergeReferenceIdeal.Read

variable (R : Fin 256 → Fin 32768)

theorem cat3 (A B C : FVec Ideal S256x256 .f32) (A' B' C' : FVec Ideal Cert.MergeReferenceIdeal.S32768x256 .f32) (hA : ∀ r j, A (ix2 r j) = A' (ix2 (R r) j))
    (hB : ∀ r j, B (ix2 r j) = B' (ix2 (R r) j)) (hC : ∀ r j, C (ix2 r j) = C' (ix2 (R r) j))
    (h' : Shape.Concatenates [Cert.MergeReferenceIdeal.S32768x256, Cert.MergeReferenceIdeal.S32768x256, Cert.MergeReferenceIdeal.S32768x256] Cert.MergeReferenceIdeal.S32768x768 1) (r : Fin 256) (k : Fin 768) :
    concatenate S256x768 1 [⟨S256x256, A⟩, ⟨S256x256, B⟩, ⟨S256x256, C⟩] concatenates_S256x256_S256x256_S256x256_S256x768_d1 (ix2 r k)
      = concatenate Cert.MergeReferenceIdeal.S32768x768 1 [⟨Cert.MergeReferenceIdeal.S32768x256, A'⟩, ⟨Cert.MergeReferenceIdeal.S32768x256, B'⟩, ⟨Cert.MergeReferenceIdeal.S32768x256, C'⟩] h' (ix2 (R r) k) := by
  pointwise []
  simp only [hA, hB, hC]

variable (x0 : FVec Ideal S256x1024 .f32) (x1 : FVec Ideal S256x256 .f32) (x2 x3 : FVec Ideal S2x256x128 .f32) (x4 : FVec Ideal S256x256 .f32) (x5 x6 : FVec Ideal S2x256x128 .f32) (x7 : FVec Ideal S768x256 .bf16) (x8 : FVec Ideal S256x768 .bf16) (x9 : FVec Ideal S256x1024 .bf16) (x10 : FVec Ideal S256x4096 .bf16)
  (x11 : FVec Ideal S768x768 .bf16) (x12 : FVec Ideal S768x1 .f32) (x13 x14 x15 : FVec Ideal S768x1024 .bf16) (x16 x17 : FVec Ideal S1024x1024 .bf16) (x18 x19 : FVec Ideal S1x1024 .f32)
  (a0 : FVec Ideal Cert.MergeReferenceIdeal.S32768x1024 .f32) (a1 : FVec Ideal Cert.MergeReferenceIdeal.S32768x256 .f32) (a2 a3 : FVec Ideal Cert.MergeReferenceIdeal.S2x32768x128 .f32) (a4 : FVec Ideal Cert.MergeReferenceIdeal.S32768x256 .f32) (a5 a6 : FVec Ideal Cert.MergeReferenceIdeal.S2x32768x128 .f32) (a7 : FVec Ideal Cert.MergeReferenceIdeal.S768x32768 .bf16) (a8 : FVec Ideal Cert.MergeReferenceIdeal.S32768x768 .bf16) (a9 : FVec Ideal Cert.MergeReferenceIdeal.S32768x1024 .bf16) (a10 : FVec Ideal Cert.MergeReferenceIdeal.S32768x9216 .bf16)

theorem cat_eq (y : FVec Ideal S2x256x128 .f32) (Y : FVec Ideal Cert.MergeReferenceIdeal.S2x32768x128 .f32) (h : ∀ p r l, y (ix3 p r l) = Y (ix3 p (R r) l)) (r : Fin 256) (j : Fin 256) :
    k0_pay4 (F := Ideal) (slab0 y) (slab1 y) (ix2 r j) = val_main_v1 (F := Ideal) Y (ix2 (R r) j) := by
  rw [cat_apply, v1_apply, h]

theorem max_eq (h4 : ∀ r j, x4 (ix2 r j) = a4 (ix2 (R r) j)) (h5 : ∀ p r l, x5 (ix3 p r l) = a5 (ix3 p (R r) l)) (h6 : ∀ p r l, x6 (ix3 p r l) = a6 (ix3 p (R r) l)) (r : Fin 256) (j : Fin 256) :
    k0_pay8 (F := Ideal) x4 (slab0 x5) (slab1 x5) (slab0 x6) (slab1 x6) (ix2 r j) = val_main_v9 (F := Ideal) a4 a5 a6 (ix2 (R r) j) := by
  have e : k0_pay8 (F := Ideal) x4 (slab0 x5) (slab1 x5) (slab0 x6) (slab1 x6) (ix2 r j)
      = max (max (x4 (ix2 r j)) (k0_pay4 (F := Ideal) (slab0 x5) (slab1 x5) (ix2 r j))) (k0_pay4 (F := Ideal) (slab0 x6) (slab1 x6) (ix2 r j)) := rfl
  rw [e, v9_apply, h4, cat_eq R x5 a5 h5, cat_eq R x6 a6 h6]

theorem wcat_eq (h1 : ∀ r j, x1 (ix2 r j) = a1 (ix2 (R r) j)) (h2 : ∀ p r l, x2 (ix3 p r l) = a2 (ix3 p (R r) l)) (h3 : ∀ p r l, x3 (ix3 p r l) = a3 (ix3 p (R r) l))
    (h4 : ∀ r j, x4 (ix2 r j) = a4 (ix2 (R r) j)) (h5 : ∀ p r l, x5 (ix3 p r l) = a5 (ix3 p (R r) l)) (h6 : ∀ p r l, x6 (ix3 p r l) = a6 (ix3 p (R r) l)) (r : Fin 256) (k : Fin 768) :
    wcat (k0_pay4 (slab0 x5) (slab1 x5)) (k0_pay5 (slab0 x6) (slab1 x6)) x1 (k0_pay6 (slab0 x2) (slab1 x2)) (k0_pay7 (slab0 x3) (slab1 x3))
      (k0_pay8 x4 (slab0 x5) (slab1 x5) (slab0 x6) (slab1 x6)) (k0_pay9 x4 (slab0 x5) (slab1 x5) (slab0 x6) (slab1 x6)) (ix2 r k)
      = val_main_v30 (F := Ideal) a1 a2 a3 a4 a5 a6 (ix2 (R r) k) := by
  have g9 : ∀ r j, k0_pay9 (F := Ideal) x4 (slab0 x5) (slab1 x5) (slab0 x6) (slab1 x6) (ix2 r j) = a4 (ix2 (R r) j) - val_main_v9 (F := Ideal) a4 a5 a6 (ix2 (R r) j) := fun r j => by
    rw [← h4, ← max_eq R x4 x5 x6 a4 a5 a6 h4 h5 h6]; rfl
  have g8 := max_eq R x4 x5 x6 a4 a5 a6 h4 h5 h6
  have g5 := cat_eq R x5 a5 h5
  have g6 := cat_eq R x6 a6 h6
  have g2 := cat_eq R x2 a2 h2
  have g3 := cat_eq R x3 a3 h3
  rw [pay5_eq, pay6_eq, pay7_eq]
  generalize k0_pay9 (F := Ideal) x4 (slab0 x5) (slab1 x5) (slab0 x6) (slab1 x6) = D at *
  generalize k0_pay8 (F := Ideal) x4 (slab0 x5) (slab1 x5) (slab0 x6) (slab1 x6) = M at *
  generalize k0_pay4 (F := Ideal) (slab0 x5) (slab1 x5) = B5 at *
  generalize k0_pay4 (F := Ideal) (slab0 x6) (slab1 x6) = B6 at *
  generalize k0_pay4 (F := Ideal) (slab0 x2) (slab1 x2) = B2 at *
  generalize k0_pay4 (F := Ideal) (slab0 x3) (slab1 x3) = B3 at *
  refine cat3 R _ _ _ (val_main_v21 (F := Ideal) a1 a4 a5 a6) (val_main_v25 (F := Ideal) a2 a4 a5 a6) (val_main_v29 (F := Ideal) a3 a4 a5 a6) (fun r j => ?_) (fun r j => ?_) (fun r j => ?_) _ r k
  · rw [v21_apply, wgt, ← h1, ← g9, ← g5, ← g6, ← g8]; rfl
  · rw [v25_apply, wgt, ← g9, ← g5, ← g6, ← g8, ← g2]; rfl
  · rw [v29_apply, wgt, ← g9, ← g5, ← g6, ← g8, ← g3]; rfl

theorem glu_eq (h7 : ∀ f r, x7 (ix2 f r) = a7 (ix2 f (R r))) (r : Fin 256) (f : Fin 768) : glu x7 x11 x12 (ix2 f r) = val_main_v47 (F := Ideal) a7 x11 x12 (ix2 (R r) f) := by
  rw [glu_apply, v47_apply]
  simp only [h7]

/-- A block's rows after the merge. -/
theorem x1of_eq (h0 : ∀ r n, x0 (ix2 r n) = a0 (ix2 (R r) n)) (h1 : ∀ r j, x1 (ix2 r j) = a1 (ix2 (R r) j)) (h2 : ∀ p r l, x2 (ix3 p r l) = a2 (ix3 p (R r) l))
    (h3 : ∀ p r l, x3 (ix3 p r l) = a3 (ix3 p (R r) l)) (h4 : ∀ r j, x4 (ix2 r j) = a4 (ix2 (R r) j)) (h5 : ∀ p r l, x5 (ix3 p r l) = a5 (ix3 p (R r) l))
    (h6 : ∀ p r l, x6 (ix3 p r l) = a6 (ix3 p (R r) l)) (h7 : ∀ f r, x7 (ix2 f r) = a7 (ix2 f (R r))) (h8 : ∀ r k, x8 (ix2 r k) = a8 (ix2 (R r) k))
    (h9 : ∀ r k, x9 (ix2 r k) = a9 (ix2 (R r) k)) (h10 : ∀ (r : Fin 256) (n : Fin 4096), x10 (ix2 r n) = a10 (ix2 (R r) ⟨n.val, by omega⟩)) (r : Fin 256) (n : Fin 1024) :
    x1of (F := Ideal) x0 x1 x2 x3 x4 x5 x6 x7 x8 x9 x10 x11 x12 x13 x14 x15 x16 x17 x18 x19 (ix2 r n)
      = val_main_v108 (F := Ideal) a0 a1 a2 a3 a4 a5 a6 a7 a8 a9 a10 x11 x12 x13 x14 x15 x16 x17 x18 x19 (ix2 (R r) n) := by
  unfold x1of
  rw [norm_apply, v108_apply]
  refine congrArg (fun h => nrm h _ _ n) (funext fun k => ?_)
  rw [hK_apply, v86_apply, h0]
  refine congrArg (_ + ·) (Finset.sum_congr rfl fun j _ => congrArg (· * _) ?_)
  have ea : yaOf (F := Ideal) x1 x2 x3 x4 x5 x6 x10 x13 (ix2 r j) = val_main_v61 (F := Ideal) a1 a2 a3 a4 a5 a6 a10 x13 (ix2 (R r) j) := by
    unfold yaOf
    rw [pay10_apply, v61_apply, gate0_apply, h10]
    simp only [wcat_eq R x1 x2 x3 x4 x5 x6 a1 a2 a3 a4 a5 a6 h1 h2 h3 h4 h5 h6]
    simp only [Nat.zero_add]
  have eb : k0_pay11 (F := Ideal) x7 x11 x12 x14 (ix2 r j) = ∑ k : Fin 768, val_main_v47 (F := Ideal) a7 x11 x12 (ix2 (R r) k) * x14 (ix2 k j) := by
    rw [pay11_apply]
    simp only [glu_eq R x7 x11 x12 a7 h7]
  have e : val_main_v79 (F := Ideal) a1 a2 a3 a4 a5 a6 a7 a8 a9 a10 x11 x12 x13 x14 x15 x16 (ix2 (R r) j)
      = val_main_v61 (F := Ideal) a1 a2 a3 a4 a5 a6 a10 x13 (ix2 (R r) j) + val_main_v66 (F := Ideal) a7 a10 x11 x12 x14 (ix2 (R r) j)
        + val_main_v72 (F := Ideal) a8 a10 x15 (ix2 (R r) j) + val_main_v78 (F := Ideal) a9 a10 x16 (ix2 (R r) j) := rfl
  rw [e, mrg_apply, ea, eb, v66_apply, v72_apply, v78_apply, gate1_apply, gate2_apply, gate3_apply]
  simp only [h8, h9, h10]

end Cert.Mrg

end
-- ==== Proof.MergeValue.lean ====
/- The merge's first result after the kernel's run is the reference's. -/
module

public import proofs.«01_k».proof.Proof.MergeMatch
public import proofs.«01_k».proof.Proof.MergeFrame
public import Idealize.ShloMosaic.Lib.Pipeline.Value
public import Idealize.ShloMosaic.Lib.Pipeline.Covers

@[expose] public section

set_option maxRecDepth 16384

noncomputable section

open Idealize.ShloMosaic Idealize.ShloMosaic.TcCoe Idealize.SL.Sem
open scoped BigOperators

namespace Cert.Mrg

open Idealize.ShloMosaic.Pipeline (Dat)
open Cert.MergeIdeal Cert.MergeIdeal.Gen Cert.MergeIdeal.Hand
open Cert.MergeReferenceIdeal.Read

variable (m : (ℓ : Loc nD τ sig) → Buf (Elt Ideal) ℓ)

/-- Where each window's block lies at a grid point. -/
theorem idx_val : ∀ t : Fin cfg0.N, win0_0.index t = ![t.val, 0]
    ∧ win0_1.index t = ![t.val, 0]
    ∧ win0_2.index t = ![0, t.val, 0]
    ∧ win0_3.index t = ![0, t.val, 0]
    ∧ win0_4.index t = ![t.val, 0]
    ∧ win0_5.index t = ![0, t.val, 0]
    ∧ win0_6.index t = ![0, t.val, 0]
    ∧ win0_7.index t = ![0, t.val]
    ∧ win0_8.index t = ![t.val, 0]
    ∧ win0_9.index t = ![t.val, 0]
    ∧ win0_10.index t = ![t.val, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_22.index t = ![t.val, 0] :=
  (by decide +kernel : ∀ t : Fin grid0.N, _)

abbrev A0 (c : Dev nD) : FVec Ideal S32768x1024 .f32 := m ((c : Thread nD τ).loc main_arg0)
abbrev A1 (c : Dev nD) : FVec Ideal S32768x256 .f32 := m ((c : Thread nD τ).loc main_arg1)
abbrev A2 (c : Dev nD) : FVec Ideal S2x32768x128 .f32 := m ((c : Thread nD τ).loc main_arg2)
abbrev A3 (c : Dev nD) : FVec Ideal S2x32768x128 .f32 := m ((c : Thread nD τ).loc main_arg3)
abbrev A4 (c : Dev nD) : FVec Ideal S32768x256 .f32 := m ((c : Thread nD τ).loc main_arg4)
abbrev A5 (c : Dev nD) : FVec Ideal S2x32768x128 .f32 := m ((c : Thread nD τ).loc main_arg5)
abbrev A6 (c : Dev nD) : FVec Ideal S2x32768x128 .f32 := m ((c : Thread nD τ).loc main_arg6)
abbrev A7 (c : Dev nD) : FVec Ideal S768x32768 .bf16 := m ((c : Thread nD τ).loc main_arg7)
abbrev A8 (c : Dev nD) : FVec Ideal S32768x768 .bf16 := m ((c : Thread nD τ).loc main_arg8)
abbrev A9 (c : Dev nD) : FVec Ideal S32768x1024 .bf16 := m ((c : Thread nD τ).loc main_arg9)
abbrev A10 (c : Dev nD) : FVec Ideal S32768x9216 .bf16 := m ((c : Thread nD τ).loc main_arg10)
abbrev A11 (c : Dev nD) : FVec Ideal S768x768 .bf16 := m ((c : Thread nD τ).loc main_arg11)
abbrev A12 (c : Dev nD) : FVec Ideal S768x1 .f32 := m ((c : Thread nD τ).loc main_arg12)
abbrev A13 (c : Dev nD) : FVec Ideal S768x1024 .bf16 := m ((c : Thread nD τ).loc main_arg13)
abbrev A14 (c : Dev nD) : FVec Ideal S768x1024 .bf16 := m ((c : Thread nD τ).loc main_arg14)
abbrev A15 (c : Dev nD) : FVec Ideal S768x1024 .bf16 := m ((c : Thread nD τ).loc main_arg15)
abbrev A16 (c : Dev nD) : FVec Ideal S1024x1024 .bf16 := m ((c : Thread nD τ).loc main_arg16)
abbrev A17 (c : Dev nD) : FVec Ideal S1024x1024 .bf16 := m ((c : Thread nD τ).loc main_arg17)
abbrev A18 (c : Dev nD) : FVec Ideal S1x1024 .f32 := m ((c : Thread nD τ).loc main_arg18)
abbrev A19 (c : Dev nD) : FVec Ideal S1x1024 .f32 := m ((c : Thread nD τ).loc main_arg19)

/-- The row of the whole that row `r` of block `t` is. -/
def rowOf (t : Nat) (ht : t < 128) (r : Fin 256) : Fin 32768 := ⟨t * 256 + r.val, by omega⟩

theorem rd0 (c : Dev nD) (t : Fin cfg0.N) (ht : t.val < 128) (r : Fin 256) (k : Fin 1024) :
    blk0 m c t (ix2 r k) = A0 m c (ix2 (rowOf t.val ht r) k) := by
  have e0 := idx_val t
  unfold blk0 iblk rowOf
  show A0 m c (((cfg0.win 0).blk t).view.emb (ix2 r k)) = _
  generalize A0 m c = A
  blk_ext [e0]

theorem rd1 (c : Dev nD) (t : Fin cfg0.N) (ht : t.val < 128) (r : Fin 256) (k : Fin 256) :
    blk1 m c t (ix2 r k) = A1 m c (ix2 (rowOf t.val ht r) k) := by
  have e0 := idx_val t
  unfold blk1 iblk rowOf
  show A1 m c (((cfg0.win 1).blk t).view.emb (ix2 r k)) = _
  generalize A1 m c = A
  blk_ext [e0]

theorem rd4 (c : Dev nD) (t : Fin cfg0.N) (ht : t.val < 128) (r : Fin 256) (k : Fin 256) :
    blk4 m c t (ix2 r k) = A4 m c (ix2 (rowOf t.val ht r) k) := by
  have e0 := idx_val t
  unfold blk4 iblk rowOf
  show A4 m c (((cfg0.win 4).blk t).view.emb (ix2 r k)) = _
  generalize A4 m c = A
  blk_ext [e0]

theorem rd8 (c : Dev nD) (t : Fin cfg0.N) (ht : t.val < 128) (r : Fin 256) (k : Fin 768) :
    blk8 m c t (ix2 r k) = A8 m c (ix2 (rowOf t.val ht r) k) := by
  have e0 := idx_val t
  unfold blk8 iblk rowOf
  show A8 m c (((cfg0.win 8).blk t).view.emb (ix2 r k)) = _
  generalize A8 m c = A
  blk_ext [e0]

theorem rd9 (c : Dev nD) (t : Fin cfg0.N) (ht : t.val < 128) (r : Fin 256) (k : Fin 1024) :
    blk9 m c t (ix2 r k) = A9 m c (ix2 (rowOf t.val ht r) k) := by
  have e0 := idx_val t
  unfold blk9 iblk rowOf
  show A9 m c (((cfg0.win 9).blk t).view.emb (ix2 r k)) = _
  generalize A9 m c = A
  blk_ext [e0]

theorem rd2 (c : Dev nD) (t : Fin cfg0.N) (ht : t.val < 128) (p : Fin 2) (r : Fin 256) (l : Fin 128) :
    blk2 m c t (ix3 p r l) = A2 m c (ix3 p (rowOf t.val ht r) l) := by
  have e0 := idx_val t
  unfold blk2 iblk rowOf
  show A2 m c (((cfg0.win 2).blk t).view.emb (ix3 p r l)) = _
  generalize A2 m c = A
  blk_ext [e0]

theorem rd3 (c : Dev nD) (t : Fin cfg0.N) (ht : t.val < 128) (p : Fin 2) (r : Fin 256) (l : Fin 128) :
    blk3 m c t (ix3 p r l) = A3 m c (ix3 p (rowOf t.val ht r) l) := by
  have e0 := idx_val t
  unfold blk3 iblk rowOf
  show A3 m c (((cfg0.win 3).blk t).view.emb (ix3 p r l)) = _
  generalize A3 m c = A
  blk_ext [e0]

theorem rd5 (c : Dev nD) (t : Fin cfg0.N) (ht : t.val < 128) (p : Fin 2) (r : Fin 256) (l : Fin 128) :
    blk5 m c t (ix3 p r l) = A5 m c (ix3 p (rowOf t.val ht r) l) := by
  have e0 := idx_val t
  unfold blk5 iblk rowOf
  show A5 m c (((cfg0.win 5).blk t).view.emb (ix3 p r l)) = _
  generalize A5 m c = A
  blk_ext [e0]

theorem rd6 (c : Dev nD) (t : Fin cfg0.N) (ht : t.val < 128) (p : Fin 2) (r : Fin 256) (l : Fin 128) :
    blk6 m c t (ix3 p r l) = A6 m c (ix3 p (rowOf t.val ht r) l) := by
  have e0 := idx_val t
  unfold blk6 iblk rowOf
  show A6 m c (((cfg0.win 6).blk t).view.emb (ix3 p r l)) = _
  generalize A6 m c = A
  blk_ext [e0]

theorem rd7 (c : Dev nD) (t : Fin cfg0.N) (ht : t.val < 128) (f : Fin 768) (r : Fin 256) :
    blk7 m c t (ix2 f r) = A7 m c (ix2 f (rowOf t.val ht r)) := by
  have e0 := idx_val t
  unfold blk7 iblk rowOf
  show A7 m c (((cfg0.win 7).blk t).view.emb (ix2 f r)) = _
  generalize A7 m c = A
  blk_ext [e0]

theorem rd10 (c : Dev nD) (t : Fin cfg0.N) (ht : t.val < 128) (r : Fin 256) (n : Fin 4096) :
    blk10 m c t (ix2 r n) = A10 m c (ix2 (rowOf t.val ht r) ⟨n.val, by omega⟩) := by
  have e0 := idx_val t
  unfold blk10 X0_10 rowOf
  unfold Pipeline.Window.fill
  rw [dif_pos (moved0_10 t _)]
  unfold iblk
  show A10 m c (((cfg0.win 10).blk t).view.emb _) = _
  generalize A10 m c = A
  blk_ext [e0]

theorem rd11 (c : Dev nD) (t : Fin cfg0.N) : blk11 m c t = A11 m c := by
  funext y
  obtain ⟨i, j, hy⟩ : ∃ (i : Fin 768) (j : Fin 768), y = ix2 i j := ⟨y 0, y 1, eq_ix2 y⟩
  rw [hy]
  have e0 := idx_val t
  unfold blk11 iblk
  show A11 m c (((cfg0.win 11).blk t).view.emb (ix2 i j)) = _
  generalize A11 m c = A
  blk_ext [e0]

theorem rd12 (c : Dev nD) (t : Fin cfg0.N) : blk12 m c t = A12 m c := by
  funext y
  obtain ⟨i, j, hy⟩ : ∃ (i : Fin 768) (j : Fin 1), y = ix2 i j := ⟨y 0, y 1, eq_ix2 y⟩
  rw [hy]
  have e0 := idx_val t
  unfold blk12 iblk
  show A12 m c (((cfg0.win 12).blk t).view.emb (ix2 i j)) = _
  generalize A12 m c = A
  blk_ext [e0]

theorem rd13 (c : Dev nD) (t : Fin cfg0.N) : blk13 m c t = A13 m c := by
  funext y
  obtain ⟨i, j, hy⟩ : ∃ (i : Fin 768) (j : Fin 1024), y = ix2 i j := ⟨y 0, y 1, eq_ix2 y⟩
  rw [hy]
  have e0 := idx_val t
  unfold blk13 iblk
  show A13 m c (((cfg0.win 13).blk t).view.emb (ix2 i j)) = _
  generalize A13 m c = A
  blk_ext [e0]

theorem rd14 (c : Dev nD) (t : Fin cfg0.N) : blk14 m c t = A14 m c := by
  funext y
  obtain ⟨i, j, hy⟩ : ∃ (i : Fin 768) (j : Fin 1024), y = ix2 i j := ⟨y 0, y 1, eq_ix2 y⟩
  rw [hy]
  have e0 := idx_val t
  unfold blk14 iblk
  show A14 m c (((cfg0.win 14).blk t).view.emb (ix2 i j)) = _
  generalize A14 m c = A
  blk_ext [e0]

theorem rd15 (c : Dev nD) (t : Fin cfg0.N) : blk15 m c t = A15 m c := by
  funext y
  obtain ⟨i, j, hy⟩ : ∃ (i : Fin 768) (j : Fin 1024), y = ix2 i j := ⟨y 0, y 1, eq_ix2 y⟩
  rw [hy]
  have e0 := idx_val t
  unfold blk15 iblk
  show A15 m c (((cfg0.win 15).blk t).view.emb (ix2 i j)) = _
  generalize A15 m c = A
  blk_ext [e0]

theorem rd16 (c : Dev nD) (t : Fin cfg0.N) : blk16 m c t = A16 m c := by
  funext y
  obtain ⟨i, j, hy⟩ : ∃ (i : Fin 1024) (j : Fin 1024), y = ix2 i j := ⟨y 0, y 1, eq_ix2 y⟩
  rw [hy]
  have e0 := idx_val t
  unfold blk16 iblk
  show A16 m c (((cfg0.win 16).blk t).view.emb (ix2 i j)) = _
  generalize A16 m c = A
  blk_ext [e0]

theorem rd17 (c : Dev nD) (t : Fin cfg0.N) : blk17 m c t = A17 m c := by
  funext y
  obtain ⟨i, j, hy⟩ : ∃ (i : Fin 1024) (j : Fin 1024), y = ix2 i j := ⟨y 0, y 1, eq_ix2 y⟩
  rw [hy]
  have e0 := idx_val t
  unfold blk17 iblk
  show A17 m c (((cfg0.win 17).blk t).view.emb (ix2 i j)) = _
  generalize A17 m c = A
  blk_ext [e0]

theorem rd18 (c : Dev nD) (t : Fin cfg0.N) : blk18 m c t = A18 m c := by
  funext y
  obtain ⟨i, j, hy⟩ : ∃ (i : Fin 1) (j : Fin 1024), y = ix2 i j := ⟨y 0, y 1, eq_ix2 y⟩
  rw [hy]
  have e0 := idx_val t
  unfold blk18 iblk
  show A18 m c (((cfg0.win 18).blk t).view.emb (ix2 i j)) = _
  generalize A18 m c = A
  blk_ext [e0]

theorem rd19 (c : Dev nD) (t : Fin cfg0.N) : blk19 m c t = A19 m c := by
  funext y
  obtain ⟨i, j, hy⟩ : ∃ (i : Fin 1) (j : Fin 1024), y = ix2 i j := ⟨y 0, y 1, eq_ix2 y⟩
  rw [hy]
  have e0 := idx_val t
  unfold blk19 iblk
  show A19 m c (((cfg0.win 19).blk t).view.emb (ix2 i j)) = _
  generalize A19 m c = A
  blk_ext [e0]

/-! ## What a grid point stores -/

theorem st22 (c : Dev nD) (t : Fin cfg0.N) (ht : t.val < 128) (r : Fin 256) (n : Fin 1024) :
    res22 m c t (ix2 r n) = val_main_v108 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (ix2 (rowOf t.val ht r) n) := by
  unfold res22
  rw [rd11, rd12, rd13, rd14, rd15, rd16, rd17, rd18, rd19]
  exact x1of_eq (rowOf t.val ht) _ _ _ _ _ _ _ _ _ _ _ _ _ _ _ _ _ _ _ _ _ _ _ _ _ _ _ _ _ _ _ (rd0 m c t ht) (rd1 m c t ht) (rd2 m c t ht) (rd3 m c t ht) (rd4 m c t ht) (rd5 m c t ht) (rd6 m c t ht) (rd7 m c t ht) (rd8 m c t ht) (rd9 m c t ht) (rd10 m c t ht) r n

/-! ## The blocks fill the result -/

theorem crd_tab : ∀ (a : Fin 128), (BitVec.ofNat 32 (grid0.coords ⟨a.val, by have : grid0.N = 128 := N_0; omega⟩ 0).val).toNat = a.val := by decide +kernel

theorem crd_of (a : Nat) (ha : a < 128) : ∃ i : grid0.Coords, (BitVec.ofNat 32 (i 0).val).toNat = a := ⟨_, crd_tab ⟨a, ha⟩⟩

theorem covers22 : (cfg0.win 22).Covers :=
  (cfg0.win 22).covers_of_indexMap_surj rfl (show ∀ a : Fin 2, 0 < S256x1024.size a by decide) fun β => by
    have h0 : (β (0 : Fin 2)).val < 128 := lt_of_lt_of_eq (β (0 : Fin 2)).isLt (show (32768 + 256 - 1) / 256 = 128 by decide)
    have h1 : (β (1 : Fin 2)).val < 1 := lt_of_lt_of_eq (β (1 : Fin 2)).isLt (show (1024 + 1024 - 1) / 1024 = 1 by decide)
    obtain ⟨i, hi⟩ := crd_of _ h0
    refine ⟨i, fun (a : Fin 2) => ?_⟩
    fin_cases a
    · exact hi
    · exact (Nat.lt_one_iff.mp h1).symm

/-! ## The result -/

theorem final_22 (c : Dev nD) : (dats m 0 c).arrAt 22 (cfgs 0).N = val_main_v108 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) := by
  refine (dats m 0 c).arrAt_eq_of_covers 22 _ covers22 fun t hf y => ?_
  have ht : t.val < 128 := Nat.lt_of_lt_of_eq t.isLt N_0
  have e0 := idx_val t
  blk_simp; rw [after0_22]
  obtain ⟨r, n, hy⟩ : ∃ (r : Fin 256) (n : Fin 1024), y = ix2 r n := ⟨y 0, y 1, eq_ix2 y⟩
  rw [hy]
  refine (st22 m c t ht r n).trans ?_
  unfold rowOf
  generalize val_main_v108 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) = X
  blk_ext [e0]

/-- The run: the first result at its computed contents, the arguments unchanged. -/
theorem run_blocks (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = (dats m 0 c).arrAt 22 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(Pipeline.Dat.toRForget_arrAt_iff (dats m 0 c) (w := 22) rfl _ _).mp ((h.1 c).1 22), h.2 c⟩)
    (θ_run_and (run_main m ρ) (unchanged m ρ))

end Cert.Mrg

end
-- ==== Proof.lean ====
/- The proof of the claims about the local-window attention, the experts, the in-projection and the branch merge: the frames, the named mask, and the value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame.Runs
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame.Runs
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Pre_experts_in_range
public import proofs.«01_k».proof.Proof.Value
public import proofs.«01_k».proof.Proof.ExpFrame
public import proofs.«01_k».proof.Proof.ExpFrameB
public import proofs.«01_k».proof.Proof.ExpTables
public import proofs.«01_k».proof.Proof.ExpValue
public import proofs.«01_k».proof.Proof.ProjFrame
public import proofs.«01_k».proof.Proof.ProjFrameB
public import proofs.«01_k».proof.Proof.ProjValue
public import proofs.«01_k».proof.Proof.MergeFrame
public import proofs.«01_k».proof.Proof.MergeFrameB
public import proofs.«01_k».proof.Proof.MergeValue
public import Idealize.ShloMosaic.Adequacy
public import Idealize.ShloMosaic.Init

@[expose] public section

noncomputable section

namespace Cert.Proof

open Idealize.ShloMosaic Idealize.SL.Sem

theorem kernel : Cert.quiescent_Kernel (hKernel := Cert.Kernel.Gen.facts) := fun m g _ => Cert.Kernel.Gen.frame m g

theorem kernelIdeal : Cert.quiescent_KernelIdeal (hKernelIdeal := Cert.KernelIdeal.Gen.facts) := fun m g _ => Cert.KernelIdeal.Gen.frame m g

theorem referenceIdeal : Cert.quiescent_ReferenceIdeal (hReferenceIdeal := Cert.ReferenceIdeal.Gen.facts) := by
  intro m g _
  exact (θ_run _ _ _).mono (fun r h => ⟨fun c => ⟨(h c).2.2.1, (h c).2.2.2⟩, sem_eq_zero_of_no_sems (by decide) r.2⟩)
    (Cert.ReferenceIdeal.Value.run m g)

theorem named : Cert.preserves_Kernel_KernelIdeal := IdealRules.named_const.statement Cert.KernelIdeal.κ "mask" .f32 0xF149F2CA#32 ⊥ rfl

theorem value : Cert.algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Value.res_main_v77 m' c, fun c => Cert.ReferenceIdeal.Value.res_main_v79 m' c, ?_, Cert.ReferenceIdeal.Value.run m' g'⟩
  refine (θ_run _ _ _).mono (fun r h c => ⟨(h c).1.trans ?_, (h c).2.1.trans ?_, (h c).2.2⟩) (Cert.KernelIdeal.Value.run_blocks m g)
  · show _ = Cert.ReferenceIdeal.Value.res_main_v77 m' c
    rw [Cert.ReferenceIdeal.Read.val_main_v77_eq, (hm c).1, (hm c).2]
    exact Cert.Win.Value.final_8 m c
  · show _ = Cert.ReferenceIdeal.Value.res_main_v79 m' c
    rw [Cert.ReferenceIdeal.Read.val_main_v79_eq, (hm c).1, (hm c).2]
    exact Cert.Win.Value.final_9 m c

theorem experts : Cert.quiescent_Experts (hExperts := Cert.Experts.Gen.facts) (hPre_experts_in_range := Cert.Pre_experts_in_range.Gen.facts) := fun m g h =>
  Cert.Experts.Hand.frame (Cert.Experts.Hand.tabOf m h) m g (Cert.Experts.Hand.pinned_tabOf m h)

theorem expertsIdeal : Cert.quiescent_ExpertsIdeal (hExpertsIdeal := Cert.ExpertsIdeal.Gen.facts) (hPre_experts_in_range := Cert.Pre_experts_in_range.Gen.facts) := fun m g h =>
  Cert.ExpertsIdeal.Hand.frame (Cert.ExpertsIdeal.Hand.tabOf m h) m g (Cert.ExpertsIdeal.Hand.pinned_tabOf m h)

theorem expertsReferenceIdeal : Cert.quiescent_ExpertsReferenceIdeal (hExpertsReferenceIdeal := Cert.ExpertsReferenceIdeal.Gen.facts) (hPre_experts_in_range := Cert.Pre_experts_in_range.Gen.facts) := by
  intro m g _
  exact (θ_run _ _ _).mono (fun r h => ⟨fun c => (h c).2, sem_eq_zero_of_no_sems (by decide) r.2⟩)
    (Cert.ExpertsReferenceIdeal.Value.run m g)

theorem value2 : Cert.algebraic_ExpertsIdeal_ExpertsReferenceIdeal (hExpertsIdeal := Cert.ExpertsIdeal.Gen.facts) (hExpertsReferenceIdeal := Cert.ExpertsReferenceIdeal.Gen.facts) (hPre_experts_in_range := Cert.Pre_experts_in_range.Gen.facts) := by
  intro m g m' g' hp hm
  refine ⟨fun c => Cert.ExpertsReferenceIdeal.Value.res_main_v64 m' c, ?_, Cert.ExpertsReferenceIdeal.Value.run m' g'⟩
  refine (θ_run _ _ _).mono (fun r h c => ⟨(h c).1.trans ?_, (h c).2⟩) (Cert.ExpertsIdeal.Hand.unchanged (Cert.ExpertsIdeal.Hand.tabOf m hp) m g (Cert.ExpertsIdeal.Hand.pinned_tabOf m hp))
  show _ = Cert.ExpertsReferenceIdeal.Value.res_main_v64 m' c
  rw [Cert.ExpertsReferenceIdeal.Read.val_main_v64_eq, (hm c).1, (hm c).2.1, (hm c).2.2.1, (hm c).2.2.2.1, (hm c).2.2.2.2.1, (hm c).2.2.2.2.2.1, (hm c).2.2.2.2.2.2]
  rw [show c = (0 : Dev Cert.ExpertsIdeal.nD) from Subsingleton.elim _ _]
  exact Cert.Exp.final_5 (Cert.ExpertsIdeal.Hand.tabOf m hp) m g 0

theorem inProj : Cert.quiescent_InProj (hInProj := Cert.InProj.Gen.facts) := fun m g _ => Cert.InProj.Hand.frame m g

theorem inProjIdeal : Cert.quiescent_InProjIdeal (hInProjIdeal := Cert.InProjIdeal.Gen.facts) := fun m g _ => Cert.InProjIdeal.Hand.frame m g

theorem inProjReferenceIdeal : Cert.quiescent_InProjReferenceIdeal (hInProjReferenceIdeal := Cert.InProjReferenceIdeal.Gen.facts) := by
  intro m g _
  exact (θ_run _ _ _).mono (fun r h => ⟨fun c => (h c).2.2.2, sem_eq_zero_of_no_sems (by decide) r.2⟩)
    (Cert.InProjReferenceIdeal.Value.run m g)

theorem value3 : Cert.algebraic_InProjIdeal_InProjReferenceIdeal (hInProjIdeal := Cert.InProjIdeal.Gen.facts) (hInProjReferenceIdeal := Cert.InProjReferenceIdeal.Gen.facts) := by
  intro m g m' g' _ hm
  refine ⟨fun c => Cert.InProjReferenceIdeal.Read.val_main_v4 (F := Ideal) (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg1)),
    fun c => Cert.InProjReferenceIdeal.Read.val_main_v9 (F := Ideal) (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg2)),
    fun c => Cert.InProjReferenceIdeal.Read.val_main_v13 (F := Ideal) (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg3)), ?_,
    (θ_run _ _ _).mono (fun r h c => ⟨(h c).1.trans (Cert.InProjReferenceIdeal.Read.val_main_v4_eq _ _), (h c).2.1.trans (Cert.InProjReferenceIdeal.Read.val_main_v9_eq _ _),
      (h c).2.2.1.trans (Cert.InProjReferenceIdeal.Read.val_main_v13_eq _ _), (h c).2.2.2⟩) (Cert.InProjReferenceIdeal.Value.run m' g')⟩
  refine (θ_run _ _ _).mono (fun r h c => ⟨(h c).1.trans ?_, (h c).2.1.trans ?_, (h c).2.2.1.trans ?_, (h c).2.2.2⟩) (Cert.Proj.run_blocks m g)
  · show _ = Cert.InProjReferenceIdeal.Read.val_main_v4 (F := Ideal) _ _
    rw [(hm c).1, (hm c).2.1]
    exact Cert.Proj.final_4 m c
  · show _ = Cert.InProjReferenceIdeal.Read.val_main_v9 (F := Ideal) _ _
    rw [(hm c).1, (hm c).2.2.1]
    exact Cert.Proj.final_5 m c
  · show _ = Cert.InProjReferenceIdeal.Read.val_main_v13 (F := Ideal) _ _
    rw [(hm c).1, (hm c).2.2.2]
    exact Cert.Proj.final_6 m c

theorem merge : Cert.quiescent_Merge (hMerge := Cert.Merge.Gen.facts) := fun m g _ => Cert.Merge.Hand.frame m g

theorem mergeIdeal : Cert.quiescent_MergeIdeal (hMergeIdeal := Cert.MergeIdeal.Gen.facts) := fun m g _ => Cert.MergeIdeal.Hand.frame m g

theorem mergeReferenceIdeal : Cert.quiescent_MergeReferenceIdeal (hMergeReferenceIdeal := Cert.MergeReferenceIdeal.Gen.facts) := by
  intro m g _
  exact (θ_run _ _ _).mono (fun r h => ⟨fun c => (h c).2, sem_eq_zero_of_no_sems (by decide) r.2⟩)
    (Cert.MergeReferenceIdeal.Value.run m g)

theorem value4 : Cert.algebraic_MergeIdeal_MergeReferenceIdeal (hMergeIdeal := Cert.MergeIdeal.Gen.facts) (hMergeReferenceIdeal := Cert.MergeReferenceIdeal.Gen.facts) := by
  intro m g m' g' _ hm
  refine ⟨fun c => Cert.MergeReferenceIdeal.Read.val_main_v108 (F := Ideal) (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8)) (m' ((c.tc : Thread Cert.MergeReferenceIdeal.nD Cert.MergeReferenceIdeal.τ).loc Cert.MergeReferenceIdeal.main_arg9)) (m' ((c.tc : Thread Cert.MergeReferenceIdeal.nD Cert.MergeReferenceIdeal.τ).loc Cert.MergeReferenceIdeal.main_arg10)) (m' ((c.tc : Thread Cert.MergeReferenceIdeal.nD Cert.MergeReferenceIdeal.τ).loc Cert.MergeReferenceIdeal.main_arg11)) (m' ((c.tc : Thread Cert.MergeReferenceIdeal.nD Cert.MergeReferenceIdeal.τ).loc Cert.MergeReferenceIdeal.main_arg12)) (m' ((c.tc : Thread Cert.MergeReferenceIdeal.nD Cert.MergeReferenceIdeal.τ).loc Cert.MergeReferenceIdeal.main_arg13)) (m' ((c.tc : Thread Cert.MergeReferenceIdeal.nD Cert.MergeReferenceIdeal.τ).loc Cert.MergeReferenceIdeal.main_arg14)) (m' ((c.tc : Thread Cert.MergeReferenceIdeal.nD Cert.MergeReferenceIdeal.τ).loc Cert.MergeReferenceIdeal.main_arg15)) (m' ((c.tc : Thread Cert.MergeReferenceIdeal.nD Cert.MergeReferenceIdeal.τ).loc Cert.MergeReferenceIdeal.main_arg16)) (m' ((c.tc : Thread Cert.MergeReferenceIdeal.nD Cert.MergeReferenceIdeal.τ).loc Cert.MergeReferenceIdeal.main_arg17)) (m' ((c.tc : Thread Cert.MergeReferenceIdeal.nD Cert.MergeReferenceIdeal.τ).loc Cert.MergeReferenceIdeal.main_arg18)) (m' ((c.tc : Thread Cert.MergeReferenceIdeal.nD Cert.MergeReferenceIdeal.τ).loc Cert.MergeReferenceIdeal.main_arg19)), ?_,
    (θ_run _ _ _).mono (fun r h c => ⟨(h c).1.trans (Cert.MergeReferenceIdeal.Read.val_main_v108_eq _ _), (h c).2⟩) (Cert.MergeReferenceIdeal.Value.run m' g')⟩
  refine (θ_run _ _ _).mono (fun r h c => ⟨(h c).1.trans ?_, (h c).2⟩) (Cert.Mrg.run_blocks m g)
  show _ = Cert.MergeReferenceIdeal.Read.val_main_v108 (F := Ideal) _ _ _ _ _ _ _ _ _ _ _ _ _ _ _ _ _ _ _ _
  rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1, (hm c).2.2.2.2.2.2.2.2.2.2.2.2.2.2.2.1, (hm c).2.2.2.2.2.2.2.2.2.2.2.2.2.2.2.2.1, (hm c).2.2.2.2.2.2.2.2.2.2.2.2.2.2.2.2.2.1, (hm c).2.2.2.2.2.2.2.2.2.2.2.2.2.2.2.2.2.2.1, (hm c).2.2.2.2.2.2.2.2.2.2.2.2.2.2.2.2.2.2.2.1]
  exact Cert.Mrg.final_22 m c

theorem claim : Cert.Claim := ⟨Cert.Kernel.Gen.facts, Cert.KernelIdeal.Gen.facts, Cert.ReferenceIdeal.Gen.facts, Cert.Experts.Gen.facts, Cert.ExpertsIdeal.Gen.facts, Cert.ExpertsReferenceIdeal.Gen.facts,
  Cert.InProj.Gen.facts, Cert.InProjIdeal.Gen.facts, Cert.InProjReferenceIdeal.Gen.facts,
  Cert.Merge.Gen.facts, Cert.MergeIdeal.Gen.facts, Cert.MergeReferenceIdeal.Gen.facts, Cert.Pre_experts_in_range.Gen.facts,
  kernel, kernelIdeal, referenceIdeal, experts, expertsIdeal, expertsReferenceIdeal, inProj, inProjIdeal, inProjReferenceIdeal, merge, mergeIdeal, mergeReferenceIdeal, named, value, trivial, value2, trivial, value3, trivial, value4⟩

end Cert.Proof

end
